-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_experts_in_range : Cert.Pre_experts_in_range.Facts] (m : (ℓ : Loc Cert.Kernel5.nD Cert.Kernel5.τ Cert.Kernel5.sig) → Buf (Elt Bits) ℓ) : Prop :=
  ∀ c : Dev Cert.Kernel5.nD,
    (Cert.Pre_experts_in_range.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))) = (fun _ => 1#1)

def Pre_Kernel5Ideal [hPre_experts_in_range : Cert.Pre_experts_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_experts_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_experts_in_range [hPre_experts_in_range : Cert.Pre_experts_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_experts_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] [hPre_experts_in_range : Cert.Pre_experts_in_range.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_experts_in_range : Cert.Pre_experts_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_experts_in_range [hReference5Ideal : Cert.Reference5Ideal.Facts] [hPre_experts_in_range : Cert.Pre_experts_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_experts_in_range m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v83_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] [hPre_experts_in_range : Cert.Pre_experts_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v134) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v17_0)) (v1 : (c : Dev Cert.Kernel6Ideal.nD) → Buf (Elt Ideal) ((c.tc : Thread Cert.Kernel6Ideal.nD Cert.Kernel6Ideal.τ).loc Cert.Kernel6Ideal.main_v17_1)) (v2 : (c : Dev Cert.Kernel6Ideal.nD) → Buf (Elt Ideal) ((c.tc : Thread Cert.Kernel6Ideal.nD Cert.Kernel6Ideal.τ).loc Cert.Kernel6Ideal.main_v17_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17_0) = v0 c
          ∧ r.2.mem ((c.tc : Thread Cert.Kernel6Ideal.nD Cert.Kernel6Ideal.τ).loc Cert.Kernel6Ideal.main_v17_1) = v1 c
          ∧ r.2.mem ((c.tc : Thread Cert.Kernel6Ideal.nD Cert.Kernel6Ideal.τ).loc Cert.Kernel6Ideal.main_v17_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v32) = v1 c
          ∧ r.2.mem ((c.tc : Thread Cert.Reference6Ideal.nD Cert.Reference6Ideal.τ).loc Cert.Reference6Ideal.main_v33) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_experts_in_range : Cert.Pre_experts_in_range.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_experts_in_range := hPre_experts_in_range)
    ∧ quiescent_Kernel5Ideal (hKernel5Ideal := hKernel5Ideal) (hPre_experts_in_range := hPre_experts_in_range)
    ∧ quiescent_Reference5Ideal (hReference5Ideal := hReference5Ideal)
    ∧ quiescent_Reference5Ideal_pre_experts_in_range (hReference5Ideal := hReference5Ideal) (hPre_experts_in_range := hPre_experts_in_range)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_experts_in_range := hPre_experts_in_range)
    ∧ preserves_Kernel6_Kernel6Ideal
    ∧ algebraic_Kernel6Ideal_Reference6Ideal_pre_finite (hKernel6Ideal := hKernel6Ideal) (hReference6Ideal := hReference6Ideal) (hPre_finite := hPre_finite)
-- ==== Pre_experts_in_range.lean ====
abbrev S73 : Shape := ⟨1, ![73]⟩
abbrev S37376x1024 : Shape := ⟨2, ![37376, 1024]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S73 : S_.BroadcastsInDim S73 (![] : Fin 0 → Fin S73.rank)
  reducesTo_S73_S_d0 : S73.ReducesTo [0] S_
  h_S_ : 0 < S_.numel

variable [Facts]

def fn {F : FTy → Type} [FloatOps F] (main_arg0 : IVec S73 32) (main_arg1 : IVec S73 32) (main_arg2 : FVec F S37376x1024 .f32) (main_arg3 : FVec F S8x1024x2816 .f32) (main_arg4 : FVec F S8x1024x2816 .f32) (main_arg5 : FVec F S8x2816x1024 .f32) : IVec S_ 1 :=
  let main_c : IVec S_ 32 := constantI S_ 32 0#32
  let main_v0 : IVec S73 32 := broadcastInDim S73 ![] bcast_S_S73 main_c
  let main_v1 : IVec S73 1 := cmpi .sge main_arg0 main_v0
  let main_c_0 : IVec S_ 32 := constantI S_ 32 8#32
  let main_v2 : IVec S73 32 := broadcastInDim S73 ![] bcast_S_S73 main_c_0
  let main_v3 : IVec S73 1 := cmpi .slt main_arg0 main_v2
  let main_v4 : IVec S73 1 := andi main_v1 main_v3
  let main_c_1 : IVec S_ 1 := constantI S_ 1 1#1
  let main_v5 : IVec S_ 1 := (fun x v => Host.reduce IntOp.andi x v reducesTo_S73_S_d0 h_S_) main_v4 main_c_1
  main_v5
-- ==== Pre_finite.lean ====
abbrev S16416x5632 : Shape := ⟨2, ![16416, 5632]⟩
abbrev S64 : Shape := ⟨1, ![64]⟩
abbrev S32x1024 : Shape := ⟨2, ![32, 1024]⟩
abbrev S_ : Shape := ⟨0, ![]⟩

class Facts : Prop where
  slices_S16416x5632_S32x1024_16384_2048 : S16416x5632.Slices ![16384, 2048] S32x1024
  bcast_S_S32x1024 : S_.BroadcastsInDim S32x1024 (![] : Fin 0 → Fin S32x1024.rank)
  reducesTo_S32x1024_S_d0_1 : S32x1024.ReducesTo [0, 1] S_
  h_S_ : 0 < S_.numel

variable [Facts]

def fn {F : FTy → Type} [FloatOps F] (main_arg0 : FVec F S16416x5632 .f32) (main_arg1 : FVec F S64 .f32) (main_arg2 : FVec F S64 .f32) : IVec S_ 1 :=
  let main_v0 : FVec F S32x1024 .f32 := (extractStridedSlice S32x1024 ![16384, 2048] · slices_S16416x5632_S32x1024_16384_2048) main_arg0
  let main_v1 : FVec F S32x1024 .f32 := Host.absf main_v0
  let main_cst : FVec F S_ .f32 := constant S_ .f32 0x7F800000#32
  let main_v2 : FVec F S32x1024 .f32 := broadcastInDim S32x1024 ![] bcast_S_S32x1024 main_cst
  let main_v3 : IVec S32x1024 1 := cmpf .olt main_v1 main_v2
  let main_c : IVec S_ 1 := constantI S_ 1 1#1
  let main_v4 : IVec S_ 1 := (fun x v => Host.reduce IntOp.andi x v reducesTo_S32x1024_S_d0_1 h_S_) main_v3 main_c
  main_v4
-- ==== Kernel.lean ====
abbrev S16416x5632 : Shape := ⟨2, ![16416, 5632]⟩
abbrev S512 : Shape := ⟨1, ![512]⟩
abbrev S128 : Shape := ⟨1, ![128]⟩
abbrev S1x512 : Shape := ⟨2, ![1, 512]⟩
abbrev S1x128 : Shape := ⟨2, ![1, 128]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S16384x512 : Shape := ⟨2, ![16384, 512]⟩
abbrev S2x4x128x128 : Shape := ⟨4, ![2, 4, 128, 128]⟩
abbrev S256x512 : Shape := ⟨2, ![256, 512]⟩
abbrev S1x4x128x128 : Shape := ⟨4, ![1, 4, 128, 128]⟩
abbrev S4x128x128 : Shape := ⟨3, ![4, 128, 128]⟩
abbrev S256x128 : Shape := ⟨2, ![256, 128]⟩
abbrev S16x16x128 : Shape := ⟨3, ![16, 16, 128]⟩
abbrev S16x1x128 : Shape := ⟨3, ![16, 1, 128]⟩
abbrev S1x128x128 : Shape := ⟨3, ![1, 128, 128]⟩
abbrev S128x128 : Shape := ⟨2, ![128, 128]⟩
abbrev S16x128 : Shape := ⟨2, ![16, 128]⟩
abbrev S1x1x128x128 : Shape := ⟨4, ![1, 1, 128, 128]⟩

abbrev nBuf : Space → Nat
  | .hbm => 56
  | .vmem => 17
  | .smem => 0
  | _ => 0

abbrev bufTy : (tb : Table) → Fin (tcTables nBuf tb) → BufTy
  | .hbm, ⟨0, _⟩ => ⟨S16416x5632, .f32⟩
  | .hbm, ⟨1, _⟩ => ⟨S512, .f32⟩
  | .hbm, ⟨2, _⟩ => ⟨S128, .f32⟩
  | .hbm, ⟨3, _⟩ => ⟨S1x512, .f32⟩
  | .hbm, ⟨4, _⟩ => ⟨S1x128, .f32⟩
  | .hbm, ⟨5, _⟩ => ⟨S256, .i32⟩
  | .hbm, ⟨6, _⟩ => ⟨S256x1, .i32⟩
  | .hbm, ⟨7, _⟩ => ⟨S_, .i32⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S256x1, .i32⟩
  | .hbm, ⟨12, _⟩ => ⟨S_, .i32⟩
  | .hbm, ⟨13, _⟩ => ⟨S256x1, .i32⟩
  | .hbm, ⟨14, _⟩ => ⟨S256x1, .i1⟩
  | .hbm, ⟨15, _⟩ => ⟨S256x1, .i32⟩
  | .hbm, ⟨16, _⟩ => ⟨S256x1, .i32⟩
  | .hbm, ⟨17, _⟩ => ⟨S_, .i32⟩
  | .hbm, ⟨18, _⟩ => ⟨S256x1, .i32⟩
  | .hbm, ⟨19, _⟩ => ⟨S256x1, .i1⟩
  | .hbm, ⟨20, _⟩ => ⟨S256x1, .i1⟩
  | .hbm, ⟨21, _⟩ => ⟨S_, .i32⟩
  | .hbm, ⟨22, _⟩ => ⟨S256x1, .i32⟩
  | .hbm, ⟨23, _⟩ => ⟨S256x1, .i32⟩
  | .hbm, ⟨24, _⟩ => ⟨S256x1, .i32⟩
  | .hbm, ⟨25, _⟩ => ⟨S1x256, .i32⟩
  | .hbm, ⟨26, _⟩ => ⟨S_, .i32⟩
  | .hbm, ⟨27, _⟩ => ⟨S_, .i32⟩
  | .hbm, ⟨28, _⟩ => ⟨S1x256, .i32⟩
  | .hbm, ⟨29, _⟩ => ⟨S1x256, .i32⟩
  | .hbm, ⟨30, _⟩ => ⟨S1x256, .i32⟩
  | .hbm, ⟨31, _⟩ => ⟨S_, .i32⟩
  | .hbm, ⟨32, _⟩ => ⟨S1x256, .i32⟩
  | .hbm, ⟨33, _⟩ => ⟨S1x256, .i1⟩
  | .hbm, ⟨34, _⟩ => ⟨S1x256, .i32⟩
  | .hbm, ⟨35, _⟩ => ⟨S1x256, .i32⟩
  | .hbm, ⟨36, _⟩ => ⟨S_, .i32⟩
  | .hbm, ⟨37, _⟩ => ⟨S1x256, .i32⟩
  | .hbm, ⟨38, _⟩ => ⟨S1x256, .i1⟩
  | .hbm, ⟨39, _⟩ => ⟨S1x256, .i1⟩
  | .hbm, ⟨40, _⟩ => ⟨S_, .i32⟩
  | .hbm, ⟨41, _⟩ => ⟨S1x256, .i32⟩
  | .hbm, ⟨42, _⟩ => ⟨S1x256, .i32⟩
  | .hbm, ⟨43, _⟩ => ⟨S1x256, .i32⟩
  | .hbm, ⟨44, _⟩ => ⟨S256x256, .i32⟩
  | .hbm, ⟨45, _⟩ => ⟨S256x256, .i32⟩
  | .hbm, ⟨46, _⟩ => ⟨S256x256, .i1⟩
  | .hbm, ⟨47, _⟩ => ⟨S1x256, .i32⟩
  | .hbm, ⟨48, _⟩ => ⟨S256x1, .i32⟩
  | .hbm, ⟨49, _⟩ => ⟨S256x256, .i32⟩
  | .hbm, ⟨50, _⟩ => ⟨S256x256, .i32⟩
  | .hbm, ⟨51, _⟩ => ⟨S256x256, .i1⟩
  | .hbm, ⟨52, _⟩ => ⟨S256x256, .i1⟩
  | .hbm, ⟨53, _⟩ => ⟨S256x256, .bf16⟩
  | .hbm, ⟨54, _⟩ => ⟨S16384x512, .f32⟩
  | .hbm, ⟨55, _⟩ => ⟨S2x4x128x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x128, .f32⟩
  | .local _ .vmem, ⟨10, _⟩ => ⟨S256x256, .bf16⟩
  | .local _ .vmem, ⟨11, _⟩ => ⟨S256x512, .f32⟩
  | .local _ .vmem, ⟨12, _⟩ => ⟨S256x512, .f32⟩
  | .local _ .vmem, ⟨13, _⟩ => ⟨S1x4x128x128, .f32⟩
  | .local _ .vmem, ⟨14, _⟩ => ⟨S1x4x128x128, .f32⟩
  | .local _ .vmem, ⟨15, _⟩ => ⟨S4x128x128, .f32⟩
  | .local _ .vmem, ⟨16, _⟩ => ⟨S256x512, .f32⟩
  | _, _ => ⟨S16416x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17_0 : Ref sig .tc := ⟨.hbm, 54, rfl⟩
abbrev main_v17_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v1263 : BitVec 1 := Scalar.cmpi .eq arg1 c31_i32
  let v1264 : BitVec 32 := Scalar.extui v1263
  let c0_i32_403 : BitVec 32 := 0#32
  let v1265 : BitVec 1 := Scalar.cmpi .ne v1264 c0_i32_403
  v1265

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S16416x5632 : Shape := ⟨2, ![16416, 5632]⟩
abbrev S512 : Shape := ⟨1, ![512]⟩
abbrev S128 : Shape := ⟨1, ![128]⟩
abbrev S16384x5632 : Shape := ⟨2, ![16384, 5632]⟩
abbrev S2x8192x5632 : Shape := ⟨3, ![2, 8192, 5632]⟩
abbrev S2x8192x512 : Shape := ⟨3, ![2, 8192, 512]⟩
abbrev S_ : Shape := ⟨0, ![]⟩
abbrev S1x1x512 : Shape := ⟨3, ![1, 1, 512]⟩
abbrev S2x8192x4x128 : Shape := ⟨4, ![2, 8192, 4, 128]⟩
abbrev S2x4x128x128 : Shape := ⟨4, ![2, 4, 128, 128]⟩
abbrev S2x512x16x4x128 : Shape := ⟨5, ![2, 512, 16, 4, 128]⟩
abbrev S512x2x4x16x128 : Shape := ⟨5, ![512, 2, 4, 16, 128]⟩
abbrev S512x2x4x1x128 : Shape := ⟨5, ![512, 2, 4, 1, 128]⟩
abbrev S16x16 : Shape := ⟨2, ![16, 16]⟩
abbrev S512x2x4x16x16 : Shape := ⟨5, ![512, 2, 4, 16, 16]⟩
abbrev S512x2x4x128 : Shape := ⟨4, ![512, 2, 4, 128]⟩
abbrev S1x2x4x16x128 : Shape := ⟨5, ![1, 2, 4, 16, 128]⟩
abbrev S2x4x16x128 : Shape := ⟨4, ![2, 4, 16, 128]⟩
abbrev S1x2x4x128 : Shape := ⟨4, ![1, 2, 4, 128]⟩
abbrev S2x4x128 : Shape := ⟨3, ![2, 4, 128]⟩
abbrev S2x4x128x1 : Shape := ⟨4, ![2, 4, 128, 1]⟩
abbrev S16384x512 : Shape := ⟨2, ![16384, 512]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 194
  | .vmem => 0
  | .smem => 0
  | _ => 0

abbrev hbmTy0_0 (i : Nat) : BufTy := match i % 128 with
  | 0 => ⟨S16416x5632, .f32⟩
  | 1 => ⟨S512, .f32⟩
  | 2 => ⟨S128, .f32⟩
  | 3 => ⟨S16384x5632, .f32⟩
  | 4 => ⟨S2x8192x5632, .f32⟩
  | 5 => ⟨S2x8192x512, .f32⟩
  | 6 => ⟨S2x8192x512, .f32⟩
  | 7 => ⟨S2x8192x512, .f32⟩
  | 8 => ⟨S512, .f32⟩
  | 9 => ⟨S512, .f32⟩
  | 10 => ⟨S512, .f32⟩
  | 11 => ⟨S2x8192x512, .f32⟩
  | 12 => ⟨S_, .f32⟩
  | 13 => ⟨S2x8192x512, .f32⟩
  | 14 => ⟨S2x8192x512, .f32⟩
  | 15 => ⟨S2x8192x512, .f32⟩
  | 16 => ⟨S2x8192x512, .f32⟩
  | 17 => ⟨S2x8192x512, .i1⟩
  | 18 => ⟨S2x8192x512, .f32⟩
  | 19 => ⟨S2x8192x512, .f32⟩
  | 20 => ⟨S2x8192x512, .f32⟩
  | 21 => ⟨S2x8192x512, .f32⟩
  | 22 => ⟨S2x8192x512, .f32⟩
  | 23 => ⟨S2x8192x512, .f32⟩
  | 24 => ⟨S2x8192x512, .f32⟩
  | 25 => ⟨S2x8192x512, .f32⟩
  | 26 => ⟨S1x1x512, .f32⟩
  | 27 => ⟨S2x8192x512, .f32⟩
  | 28 => ⟨S2x8192x512, .f32⟩
  | 29 => ⟨S1x1x512, .f32⟩
  | 30 => ⟨S2x8192x512, .f32⟩
  | 31 => ⟨S2x8192x512, .f32⟩
  | 32 => ⟨S2x8192x512, .f32⟩
  | 33 => ⟨S2x8192x512, .f32⟩
  | 34 => ⟨S2x8192x512, .i1⟩
  | 35 => ⟨S2x8192x512, .f32⟩
  | 36 => ⟨S2x8192x512, .f32⟩
  | 37 => ⟨S2x8192x512, .f32⟩
  | 38 => ⟨S2x8192x512, .f32⟩
  | 39 => ⟨S2x8192x512, .f32⟩
  | 40 => ⟨S2x8192x512, .f32⟩
  | 41 => ⟨S2x8192x512, .f32⟩
  | 42 => ⟨S2x8192x512, .f32⟩
  | 43 => ⟨S_, .f32⟩
  | 44 => ⟨S512, .f32⟩
  | 45 => ⟨S512, .f32⟩
  | 46 => ⟨S2x8192x512, .f32⟩
  | 47 => ⟨S2x8192x512, .f32⟩
  | 48 => ⟨S2x8192x512, .f32⟩
  | 49 => ⟨S_, .f32⟩
  | 50 => ⟨S2x8192x512, .f32⟩
  | 51 => ⟨S2x8192x512, .f32⟩
  | 52 => ⟨S_, .f32⟩
  | 53 => ⟨S2x8192x512, .f32⟩
  | 54 => ⟨S2x8192x512, .f32⟩
  | 55 => ⟨S1x1x512, .f32⟩
  | 56 => ⟨S2x8192x512, .f32⟩
  | 57 => ⟨S2x8192x512, .f32⟩
  | 58 => ⟨S2x8192x4x128, .f32⟩
  | 59 => ⟨S2x8192x4x128, .f32⟩
  | 60 => ⟨S2x8192x4x128, .f32⟩
  | 61 => ⟨S2x8192x4x128, .f32⟩
  | 62 => ⟨S_, .f32⟩
  | 63 => ⟨S2x4x128x128, .f32⟩
  | 64 => ⟨S2x512x16x4x128, .f32⟩
  | 65 => ⟨S512x2x4x16x128, .f32⟩
  | 66 => ⟨S2x512x16x4x128, .f32⟩
  | 67 => ⟨S512x2x4x16x128, .f32⟩
  | 68 => ⟨S2x512x16x4x128, .f32⟩
  | 69 => ⟨S512x2x4x16x128, .f32⟩
  | 70 => ⟨S2x512x16x4x128, .f32⟩
  | 71 => ⟨S512x2x4x16x128, .f32⟩
  | 72 => ⟨S_, .f32⟩
  | 73 => ⟨S_, .f32⟩
  | 74 => ⟨S512x2x4x16x128, .f32⟩
  | 75 => ⟨S512x2x4x1x128, .f32⟩
  | 76 => ⟨S512x2x4x16x128, .f32⟩
  | 77 => ⟨S512x2x4x16x128, .f32⟩
  | 78 => ⟨S512x2x4x16x128, .f32⟩
  | 79 => ⟨S512x2x4x16x128, .f32⟩
  | 80 => ⟨S512x2x4x16x128, .f32⟩
  | 81 => ⟨S512x2x4x16x128, .f32⟩
  | 82 => ⟨S512x2x4x16x128, .f32⟩
  | 83 => ⟨S512x2x4x16x128, .f32⟩
  | 84 => ⟨S512x2x4x16x128, .f32⟩
  | 85 => ⟨S_, .i1⟩
  | 86 => ⟨S16x16, .i1⟩
  | 87 => ⟨S16x16, .i32⟩
  | 88 => ⟨S_, .i32⟩
  | 89 => ⟨S16x16, .i32⟩
  | 90 => ⟨S16x16, .i32⟩
  | 91 => ⟨S16x16, .i32⟩
  | 92 => ⟨S16x16, .i1⟩
  | 93 => ⟨S_, .i1⟩
  | 94 => ⟨S16x16, .i1⟩
  | 95 => ⟨S16x16, .i1⟩
  | 96 => ⟨S512x2x4x16x16, .f32⟩
  | 97 => ⟨S_, .f32⟩
  | 98 => ⟨S_, .f32⟩
  | 99 => ⟨S512x2x4x16x16, .i1⟩
  | 100 => ⟨S512x2x4x16x16, .f32⟩
  | 101 => ⟨S512x2x4x16x16, .f32⟩
  | 102 => ⟨S512x2x4x16x128, .f32⟩
  | 103 => ⟨S512x2x4x128, .f32⟩
  | 104 => ⟨S512x2x4x128, .f32⟩
  | 105 => ⟨S_, .f32⟩
  | 106 => ⟨S512x2x4x16x128, .f32⟩
  | 107 => ⟨S_, .i32⟩
  | 108 => ⟨S512x2x4x16x128, .f32⟩
  | 109 => ⟨S512x2x4x16x128, .f32⟩
  | 110 => ⟨S512x2x4x16x128, .f32⟩
  | 111 => ⟨S512x2x4x128, .f32⟩
  | 112 => ⟨S512x2x4x16x128, .f32⟩
  | 113 => ⟨S_, .i32⟩
  | 114 => ⟨S2x4x128x128, .f32⟩
  | 115 => ⟨S512x2x4x16x128, .f32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S1x2x4x16x128, .f32⟩
  | 123 => ⟨S2x4x16x128, .f32⟩
  | 124 => ⟨S_, .i32⟩
  | 125 => ⟨S_, .i32⟩
  | 126 => ⟨S_, .i32⟩
  | 127 => ⟨S_, .i32⟩
  | _ => ⟨S16416x5632, .f32⟩

abbrev hbmTy0_1 (i : Nat) : BufTy := match i % 128 with
  | 0 => ⟨S1x2x4x16x128, .f32⟩
  | 1 => ⟨S2x4x16x128, .f32⟩
  | 2 => ⟨S_, .i32⟩
  | 3 => ⟨S_, .i32⟩
  | 4 => ⟨S_, .i32⟩
  | 5 => ⟨S_, .i32⟩
  | 6 => ⟨S1x2x4x16x128, .f32⟩
  | 7 => ⟨S2x4x16x128, .f32⟩
  | 8 => ⟨S_, .i32⟩
  | 9 => ⟨S_, .i32⟩
  | 10 => ⟨S_, .i32⟩
  | 11 => ⟨S1x2x4x128, .f32⟩
  | 12 => ⟨S2x4x128, .f32⟩
  | 13 => ⟨S_, .i32⟩
  | 14 => ⟨S_, .i32⟩
  | 15 => ⟨S_, .i32⟩
  | 16 => ⟨S_, .i32⟩
  | 17 => ⟨S1x2x4x16x128, .f32⟩
  | 18 => ⟨S2x4x16x128, .f32⟩
  | 19 => ⟨S2x4x16x128, .f32⟩
  | 20 => ⟨S2x4x16x128, .f32⟩
  | 21 => ⟨S2x4x128x1, .f32⟩
  | 22 => ⟨S2x4x128x128, .f32⟩
  | 23 => ⟨S2x4x128x128, .f32⟩
  | 24 => ⟨S2x4x128x128, .f32⟩
  | 25 => ⟨S2x4x128x128, .f32⟩
  | 26 => ⟨S1x2x4x16x128, .f32⟩
  | 27 => ⟨S_, .i32⟩
  | 28 => ⟨S_, .i32⟩
  | 29 => ⟨S_, .i32⟩
  | 30 => ⟨S_, .i32⟩
  | 31 => ⟨S512x2x4x16x128, .f32⟩
  | 32 => ⟨S_, .i32⟩
  | 33 => ⟨S_, .i32⟩
  | 34 => ⟨S2x512x16x4x128, .f32⟩
  | 35 => ⟨S2x8192x4x128, .f32⟩
  | 36 => ⟨S16384x512, .f32⟩
  | 37 => ⟨S2x8192x512, .f32⟩
  | 38 => ⟨S2x8192x4x128, .f32⟩
  | 39 => ⟨S_, .f32⟩
  | 40 => ⟨S2x8192x4, .f32⟩
  | 41 => ⟨S2x8192x4x1, .f32⟩
  | 42 => ⟨S_, .f32⟩
  | 43 => ⟨S2x8192x4x1, .f32⟩
  | 44 => ⟨S2x8192x4x1, .f32⟩
  | 45 => ⟨S_, .f32⟩
  | 46 => ⟨S2x8192x4x1, .f32⟩
  | 47 => ⟨S2x8192x4x1, .f32⟩
  | 48 => ⟨S2x8192x4x1, .f32⟩
  | 49 => ⟨S2x8192x4x128, .f32⟩
  | 50 => ⟨S2x8192x4x128, .f32⟩
  | 51 => ⟨S1x1x1x128, .f32⟩
  | 52 => ⟨S2x8192x4x128, .f32⟩
  | 53 => ⟨S2x8192x4x128, .f32⟩
  | 54 => ⟨S2x8192x4x128, .f32⟩
  | 55 => ⟨S2x8192x4x128, .f32⟩
  | 56 => ⟨S2x8192x4x128, .f32⟩
  | 57 => ⟨S_, .f32⟩
  | 58 => ⟨S2x8192x4x128, .f32⟩
  | 59 => ⟨S2x8192x4x128, .f32⟩
  | 60 => ⟨S_, .f32⟩
  | 61 => ⟨S2x8192x4x128, .f32⟩
  | 62 => ⟨S2x8192x4x128, .f32⟩
  | 63 => ⟨S2x8192x4x128, .f32⟩
  | 64 => ⟨S2x8192x4x128, .f32⟩
  | 65 => ⟨S16384x512, .f32⟩
  | _ => ⟨S16416x5632, .f32⟩

abbrev hbmTy (i : Nat) : BufTy := match i / 128 with
  | 0 => hbmTy0_0 i
  | 1 => hbmTy0_1 i
  | _ => ⟨S16416x5632, .f32⟩

abbrev bufTy : (tb : Table) → Fin (tcTables nBuf tb) → BufTy
  | .hbm, ⟨i, _⟩ => hbmTy i
  | _, _ => ⟨S16416x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_0 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_1 : Ref sig .tc := ⟨.hbm, 49, rfl⟩
abbrev main_v44 : Ref sig .tc := ⟨.hbm, 50, rfl⟩
abbrev main_v45 : Ref sig .tc := ⟨.hbm, 51, rfl⟩
abbrev main_cst_2 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_3 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_call0_call0_cst : Ref sig .tc := ⟨.hbm, 72, rfl⟩
abbrev main_call0_call0_v0 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_c : Ref sig .tc := ⟨.hbm, 85, rfl⟩
abbrev main_v75 : Ref sig .tc := ⟨.hbm, 86, rfl⟩
abbrev main_call1_v0 : Ref sig .tc := ⟨.hbm, 87, rfl⟩
abbrev main_call1_c : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_c_0 : Ref sig .tc := ⟨.hbm, 93, rfl⟩
abbrev main_call1_v5 : Ref sig .tc := ⟨.hbm, 94, rfl⟩
abbrev main_v76 : Ref sig .tc := ⟨.hbm, 95, rfl⟩
abbrev main_v77 : Ref sig .tc := ⟨.hbm, 96, rfl⟩
abbrev main_cst_4 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_5 : Ref sig .tc := ⟨.hbm, 105, rfl⟩
abbrev main_v82 : Ref sig .tc := ⟨.hbm, 106, rfl⟩
abbrev main_c_6 : Ref sig .tc := ⟨.hbm, 107, rfl⟩
abbrev main_v83_0 : Ref sig .tc := ⟨.hbm, 108, rfl⟩
abbrev main_v83_1 : Ref sig .tc := ⟨.hbm, 109, rfl⟩
abbrev main_v83_2 : Ref sig .tc := ⟨.hbm, 110, rfl⟩
abbrev main_v83_3 : Ref sig .tc := ⟨.hbm, 111, rfl⟩
abbrev main_v83_4 : Ref sig .tc := ⟨.hbm, 112, rfl⟩
abbrev main_v83_5 : Ref sig .tc := ⟨.hbm, 113, rfl⟩
abbrev main_v83_6 : Ref sig .tc := ⟨.hbm, 114, rfl⟩
abbrev main_v83_7 : Ref sig .tc := ⟨.hbm, 115, rfl⟩
abbrev main_while0c_c_17 : Ref sig .tc := ⟨.hbm, 116, rfl⟩
abbrev main_while0c_v105 : Ref sig .tc := ⟨.hbm, 117, rfl⟩
abbrev main_while0b_call3_c : Ref sig .tc := ⟨.hbm, 118, rfl⟩
abbrev main_while0b_call3_c_0 : Ref sig .tc := ⟨.hbm, 119, rfl⟩
abbrev main_while0b_call3_c_1 : Ref sig .tc := ⟨.hbm, 120, rfl⟩
abbrev main_while0b_call3_c_2 : Ref sig .tc := ⟨.hbm, 121, rfl⟩
abbrev main_while0b_call3_v0 : Ref sig .tc := ⟨.hbm, 122, rfl⟩
abbrev main_while0b_v105 : Ref sig .tc := ⟨.hbm, 123, rfl⟩
abbrev main_while0b_call4_c : Ref sig .tc := ⟨.hbm, 124, rfl⟩
abbrev main_while0b_call4_c_0 : Ref sig .tc := ⟨.hbm, 125, rfl⟩
abbrev main_while0b_call4_c_1 : Ref sig .tc := ⟨.hbm, 126, rfl⟩
abbrev main_while0b_call4_c_2 : Ref sig .tc := ⟨.hbm, 127, rfl⟩
abbrev main_while0b_call4_v0 : Ref sig .tc := ⟨.hbm, 128, rfl⟩
abbrev main_while0b_v106 : Ref sig .tc := ⟨.hbm, 129, rfl⟩
abbrev main_while0b_call5_c : Ref sig .tc := ⟨.hbm, 130, rfl⟩
abbrev main_while0b_call5_c_0 : Ref sig .tc := ⟨.hbm, 131, rfl⟩
abbrev main_while0b_call5_c_1 : Ref sig .tc := ⟨.hbm, 132, rfl⟩
abbrev main_while0b_call5_c_2 : Ref sig .tc := ⟨.hbm, 133, rfl⟩
abbrev main_while0b_call5_v0 : Ref sig .tc := ⟨.hbm, 134, rfl⟩
abbrev main_while0b_v107 : Ref sig .tc := ⟨.hbm, 135, rfl⟩
abbrev main_while0b_call6_c : Ref sig .tc := ⟨.hbm, 136, rfl⟩
abbrev main_while0b_call6_c_0 : Ref sig .tc := ⟨.hbm, 137, rfl⟩
abbrev main_while0b_call6_c_1 : Ref sig .tc := ⟨.hbm, 138, rfl⟩
abbrev main_while0b_call6_v0 : Ref sig .tc := ⟨.hbm, 139, rfl⟩
abbrev main_while0b_v108 : Ref sig .tc := ⟨.hbm, 140, rfl⟩
abbrev main_while0b_call7_c : Ref sig .tc := ⟨.hbm, 141, rfl⟩
abbrev main_while0b_call7_c_0 : Ref sig .tc := ⟨.hbm, 142, rfl⟩
abbrev main_while0b_call7_c_1 : Ref sig .tc := ⟨.hbm, 143, rfl⟩
abbrev main_while0b_call7_c_2 : Ref sig .tc := ⟨.hbm, 144, rfl⟩
abbrev main_while0b_call7_v0 : Ref sig .tc := ⟨.hbm, 145, rfl⟩
abbrev main_while0b_v109 : Ref sig .tc := ⟨.hbm, 146, rfl⟩
abbrev main_while0b_v110 : Ref sig .tc := ⟨.hbm, 147, rfl⟩
abbrev main_while0b_v111 : Ref sig .tc := ⟨.hbm, 148, rfl⟩
abbrev main_while0b_v112 : Ref sig .tc := ⟨.hbm, 149, rfl⟩
abbrev main_while0b_v113 : Ref sig .tc := ⟨.hbm, 150, rfl⟩
abbrev main_while0b_v114 : Ref sig .tc := ⟨.hbm, 151, rfl⟩
abbrev main_while0b_v115 : Ref sig .tc := ⟨.hbm, 152, rfl⟩
abbrev main_while0b_v116 : Ref sig .tc := ⟨.hbm, 153, rfl⟩
abbrev main_while0b_call8_v0 : Ref sig .tc := ⟨.hbm, 154, rfl⟩
abbrev main_while0b_call8_c : Ref sig .tc := ⟨.hbm, 155, rfl⟩
abbrev main_while0b_call8_c_0 : Ref sig .tc := ⟨.hbm, 156, rfl⟩
abbrev main_while0b_call8_c_1 : Ref sig .tc := ⟨.hbm, 157, rfl⟩
abbrev main_while0b_call8_c_2 : Ref sig .tc := ⟨.hbm, 158, rfl⟩
abbrev main_while0b_v117 : Ref sig .tc := ⟨.hbm, 159, rfl⟩
abbrev main_while0b_c_17 : Ref sig .tc := ⟨.hbm, 160, rfl⟩
abbrev main_while0b_v118 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_cst_7 : Ref sig .tc := ⟨.hbm, 167, rfl⟩
abbrev main_v89 : Ref sig .tc := ⟨.hbm, 168, rfl⟩
abbrev main_v90 : Ref sig .tc := ⟨.hbm, 169, rfl⟩
abbrev main_cst_8 : Ref sig .tc := ⟨.hbm, 170, rfl⟩
abbrev main_v91 : Ref sig .tc := ⟨.hbm, 171, rfl⟩
abbrev main_v92 : Ref sig .tc := ⟨.hbm, 172, rfl⟩
abbrev main_cst_9 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_call9_v0 : Ref sig .tc := ⟨.hbm, 183, rfl⟩
abbrev main_call9_v1 : Ref sig .tc := ⟨.hbm, 184, rfl⟩
abbrev main_call9_cst : Ref sig .tc := ⟨.hbm, 185, rfl⟩
abbrev main_call9_v2 : Ref sig .tc := ⟨.hbm, 186, rfl⟩
abbrev main_call9_v3 : Ref sig .tc := ⟨.hbm, 187, rfl⟩
abbrev main_call9_cst_0 : Ref sig .tc := ⟨.hbm, 188, rfl⟩
abbrev main_call9_v4 : Ref sig .tc := ⟨.hbm, 189, rfl⟩
abbrev main_call9_v5 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩

abbrev nD : Nat := 1
abbrev τ : Topo := Topo.v7x

variable {F : FTy → Type} [FloatOps F]

abbrev main_while0_count : Scf.Loop 32 := ⟨0#32, 512#32, 1#32⟩
-- ==== Kernel2.lean ====
abbrev S16416x1024 : Shape := ⟨2, ![16416, 1024]⟩
abbrev S1024 : Shape := ⟨1, ![1024]⟩
abbrev S1024x5632 : Shape := ⟨2, ![1024, 5632]⟩
abbrev S1x1024 : Shape := ⟨2, ![1, 1024]⟩
abbrev S16416x5632 : Shape := ⟨2, ![16416, 5632]⟩
abbrev S912x1024 : Shape := ⟨2, ![912, 1024]⟩
abbrev S1024x1408 : Shape := ⟨2, ![1024, 1408]⟩
abbrev S912x1408 : Shape := ⟨2, ![912, 1408]⟩
abbrev S912 : Shape := ⟨1, ![912]⟩
abbrev S912x1 : Shape := ⟨2, ![912, 1]⟩

abbrev nBuf : Space → Nat
  | .hbm => 6
  | .vmem => 8
  | .smem => 0
  | _ => 0

abbrev bufTy : (tb : Table) → Fin (tcTables nBuf tb) → BufTy
  | .hbm, ⟨0, _⟩ => ⟨S16416x1024, .f32⟩
  | .hbm, ⟨1, _⟩ => ⟨S1024, .f32⟩
  | .hbm, ⟨2, _⟩ => ⟨S1024x5632, .f32⟩
  | .hbm, ⟨3, _⟩ => ⟨S1024x5632, .bf16⟩
  | .hbm, ⟨4, _⟩ => ⟨S1x1024, .f32⟩
  | .hbm, ⟨5, _⟩ => ⟨S16416x5632, .f32⟩
  | .local _ .vmem, ⟨0, _⟩ => ⟨S912x1024, .f32⟩
  | .local _ .vmem, ⟨1, _⟩ => ⟨S912x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S912x1408, .f32⟩
  | .local _ .vmem, ⟨6, _⟩ => ⟨S912x1408, .f32⟩
  | .local _ .vmem, ⟨7, _⟩ => ⟨S912x1024, .bf16⟩
  | _, _ => ⟨S16416x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![18, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S912x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S912x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16416x1024 : Shape := ⟨2, ![16416, 1024]⟩
abbrev S1024 : Shape := ⟨1, ![1024]⟩
abbrev S1024x5632 : Shape := ⟨2, ![1024, 5632]⟩
abbrev S_ : Shape := ⟨0, ![]⟩
abbrev S16416 : Shape := ⟨1, ![16416]⟩
abbrev S16416x1 : Shape := ⟨2, ![16416, 1]⟩
abbrev S1x1024 : Shape := ⟨2, ![1, 1024]⟩
abbrev S16416x5632 : Shape := ⟨2, ![16416, 5632]⟩

abbrev nBuf : Space → Nat
  | .hbm => 20
  | .vmem => 0
  | .smem => 0
  | _ => 0

abbrev bufTy : (tb : Table) → Fin (tcTables nBuf tb) → BufTy
  | .hbm, ⟨0, _⟩ => ⟨S16416x1024, .f32⟩
  | .hbm, ⟨1, _⟩ => ⟨S1024, .f32⟩
  | .hbm, ⟨2, _⟩ => ⟨S1024x5632, .f32⟩
  | .hbm, ⟨3, _⟩ => ⟨S16416x1024, .f32⟩
  | .hbm, ⟨4, _⟩ => ⟨S_, .f32⟩
  | .hbm, ⟨5, _⟩ => ⟨S16416, .f32⟩
  | .hbm, ⟨6, _⟩ => ⟨S16416x1, .f32⟩
  | .hbm, ⟨7, _⟩ => ⟨S_, .f32⟩
  | .hbm, ⟨8, _⟩ => ⟨S16416x1, .f32⟩
  | .hbm, ⟨9, _⟩ => ⟨S16416x1, .f32⟩
  | .hbm, ⟨10, _⟩ => ⟨S_, .f32⟩
  | .hbm, ⟨11, _⟩ => ⟨S16416x1, .f32⟩
  | .hbm, ⟨12, _⟩ => ⟨S16416x1, .f32⟩
  | .hbm, ⟨13, _⟩ => ⟨S16416x1, .f32⟩
  | .hbm, ⟨14, _⟩ => ⟨S16416x1024, .f32⟩
  | .hbm, ⟨15, _⟩ => ⟨S16416x1024, .f32⟩
  | .hbm, ⟨16, _⟩ => ⟨S1x1024, .f32⟩
  | .hbm, ⟨17, _⟩ => ⟨S16416x1024, .f32⟩
  | .hbm, ⟨18, _⟩ => ⟨S16416x1024, .f32⟩
  | .hbm, ⟨19, _⟩ => ⟨S16416x5632, .f32⟩
  | _, _ => ⟨S16416x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel3.lean ====
abbrev S16416x1024 : Shape := ⟨2, ![16416, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S432x1024 : Shape := ⟨2, ![432, 1024]⟩
abbrev S1024x1408 : Shape := ⟨2, ![1024, 1408]⟩
abbrev S1408x1024 : Shape := ⟨2, ![1408, 1024]⟩
abbrev S432 : Shape := ⟨1, ![432]⟩
abbrev S432x1 : Shape := ⟨2, ![432, 1]⟩
abbrev S432x1408 : Shape := ⟨2, ![432, 1408]⟩

abbrev nBuf : Space → Nat
  | .hbm => 10
  | .vmem => 13
  | .smem => 0
  | _ => 0

abbrev bufTy : (tb : Table) → Fin (tcTables nBuf tb) → BufTy
  | .hbm, ⟨0, _⟩ => ⟨S16416x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S16416x1024, .f32⟩
  | .local _ .vmem, ⟨0, _⟩ => ⟨S432x1024, .f32⟩
  | .local _ .vmem, ⟨1, _⟩ => ⟨S432x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S432x1024, .f32⟩
  | .local _ .vmem, ⟨10, _⟩ => ⟨S432x1024, .f32⟩
  | .local _ .vmem, ⟨11, _⟩ => ⟨S432x1024, .bf16⟩
  | .local _ .vmem, ⟨12, _⟩ => ⟨S432x1024, .f32⟩
  | _, _ => ⟨S16416x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![38, 2], ![false, false]⟩

def k0_cond2 (i : grid0.Coords) : BitVec 1 :=
  let arg1 : BitVec 32 := BitVec.ofNat 32 (i 1).val
  let c1_i32 : BitVec 32 := 1#32
  let v26 : BitVec 1 := Scalar.cmpi .eq arg1 c1_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S432x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16416x1024 : Shape := ⟨2, ![16416, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16416 : Shape := ⟨1, ![16416]⟩
abbrev S16416x1 : Shape := ⟨2, ![16416, 1]⟩
abbrev S1x1024 : Shape := ⟨2, ![1, 1024]⟩
abbrev S16416x2816 : Shape := ⟨2, ![16416, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16416x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16416x1024, .f32⟩
  | .hbm, ⟨6, _⟩ => ⟨S_, .f32⟩
  | .hbm, ⟨7, _⟩ => ⟨S16416, .f32⟩
  | .hbm, ⟨8, _⟩ => ⟨S16416x1, .f32⟩
  | .hbm, ⟨9, _⟩ => ⟨S_, .f32⟩
  | .hbm, ⟨10, _⟩ => ⟨S16416x1, .f32⟩
  | .hbm, ⟨11, _⟩ => ⟨S16416x1, .f32⟩
  | .hbm, ⟨12, _⟩ => ⟨S_, .f32⟩
  | .hbm, ⟨13, _⟩ => ⟨S16416x1, .f32⟩
  | .hbm, ⟨14, _⟩ => ⟨S16416x1, .f32⟩
  | .hbm, ⟨15, _⟩ => ⟨S16416x1, .f32⟩
  | .hbm, ⟨16, _⟩ => ⟨S16416x1024, .f32⟩
  | .hbm, ⟨17, _⟩ => ⟨S16416x1024, .f32⟩
  | .hbm, ⟨18, _⟩ => ⟨S1x1024, .f32⟩
  | .hbm, ⟨19, _⟩ => ⟨S16416x1024, .f32⟩
  | .hbm, ⟨20, _⟩ => ⟨S16416x1024, .f32⟩
  | .hbm, ⟨21, _⟩ => ⟨S16416x2816, .f32⟩
  | .hbm, ⟨22, _⟩ => ⟨S16416x2816, .f32⟩
  | .hbm, ⟨23, _⟩ => ⟨S16416x2816, .f32⟩
  | .hbm, ⟨24, _⟩ => ⟨S_, .f32⟩
  | .hbm, ⟨25, _⟩ => ⟨S16416x2816, .f32⟩
  | .hbm, ⟨26, _⟩ => ⟨S16416x2816, .f32⟩
  | .hbm, ⟨27, _⟩ => ⟨S_, .f32⟩
  | .hbm, ⟨28, _⟩ => ⟨S16416x2816, .f32⟩
  | .hbm, ⟨29, _⟩ => ⟨S16416x2816, .f32⟩
  | .hbm, ⟨30, _⟩ => ⟨S16416x2816, .f32⟩
  | .hbm, ⟨31, _⟩ => ⟨S16416x2816, .f32⟩
  | .hbm, ⟨32, _⟩ => ⟨S16416x2816, .f32⟩
  | .hbm, ⟨33, _⟩ => ⟨S16416x1024, .f32⟩
  | .hbm, ⟨34, _⟩ => ⟨S16416x1024, .f32⟩
  | _, _ => ⟨S16416x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Kernel4.lean ====
abbrev S16416x1024 : Shape := ⟨2, ![16416, 1024]⟩
abbrev S16416x5632 : Shape := ⟨2, ![16416, 5632]⟩
abbrev S16384x512 : Shape := ⟨2, ![16384, 512]⟩
abbrev S2x512x8192 : Shape := ⟨3, ![2, 512, 8192]⟩
abbrev S512x1024 : Shape := ⟨2, ![512, 1024]⟩
abbrev S1024x1024 : Shape := ⟨2, ![1024, 1024]⟩
abbrev S512x512 : Shape := ⟨2, ![512, 512]⟩
abbrev S1x512x512 : Shape := ⟨3, ![1, 512, 512]⟩

abbrev nBuf : Space → Nat
  | .hbm => 11
  | .vmem => 19
  | .smem => 0
  | _ => 0

abbrev bufTy : (tb : Table) → Fin (tcTables nBuf tb) → BufTy
  | .hbm, ⟨0, _⟩ => ⟨S16416x1024, .f32⟩
  | .hbm, ⟨1, _⟩ => ⟨S16416x5632, .f32⟩
  | .hbm, ⟨2, _⟩ => ⟨S16384x512, .f32⟩
  | .hbm, ⟨3, _⟩ => ⟨S2x512x8192, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S16416x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | _, _ => ⟨S16416x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c7_i32 : BitVec 32 := 7#32
  let c0_i32_0 : BitVec 32 := 0#32
  ![v0.toNat, c7_i32.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c8_i32 : BitVec 32 := 8#32
  let c0_i32_0 : BitVec 32 := 0#32
  ![v0.toNat, c8_i32.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c9_i32 : BitVec 32 := 9#32
  let c0_i32_0 : BitVec 32 := 0#32
  ![v0.toNat, c9_i32.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c10_i32 : BitVec 32 := 10#32
  let c0_i32_0 : BitVec 32 := 0#32
  ![v0.toNat, c10_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16416x1024 : Shape := ⟨2, ![16416, 1024]⟩
abbrev S16416x5632 : Shape := ⟨2, ![16416, 5632]⟩
abbrev S16384x512 : Shape := ⟨2, ![16384, 512]⟩
abbrev S2x512x8192 : Shape := ⟨3, ![2, 512, 8192]⟩
abbrev S512x1024 : Shape := ⟨2, ![512, 1024]⟩
abbrev S1024x1024 : Shape := ⟨2, ![1024, 1024]⟩
abbrev S16384x1024 : Shape := ⟨2, ![16384, 1024]⟩
abbrev S2x8192x512 : Shape := ⟨3, ![2, 8192, 512]⟩
abbrev S_ : Shape := ⟨0, ![]⟩
abbrev S32x1024 : Shape := ⟨2, ![32, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16416x1024, .f32⟩
  | .hbm, ⟨1, _⟩ => ⟨S16416x5632, .f32⟩
  | .hbm, ⟨2, _⟩ => ⟨S16384x512, .f32⟩
  | .hbm, ⟨3, _⟩ => ⟨S2x512x8192, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S16384x1024, .f32⟩
  | .hbm, ⟨8, _⟩ => ⟨S16384x1024, .f32⟩
  | .hbm, ⟨9, _⟩ => ⟨S2x8192x512, .f32⟩
  | .hbm, ⟨10, _⟩ => ⟨S16384x512, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S32x1024, .f32⟩
  | .hbm, ⟨36, _⟩ => ⟨S16416x1024, .f32⟩
  | _, _ => ⟨S16416x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel5.lean ====
abbrev S73 : Shape := ⟨1, ![73]⟩
abbrev S37376x1024 : Shape := ⟨2, ![37376, 1024]⟩
abbrev S8x1024x2816 : Shape := ⟨3, ![8, 1024, 2816]⟩
abbrev S8x2816x1024 : Shape := ⟨3, ![8, 2816, 1024]⟩
abbrev S512x1024 : Shape := ⟨2, ![512, 1024]⟩
abbrev S1x1024x1408 : Shape := ⟨3, ![1, 1024, 1408]⟩
abbrev S1 : Shape := ⟨1, ![1]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 8
  | .vmem => 11
  | .smem => 2
  | _ => 0

abbrev bufTy : (tb : Table) → Fin (tcTables nBuf tb) → BufTy
  | .hbm, ⟨0, _⟩ => ⟨S37376x1024, .f32⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S8x1024x2816, .bf16⟩
  | .hbm, ⟨5, _⟩ => ⟨S8x1024x2816, .bf16⟩
  | .hbm, ⟨6, _⟩ => ⟨S8x2816x1024, .bf16⟩
  | .hbm, ⟨7, _⟩ => ⟨S37376x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .smem, ⟨0, _⟩ => ⟨S73, .i32⟩
  | .local _ .smem, ⟨1, _⟩ => ⟨S73, .i32⟩
  | _, _ => ⟨S37376x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![73, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S73.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S73.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S73.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S73 : Shape := ⟨1, ![73]⟩
abbrev S37376x1024 : Shape := ⟨2, ![37376, 1024]⟩
abbrev S8x1024x2816 : Shape := ⟨3, ![8, 1024, 2816]⟩
abbrev S8x2816x1024 : Shape := ⟨3, ![8, 2816, 1024]⟩
abbrev S73x512 : Shape := ⟨2, ![73, 512]⟩
abbrev S37376 : Shape := ⟨1, ![37376]⟩
abbrev S_ : Shape := ⟨0, ![]⟩
abbrev S1x1024x2816 : Shape := ⟨3, ![1, 1024, 2816]⟩
abbrev S1024x2816 : Shape := ⟨2, ![1024, 2816]⟩
abbrev S37376x2816 : Shape := ⟨2, ![37376, 2816]⟩
abbrev S1x2816x1024 : Shape := ⟨3, ![1, 2816, 1024]⟩
abbrev S2816x1024 : Shape := ⟨2, ![2816, 1024]⟩
abbrev S37376x1 : Shape := ⟨2, ![37376, 1]⟩

abbrev nBuf : Space → Nat
  | .hbm => 223
  | .vmem => 0
  | .smem => 0
  | _ => 0

abbrev hbmTy0_0 (i : Nat) : BufTy := match i % 128 with
  | 0 => ⟨S73, .i32⟩
  | 1 => ⟨S73, .i32⟩
  | 2 => ⟨S37376x1024, .f32⟩
  | 3 => ⟨S8x1024x2816, .f32⟩
  | 4 => ⟨S8x1024x2816, .f32⟩
  | 5 => ⟨S8x2816x1024, .f32⟩
  | 6 => ⟨S73x512, .i32⟩
  | 7 => ⟨S37376, .i32⟩
  | 8 => ⟨S73x512, .i32⟩
  | 9 => ⟨S37376, .i32⟩
  | 10 => ⟨S_, .i32⟩
  | 11 => ⟨S37376, .i32⟩
  | 12 => ⟨S37376, .i1⟩
  | 13 => ⟨S_, .f32⟩
  | 14 => ⟨S37376x1024, .f32⟩
  | 15 => ⟨S1x1024x2816, .f32⟩
  | 16 => ⟨S1024x2816, .f32⟩
  | 17 => ⟨S37376x2816, .f32⟩
  | 18 => ⟨S37376x2816, .f32⟩
  | 19 => ⟨S37376x2816, .f32⟩
  | 20 => ⟨S_, .f32⟩
  | 21 => ⟨S37376x2816, .f32⟩
  | 22 => ⟨S37376x2816, .f32⟩
  | 23 => ⟨S_, .f32⟩
  | 24 => ⟨S37376x2816, .f32⟩
  | 25 => ⟨S37376x2816, .f32⟩
  | 26 => ⟨S37376x2816, .f32⟩
  | 27 => ⟨S1x1024x2816, .f32⟩
  | 28 => ⟨S1024x2816, .f32⟩
  | 29 => ⟨S37376x2816, .f32⟩
  | 30 => ⟨S37376x2816, .f32⟩
  | 31 => ⟨S1x2816x1024, .f32⟩
  | 32 => ⟨S2816x1024, .f32⟩
  | 33 => ⟨S37376x1024, .f32⟩
  | 34 => ⟨S_, .i32⟩
  | 35 => ⟨S37376, .i32⟩
  | 36 => ⟨S37376, .i1⟩
  | 37 => ⟨S37376, .i1⟩
  | 38 => ⟨S37376x1, .i1⟩
  | 39 => ⟨S37376x1024, .i1⟩
  | 40 => ⟨S37376x1024, .f32⟩
  | 41 => ⟨S1x1024x2816, .f32⟩
  | 42 => ⟨S1024x2816, .f32⟩
  | 43 => ⟨S37376x2816, .f32⟩
  | 44 => ⟨S37376x2816, .f32⟩
  | 45 => ⟨S37376x2816, .f32⟩
  | 46 => ⟨S_, .f32⟩
  | 47 => ⟨S37376x2816, .f32⟩
  | 48 => ⟨S37376x2816, .f32⟩
  | 49 => ⟨S_, .f32⟩
  | 50 => ⟨S37376x2816, .f32⟩
  | 51 => ⟨S37376x2816, .f32⟩
  | 52 => ⟨S37376x2816, .f32⟩
  | 53 => ⟨S1x1024x2816, .f32⟩
  | 54 => ⟨S1024x2816, .f32⟩
  | 55 => ⟨S37376x2816, .f32⟩
  | 56 => ⟨S37376x2816, .f32⟩
  | 57 => ⟨S1x2816x1024, .f32⟩
  | 58 => ⟨S2816x1024, .f32⟩
  | 59 => ⟨S37376x1024, .f32⟩
  | 60 => ⟨S_, .i32⟩
  | 61 => ⟨S37376, .i32⟩
  | 62 => ⟨S37376, .i1⟩
  | 63 => ⟨S37376, .i1⟩
  | 64 => ⟨S37376x1, .i1⟩
  | 65 => ⟨S37376x1024, .i1⟩
  | 66 => ⟨S37376x1024, .f32⟩
  | 67 => ⟨S1x1024x2816, .f32⟩
  | 68 => ⟨S1024x2816, .f32⟩
  | 69 => ⟨S37376x2816, .f32⟩
  | 70 => ⟨S37376x2816, .f32⟩
  | 71 => ⟨S37376x2816, .f32⟩
  | 72 => ⟨S_, .f32⟩
  | 73 => ⟨S37376x2816, .f32⟩
  | 74 => ⟨S37376x2816, .f32⟩
  | 75 => ⟨S_, .f32⟩
  | 76 => ⟨S37376x2816, .f32⟩
  | 77 => ⟨S37376x2816, .f32⟩
  | 78 => ⟨S37376x2816, .f32⟩
  | 79 => ⟨S1x1024x2816, .f32⟩
  | 80 => ⟨S1024x2816, .f32⟩
  | 81 => ⟨S37376x2816, .f32⟩
  | 82 => ⟨S37376x2816, .f32⟩
  | 83 => ⟨S1x2816x1024, .f32⟩
  | 84 => ⟨S2816x1024, .f32⟩
  | 85 => ⟨S37376x1024, .f32⟩
  | 86 => ⟨S_, .i32⟩
  | 87 => ⟨S37376, .i32⟩
  | 88 => ⟨S37376, .i1⟩
  | 89 => ⟨S37376, .i1⟩
  | 90 => ⟨S37376x1, .i1⟩
  | 91 => ⟨S37376x1024, .i1⟩
  | 92 => ⟨S37376x1024, .f32⟩
  | 93 => ⟨S1x1024x2816, .f32⟩
  | 94 => ⟨S1024x2816, .f32⟩
  | 95 => ⟨S37376x2816, .f32⟩
  | 96 => ⟨S37376x2816, .f32⟩
  | 97 => ⟨S37376x2816, .f32⟩
  | 98 => ⟨S_, .f32⟩
  | 99 => ⟨S37376x2816, .f32⟩
  | 100 => ⟨S37376x2816, .f32⟩
  | 101 => ⟨S_, .f32⟩
  | 102 => ⟨S37376x2816, .f32⟩
  | 103 => ⟨S37376x2816, .f32⟩
  | 104 => ⟨S37376x2816, .f32⟩
  | 105 => ⟨S1x1024x2816, .f32⟩
  | 106 => ⟨S1024x2816, .f32⟩
  | 107 => ⟨S37376x2816, .f32⟩
  | 108 => ⟨S37376x2816, .f32⟩
  | 109 => ⟨S1x2816x1024, .f32⟩
  | 110 => ⟨S2816x1024, .f32⟩
  | 111 => ⟨S37376x1024, .f32⟩
  | 112 => ⟨S_, .i32⟩
  | 113 => ⟨S37376, .i32⟩
  | 114 => ⟨S37376, .i1⟩
  | 115 => ⟨S37376, .i1⟩
  | 116 => ⟨S37376x1, .i1⟩
  | 117 => ⟨S37376x1024, .i1⟩
  | 118 => ⟨S37376x1024, .f32⟩
  | 119 => ⟨S1x1024x2816, .f32⟩
  | 120 => ⟨S1024x2816, .f32⟩
  | 121 => ⟨S37376x2816, .f32⟩
  | 122 => ⟨S37376x2816, .f32⟩
  | 123 => ⟨S37376x2816, .f32⟩
  | 124 => ⟨S_, .f32⟩
  | 125 => ⟨S37376x2816, .f32⟩
  | 126 => ⟨S37376x2816, .f32⟩
  | 127 => ⟨S_, .f32⟩
  | _ => ⟨S73, .i32⟩

abbrev hbmTy0_1 (i : Nat) : BufTy := match i % 128 with
  | 0 => ⟨S37376x2816, .f32⟩
  | 1 => ⟨S37376x2816, .f32⟩
  | 2 => ⟨S37376x2816, .f32⟩
  | 3 => ⟨S1x1024x2816, .f32⟩
  | 4 => ⟨S1024x2816, .f32⟩
  | 5 => ⟨S37376x2816, .f32⟩
  | 6 => ⟨S37376x2816, .f32⟩
  | 7 => ⟨S1x2816x1024, .f32⟩
  | 8 => ⟨S2816x1024, .f32⟩
  | 9 => ⟨S37376x1024, .f32⟩
  | 10 => ⟨S_, .i32⟩
  | 11 => ⟨S37376, .i32⟩
  | 12 => ⟨S37376, .i1⟩
  | 13 => ⟨S37376, .i1⟩
  | 14 => ⟨S37376x1, .i1⟩
  | 15 => ⟨S37376x1024, .i1⟩
  | 16 => ⟨S37376x1024, .f32⟩
  | 17 => ⟨S1x1024x2816, .f32⟩
  | 18 => ⟨S1024x2816, .f32⟩
  | 19 => ⟨S37376x2816, .f32⟩
  | 20 => ⟨S37376x2816, .f32⟩
  | 21 => ⟨S37376x2816, .f32⟩
  | 22 => ⟨S_, .f32⟩
  | 23 => ⟨S37376x2816, .f32⟩
  | 24 => ⟨S37376x2816, .f32⟩
  | 25 => ⟨S_, .f32⟩
  | 26 => ⟨S37376x2816, .f32⟩
  | 27 => ⟨S37376x2816, .f32⟩
  | 28 => ⟨S37376x2816, .f32⟩
  | 29 => ⟨S1x1024x2816, .f32⟩
  | 30 => ⟨S1024x2816, .f32⟩
  | 31 => ⟨S37376x2816, .f32⟩
  | 32 => ⟨S37376x2816, .f32⟩
  | 33 => ⟨S1x2816x1024, .f32⟩
  | 34 => ⟨S2816x1024, .f32⟩
  | 35 => ⟨S37376x1024, .f32⟩
  | 36 => ⟨S_, .i32⟩
  | 37 => ⟨S37376, .i32⟩
  | 38 => ⟨S37376, .i1⟩
  | 39 => ⟨S37376, .i1⟩
  | 40 => ⟨S37376x1, .i1⟩
  | 41 => ⟨S37376x1024, .i1⟩
  | 42 => ⟨S37376x1024, .f32⟩
  | 43 => ⟨S1x1024x2816, .f32⟩
  | 44 => ⟨S1024x2816, .f32⟩
  | 45 => ⟨S37376x2816, .f32⟩
  | 46 => ⟨S37376x2816, .f32⟩
  | 47 => ⟨S37376x2816, .f32⟩
  | 48 => ⟨S_, .f32⟩
  | 49 => ⟨S37376x2816, .f32⟩
  | 50 => ⟨S37376x2816, .f32⟩
  | 51 => ⟨S_, .f32⟩
  | 52 => ⟨S37376x2816, .f32⟩
  | 53 => ⟨S37376x2816, .f32⟩
  | 54 => ⟨S37376x2816, .f32⟩
  | 55 => ⟨S1x1024x2816, .f32⟩
  | 56 => ⟨S1024x2816, .f32⟩
  | 57 => ⟨S37376x2816, .f32⟩
  | 58 => ⟨S37376x2816, .f32⟩
  | 59 => ⟨S1x2816x1024, .f32⟩
  | 60 => ⟨S2816x1024, .f32⟩
  | 61 => ⟨S37376x1024, .f32⟩
  | 62 => ⟨S_, .i32⟩
  | 63 => ⟨S37376, .i32⟩
  | 64 => ⟨S37376, .i1⟩
  | 65 => ⟨S37376, .i1⟩
  | 66 => ⟨S37376x1, .i1⟩
  | 67 => ⟨S37376x1024, .i1⟩
  | 68 => ⟨S37376x1024, .f32⟩
  | 69 => ⟨S1x1024x2816, .f32⟩
  | 70 => ⟨S1024x2816, .f32⟩
  | 71 => ⟨S37376x2816, .f32⟩
  | 72 => ⟨S37376x2816, .f32⟩
  | 73 => ⟨S37376x2816, .f32⟩
  | 74 => ⟨S_, .f32⟩
  | 75 => ⟨S37376x2816, .f32⟩
  | 76 => ⟨S37376x2816, .f32⟩
  | 77 => ⟨S_, .f32⟩
  | 78 => ⟨S37376x2816, .f32⟩
  | 79 => ⟨S37376x2816, .f32⟩
  | 80 => ⟨S37376x2816, .f32⟩
  | 81 => ⟨S1x1024x2816, .f32⟩
  | 82 => ⟨S1024x2816, .f32⟩
  | 83 => ⟨S37376x2816, .f32⟩
  | 84 => ⟨S37376x2816, .f32⟩
  | 85 => ⟨S1x2816x1024, .f32⟩
  | 86 => ⟨S2816x1024, .f32⟩
  | 87 => ⟨S37376x1024, .f32⟩
  | 88 => ⟨S_, .i32⟩
  | 89 => ⟨S37376, .i32⟩
  | 90 => ⟨S37376, .i1⟩
  | 91 => ⟨S37376, .i1⟩
  | 92 => ⟨S37376x1, .i1⟩
  | 93 => ⟨S37376x1024, .i1⟩
  | 94 => ⟨S37376x1024, .f32⟩
  | _ => ⟨S73, .i32⟩

abbrev hbmTy (i : Nat) : BufTy := match i / 128 with
  | 0 => hbmTy0_0 i
  | 1 => hbmTy0_1 i
  | _ => ⟨S73, .i32⟩

abbrev bufTy : (tb : Table) → Fin (tcTables nBuf tb) → BufTy
  | .hbm, ⟨i, _⟩ => hbmTy i
  | _, _ => ⟨S73, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call1_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_1 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call3_v0 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call4_v0 : Ref sig .tc := ⟨.hbm, 70, rfl⟩
abbrev main_call4_v1 : Ref sig .tc := ⟨.hbm, 71, rfl⟩
abbrev main_call4_cst : Ref sig .tc := ⟨.hbm, 72, rfl⟩
abbrev main_call4_v2 : Ref sig .tc := ⟨.hbm, 73, rfl⟩
abbrev main_call4_v3 : Ref sig .tc := ⟨.hbm, 74, rfl⟩
abbrev main_call4_cst_0 : Ref sig .tc := ⟨.hbm, 75, rfl⟩
abbrev main_call4_v4 : Ref sig .tc := ⟨.hbm, 76, rfl⟩
abbrev main_call4_v5 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_c_2 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_call5_v0 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_call6_v0 : Ref sig .tc := ⟨.hbm, 96, rfl⟩
abbrev main_call6_v1 : Ref sig .tc := ⟨.hbm, 97, rfl⟩
abbrev main_call6_cst : Ref sig .tc := ⟨.hbm, 98, rfl⟩
abbrev main_call6_v2 : Ref sig .tc := ⟨.hbm, 99, rfl⟩
abbrev main_call6_v3 : Ref sig .tc := ⟨.hbm, 100, rfl⟩
abbrev main_call6_cst_0 : Ref sig .tc := ⟨.hbm, 101, rfl⟩
abbrev main_call6_v4 : Ref sig .tc := ⟨.hbm, 102, rfl⟩
abbrev main_call6_v5 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_c_3 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_call7_v0 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_call8_v0 : Ref sig .tc := ⟨.hbm, 122, rfl⟩
abbrev main_call8_v1 : Ref sig .tc := ⟨.hbm, 123, rfl⟩
abbrev main_call8_cst : Ref sig .tc := ⟨.hbm, 124, rfl⟩
abbrev main_call8_v2 : Ref sig .tc := ⟨.hbm, 125, rfl⟩
abbrev main_call8_v3 : Ref sig .tc := ⟨.hbm, 126, rfl⟩
abbrev main_call8_cst_0 : Ref sig .tc := ⟨.hbm, 127, rfl⟩
abbrev main_call8_v4 : Ref sig .tc := ⟨.hbm, 128, rfl⟩
abbrev main_call8_v5 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_c_4 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_call9_v0 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_call10_v0 : Ref sig .tc := ⟨.hbm, 148, rfl⟩
abbrev main_call10_v1 : Ref sig .tc := ⟨.hbm, 149, rfl⟩
abbrev main_call10_cst : Ref sig .tc := ⟨.hbm, 150, rfl⟩
abbrev main_call10_v2 : Ref sig .tc := ⟨.hbm, 151, rfl⟩
abbrev main_call10_v3 : Ref sig .tc := ⟨.hbm, 152, rfl⟩
abbrev main_call10_cst_0 : Ref sig .tc := ⟨.hbm, 153, rfl⟩
abbrev main_call10_v4 : Ref sig .tc := ⟨.hbm, 154, rfl⟩
abbrev main_call10_v5 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_c_5 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_call11_v0 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_call12_v0 : Ref sig .tc := ⟨.hbm, 174, rfl⟩
abbrev main_call12_v1 : Ref sig .tc := ⟨.hbm, 175, rfl⟩
abbrev main_call12_cst : Ref sig .tc := ⟨.hbm, 176, rfl⟩
abbrev main_call12_v2 : Ref sig .tc := ⟨.hbm, 177, rfl⟩
abbrev main_call12_v3 : Ref sig .tc := ⟨.hbm, 178, rfl⟩
abbrev main_call12_cst_0 : Ref sig .tc := ⟨.hbm, 179, rfl⟩
abbrev main_call12_v4 : Ref sig .tc := ⟨.hbm, 180, rfl⟩
abbrev main_call12_v5 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_c_6 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_call13_v0 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_call14_v0 : Ref sig .tc := ⟨.hbm, 200, rfl⟩
abbrev main_call14_v1 : Ref sig .tc := ⟨.hbm, 201, rfl⟩
abbrev main_call14_cst : Ref sig .tc := ⟨.hbm, 202, rfl⟩
abbrev main_call14_v2 : Ref sig .tc := ⟨.hbm, 203, rfl⟩
abbrev main_call14_v3 : Ref sig .tc := ⟨.hbm, 204, rfl⟩
abbrev main_call14_cst_0 : Ref sig .tc := ⟨.hbm, 205, rfl⟩
abbrev main_call14_v4 : Ref sig .tc := ⟨.hbm, 206, rfl⟩
abbrev main_call14_v5 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_c_7 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_call15_v0 : Ref sig .tc := ⟨.hbm, 221, rfl⟩
abbrev main_v134 : Ref sig .tc := ⟨.hbm, 222, rfl⟩

abbrev nD : Nat := 1
abbrev τ : Topo := Topo.v7x

variable {F : FTy → Type} [FloatOps F]
-- ==== Kernel6.lean ====
abbrev S16416x5632 : Shape := ⟨2, ![16416, 5632]⟩
abbrev S64 : Shape := ⟨1, ![64]⟩
abbrev S8 : Shape := ⟨1, ![8]⟩
abbrev S8x64 : Shape := ⟨2, ![8, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S32x512 : Shape := ⟨2, ![32, 512]⟩

abbrev nBuf : Space → Nat
  | .hbm => 23
  | .vmem => 9
  | .smem => 0
  | _ => 0

abbrev bufTy : (tb : Table) → Fin (tcTables nBuf tb) → BufTy
  | .hbm, ⟨0, _⟩ => ⟨S16416x5632, .f32⟩
  | .hbm, ⟨1, _⟩ => ⟨S64, .f32⟩
  | .hbm, ⟨2, _⟩ => ⟨S64, .f32⟩
  | .hbm, ⟨3, _⟩ => ⟨S8, .i32⟩
  | .hbm, ⟨4, _⟩ => ⟨S8x64, .i32⟩
  | .hbm, ⟨5, _⟩ => ⟨S512, .i32⟩
  | .hbm, ⟨6, _⟩ => ⟨S512x1, .i32⟩
  | .hbm, ⟨7, _⟩ => ⟨S1x512, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S512x512, .bf16⟩
  | .hbm, ⟨12, _⟩ => ⟨S1x64, .f32⟩
  | .hbm, ⟨13, _⟩ => ⟨S8x64, .f32⟩
  | .hbm, ⟨14, _⟩ => ⟨S512, .f32⟩
  | .hbm, ⟨15, _⟩ => ⟨S1x512, .f32⟩
  | .hbm, ⟨16, _⟩ => ⟨S1x64, .f32⟩
  | .hbm, ⟨17, _⟩ => ⟨S8x64, .f32⟩
  | .hbm, ⟨18, _⟩ => ⟨S512, .f32⟩
  | .hbm, ⟨19, _⟩ => ⟨S1x512, .f32⟩
  | .hbm, ⟨20, _⟩ => ⟨S32x512, .f32⟩
  | .hbm, ⟨21, _⟩ => ⟨S32x512, .f32⟩
  | .hbm, ⟨22, _⟩ => ⟨S32x512, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S1x512, .f32⟩
  | .local _ .vmem, ⟨4, _⟩ => ⟨S1x512, .f32⟩
  | .local _ .vmem, ⟨5, _⟩ => ⟨S512x512, .bf16⟩
  | .local _ .vmem, ⟨6, _⟩ => ⟨S32x512, .f32⟩
  | .local _ .vmem, ⟨7, _⟩ => ⟨S32x512, .f32⟩
  | .local _ .vmem, ⟨8, _⟩ => ⟨S32x512, .f32⟩
  | _, _ => ⟨S16416x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17_0 : Ref sig .tc := ⟨.hbm, 20, rfl⟩
abbrev main_v17_1 : Ref sig .tc := ⟨.hbm, 21, rfl⟩
abbrev main_v17_2 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c512_i32 : BitVec 32 := 512#32
  let c4_i32 : BitVec 32 := 4#32
  let c0_i32 : BitVec 32 := 0#32
  ![c512_i32.toNat, c4_i32.toNat]

def cc0_transform_1 (i : grid0.Coords) : Fin 2 → Nat :=
  let arg0 : BitVec 32 := BitVec.ofNat 32 (i 0).val
  let c512_i32 : BitVec 32 := 512#32
  let c5_i32 : BitVec 32 := 5#32
  let c0_i32 : BitVec 32 := 0#32
  ![c512_i32.toNat, c5_i32.toNat]

def cc0_transform_2 (i : grid0.Coords) : Fin 2 → Nat :=
  let arg0 : BitVec 32 := BitVec.ofNat 32 (i 0).val
  let c512_i32 : BitVec 32 := 512#32
  let c6_i32 : BitVec 32 := 6#32
  let c0_i32 : BitVec 32 := 0#32
  ![c512_i32.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S16416x5632 : Shape := ⟨2, ![16416, 5632]⟩
abbrev S64 : Shape := ⟨1, ![64]⟩
abbrev S32x5632 : Shape := ⟨2, ![32, 5632]⟩
abbrev S32x512 : Shape := ⟨2, ![32, 512]⟩
abbrev S32x8x64 : Shape := ⟨3, ![32, 8, 64]⟩
abbrev S_ : Shape := ⟨0, ![]⟩
abbrev S32x8 : Shape := ⟨2, ![32, 8]⟩
abbrev S32x8x1 : Shape := ⟨3, ![32, 8, 1]⟩
abbrev S1x1x64 : Shape := ⟨3, ![1, 1, 64]⟩

abbrev nBuf : Space → Nat
  | .hbm => 43
  | .vmem => 0
  | .smem => 0
  | _ => 0

abbrev bufTy : (tb : Table) → Fin (tcTables nBuf tb) → BufTy
  | .hbm, ⟨0, _⟩ => ⟨S16416x5632, .f32⟩
  | .hbm, ⟨1, _⟩ => ⟨S64, .f32⟩
  | .hbm, ⟨2, _⟩ => ⟨S64, .f32⟩
  | .hbm, ⟨3, _⟩ => ⟨S32x5632, .f32⟩
  | .hbm, ⟨4, _⟩ => ⟨S32x512, .f32⟩
  | .hbm, ⟨5, _⟩ => ⟨S32x8x64, .f32⟩
  | .hbm, ⟨6, _⟩ => ⟨S32x8x64, .f32⟩
  | .hbm, ⟨7, _⟩ => ⟨S_, .f32⟩
  | .hbm, ⟨8, _⟩ => ⟨S32x8, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S_, .f32⟩
  | .hbm, ⟨14, _⟩ => ⟨S32x8x1, .f32⟩
  | .hbm, ⟨15, _⟩ => ⟨S32x8x1, .f32⟩
  | .hbm, ⟨16, _⟩ => ⟨S32x8x1, .f32⟩
  | .hbm, ⟨17, _⟩ => ⟨S32x8x64, .f32⟩
  | .hbm, ⟨18, _⟩ => ⟨S32x8x64, .f32⟩
  | .hbm, ⟨19, _⟩ => ⟨S1x1x64, .f32⟩
  | .hbm, ⟨20, _⟩ => ⟨S32x8x64, .f32⟩
  | .hbm, ⟨21, _⟩ => ⟨S32x8x64, .f32⟩
  | .hbm, ⟨22, _⟩ => ⟨S32x512, .f32⟩
  | .hbm, ⟨23, _⟩ => ⟨S32x512, .f32⟩
  | .hbm, ⟨24, _⟩ => ⟨S32x8x64, .f32⟩
  | .hbm, ⟨25, _⟩ => ⟨S32x8x64, .f32⟩
  | .hbm, ⟨26, _⟩ => ⟨S_, .f32⟩
  | .hbm, ⟨27, _⟩ => ⟨S32x8, .f32⟩
  | .hbm, ⟨28, _⟩ => ⟨S32x8x1, .f32⟩
  | .hbm, ⟨29, _⟩ => ⟨S_, .f32⟩
  | .hbm, ⟨30, _⟩ => ⟨S32x8x1, .f32⟩
  | .hbm, ⟨31, _⟩ => ⟨S32x8x1, .f32⟩
  | .hbm, ⟨32, _⟩ => ⟨S_, .f32⟩
  | .hbm, ⟨33, _⟩ => ⟨S32x8x1, .f32⟩
  | .hbm, ⟨34, _⟩ => ⟨S32x8x1, .f32⟩
  | .hbm, ⟨35, _⟩ => ⟨S32x8x1, .f32⟩
  | .hbm, ⟨36, _⟩ => ⟨S32x8x64, .f32⟩
  | .hbm, ⟨37, _⟩ => ⟨S32x8x64, .f32⟩
  | .hbm, ⟨38, _⟩ => ⟨S1x1x64, .f32⟩
  | .hbm, ⟨39, _⟩ => ⟨S32x8x64, .f32⟩
  | .hbm, ⟨40, _⟩ => ⟨S32x8x64, .f32⟩
  | .hbm, ⟨41, _⟩ => ⟨S32x512, .f32⟩
  | .hbm, ⟨42, _⟩ => ⟨S32x512, .f32⟩
  | _, _ => ⟨S16416x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Proof.Proj.lean ====
/- The projection into all branches (`Kernel2`): what the grid leaves in the result is, element by element, the row
   of the normalised input times the column of the weights — the reference's one contraction. -/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Tactic

@[expose] public section

noncomputable section

open Idealize.ShloMosaic Idealize.ShloMosaic.TcCoe Idealize.SL.Sem

namespace Cert.Kernel2Ideal.Proj

open Cert.Kernel2Ideal Cert.Kernel2Ideal.Gen Cert.Kernel2Ideal.Value

theorem hz : (![0, 0] : Fin 2 → Nat) = fun _ => 0 := funext fun a => by fin_cases a <;> rfl

section AnyF
variable {F : FTy → Type} [FloatOps F]

/-- The first point of a row block leaves the normalised rows in the carried scratch. -/
theorem sout_A (c : Dev nD) (i : grid0.Coords) (a2 : Memref sig .tc .vmem S912x1024 .f32) (h2 : a2.IsWhole) (a3 : Memref sig .tc .vmem S1x1024 .f32) (h3 : a3.IsWhole) (a4 : Memref sig .tc .vmem S1024x1408 .bf16) (h4 : a4.IsWhole) (a5 : Memref sig .tc .vmem S912x1408 .f32) (h5 : a5.IsWhole) (a6 : Memref sig .tc .vmem S912x1024 .bf16) (h6 : a6.IsWhole) (hc : cond0_0 i)
    (x0 : Vec F S912x1024 .f32) (x1 : Vec F S1x1024 .f32) (x2 : Vec F S1024x1408 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero (S := S912x1024) hz]
  simp only [View.readAt_eq_ld, h2.read_unread, h3.read_unread, View.ld_unit_zero (S := S912x1024) hz, View.ld_unit_zero (S := S1x1024) hz]

/-- The first point of a row block: the normalised rows times the point's columns. -/
theorem out_A (c : Dev nD) (i : grid0.Coords) (a2 : Memref sig .tc .vmem S912x1024 .f32) (h2 : a2.IsWhole) (a3 : Memref sig .tc .vmem S1x1024 .f32) (h3 : a3.IsWhole) (a4 : Memref sig .tc .vmem S1024x1408 .bf16) (h4 : a4.IsWhole) (a5 : Memref sig .tc .vmem S912x1408 .f32) (h5 : a5.IsWhole) (a6 : Memref sig .tc .vmem S912x1024 .bf16) (h6 : a6.IsWhole) (hc : cond0_0 i)
    (x0 : Vec F S912x1024 .f32) (x1 : Vec F S1x1024 .f32) (x2 : Vec F S1024x1408 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero (S := S912x1408) hz, View.readCov_unit_zero (S := S912x1024) _ hz]
  simp only [View.readAt_eq_ld, h2.read_unread, h3.read_unread, h4.read_unread, View.ld_unit_zero (S := S912x1024) hz, View.ld_unit_zero (S := S1x1024) hz, View.ld_unit_zero (S := S1024x1408) hz]

/-- A later point of a row block: the carried rows times the point's columns. -/
theorem out_B (c : Dev nD) (i : grid0.Coords) (a2 : Memref sig .tc .vmem S912x1024 .f32) (h2 : a2.IsWhole) (a3 : Memref sig .tc .vmem S1x1024 .f32) (h3 : a3.IsWhole) (a4 : Memref sig .tc .vmem S1024x1408 .bf16) (h4 : a4.IsWhole) (a5 : Memref sig .tc .vmem S912x1408 .f32) (h5 : a5.IsWhole) (a6 : Memref sig .tc .vmem S912x1024 .bf16) (h6 : a6.IsWhole) (hc : ¬cond0_0 i)
    (x0 : Vec F S912x1024 .f32) (x1 : Vec F S1x1024 .f32) (x2 : Vec F S1024x1408 .bf16) (xs : Vec F S912x1024 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero (S := S912x1408) hz]
  simp only [View.readAt_eq_ld, h6.read_unread, h4.read_unread, View.ld_unit_zero (S := S912x1024) hz, View.ld_unit_zero (S := S1024x1408) hz]

end AnyF

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 4 :=
  (by decide +kernel : ∀ t : Fin grid0.N, _)

variable (m : (ℓ : Loc nD τ sig) → Buf (Elt Ideal) ℓ)

abbrev X (c : Dev nD) : Vec Ideal S16416x1024 .f32 := m ((c : Thread nD τ).loc main_arg0)
abbrev Gn (c : Dev nD) : Vec Ideal S1024 .f32 := m ((c : Thread nD τ).loc main_arg1)
abbrev W (c : Dev nD) : Vec Ideal S1024x5632 .f32 := m ((c : Thread nD τ).loc main_arg2)

theorem iblk0 (c : Dev nD) (t : Fin cfg0.N) (a : Fin 912) (b : Fin 1024) (r : Fin 16416) (hr : r.val = 912 * (t.val / 4) + a.val) :
    iblk m c 0 t (ix2 a b) = X m c (ix2 r b) := by
  obtain ⟨e0, e1⟩ := idx0 t
  show V m c main_arg0 (((cfg0.win 0).blk t).view.emb (ix2 a b)) = _
  rw [V_main_arg0]
  refine congrArg (X m c) (funext fun d => Fin.ext ?_)
  match d with
  | ⟨0, _⟩ => show win0_0.index t (0 : Fin 2) * 912 + 1 * a.val = r.val; omega
  | ⟨1, _⟩ => show win0_0.index t (1 : Fin 2) * 1024 + 1 * b.val = b.val; omega

theorem iblk1 (c : Dev nD) (t : Fin cfg0.N) (b : Fin 1024) :
    iblk m c 1 t (ix2 (0 : Fin 1) b) = Gn m c (ix1 b) := by
  obtain ⟨e0, e1⟩ := idx1 t
  show V m c main_v1 (((cfg0.win 1).blk t).view.emb (ix2 (0 : Fin 1) b)) = _
  have e : ((cfg0.win 1).blk t).view.emb (ix2 (0 : Fin 1) b) = (ix2 (0 : Fin 1) b : S1x1024.Idx) := funext fun d => Fin.ext (by
    match d with
    | ⟨0, _⟩ => show win0_1.index t (0 : Fin 2) * 1 + 1 * 0 = 0; omega
    | ⟨1, _⟩ => show win0_1.index t (1 : Fin 2) * 1024 + 1 * b.val = b.val; omega)
  rw [e, show V m c main_v1 = shapeCast S1x1024 (Gn m c) shapeCasts_S1024_S1x1024 from by dsimp only [V, hostOps0]; after_results; rfl]
  pointwise

theorem iblk2 (c : Dev nD) (t : Fin cfg0.N) (k : Fin 1024) (b : Fin 1408) (q : Fin 5632) (hq : q.val = 1408 * (t.val % 4) + b.val) :
    iblk m c 2 t (ix2 k b) = W m c (ix2 k q) := by
  obtain ⟨e0, e1⟩ := idx2 t
  show V m c main_v0 (((cfg0.win 2).blk t).view.emb (ix2 k b)) = _
  have e : ((cfg0.win 2).blk t).view.emb (ix2 k b) = (ix2 k q : S1024x5632.Idx) := funext fun d => Fin.ext (by
    match d with
    | ⟨0, _⟩ => show win0_2.index t (0 : Fin 2) * 1024 + 1 * k.val = k.val; omega
    | ⟨1, _⟩ => show win0_2.index t (1 : Fin 2) * 1408 + 1 * b.val = q.val; omega)
  rw [e, show V m c main_v0 = (truncf (F := Ideal) .bf16 (W m c) bitsLt_bf16_f32 : FVec Ideal S1024x5632 .bf16) from by dsimp only [V, hostOps0]; after_results]
  pointwise

/-- The normalised row, scaled, at one place. -/
def normed (x : Vec Ideal S16416x1024 .f32) (g : Vec Ideal S1024 .f32) (r : Fin 16416) (k : Fin 1024) : EReal :=
  x (ix2 r k) * Ideal.rsqrt (Ideal.div (∑ k' : Fin 1024, x (ix2 r k') * x (ix2 r k')) (Ideal.ofBits FTy.f32 0x44800000#32) + Ideal.ofBits FTy.f32 0x358637BD#32) * g (ix1 k)

theorem pay1_apply (x : Vec Ideal S912x1024 .f32) (g : Vec Ideal S1x1024 .f32) (a : Fin 912) (b : Fin 1024) :
    k0_pay1 x g (ix2 a b) = x (ix2 a b) * Ideal.rsqrt (Ideal.div (∑ k' : Fin 1024, x (ix2 a k') * x (ix2 a k')) (Ideal.ofBits FTy.f32 0x44800000#32) + Ideal.ofBits FTy.f32 0x358637BD#32) * g (ix2 (0 : Fin 1) b) := by
  pointwise [k0_pay1]

theorem pay2_apply (x : Vec Ideal S912x1024 .bf16) (w : Vec Ideal S1024x1408 .bf16) (a : Fin 912) (b : Fin 1408) :
    k0_pay2 x w (ix2 a b) = ∑ k : Fin 1024, x (ix2 a k) * w (ix2 k b) := by
  pointwise [k0_pay2, dot_S912x1024_S1024x1408_S912x1408_1_0_0_1_n_n]

/-- The carried scratch after a point: the normalised rows of the point's row block. -/
theorem carried (c : Dev nD) : ∀ (n : ℕ) (h : n < cfg0.N) (a : Fin 912) (b : Fin 1024) (r : Fin 16416), r.val = 912 * (n / 4) + a.val →
    (outsAt0 m c n h).2 (ix2 a b) = normed (X m c) (Gn m c) r b := by
  have base : ∀ (n : ℕ) (h : n < cfg0.N), n % 4 = 0 → ∀ (a : Fin 912) (b : Fin 1024) (r : Fin 16416), r.val = 912 * (n / 4) + a.val →
      (outsAt0 m c n h).2 (ix2 a b) = normed (X m c) (Gn m c) r b := by
    intro n h h0 a b r hr
    rw [outsAt0_A m c ⟨n, h⟩ h0]
    dsimp only
    rw [sout_A, pay1_apply, iblk1, iblk0 m c ⟨n, h⟩ a b r hr]
    unfold normed
    simp only [iblk0 m c ⟨n, h⟩ a _ r hr]
  intro n
  induction n with
  | zero => intro h; exact base 0 h rfl
  | succ n ih =>
    intro h a b r hr
    by_cases h0 : (n + 1) % 4 = 0
    · exact base _ h h0 a b r hr
    · rw [outsAt0_B m c ⟨n + 1, h⟩ h0]
      exact ih (Nat.lt_of_succ_lt h) a b r (by omega)

/-- What a point leaves in its block of the result. -/
theorem left (c : Dev nD) (n : ℕ) (h : n < cfg0.N) (a : Fin 912) (b : Fin 1408) (r : Fin 16416) (q : Fin 5632)
    (hr : r.val = 912 * (n / 4) + a.val) (hq : q.val = 1408 * (n % 4) + b.val) :
    (outsAt0 m c n h).1 (ix2 a b) = ∑ k : Fin 1024, normed (X m c) (Gn m c) r k * W m c (ix2 k q) := by
  have hs := fun k => carried m c n h a k r hr
  by_cases h0 : n % 4 = 0
  · rw [outsAt0_A m c ⟨n, h⟩ h0] at hs ⊢
    dsimp only at hs ⊢
    rw [out_A, pay2_apply]
    refine Finset.sum_congr rfl fun k _ => ?_
    rw [← hs k, sout_A, iblk2 m c ⟨n, h⟩ k b q hq]
  · rw [outsAt0_B m c ⟨n, h⟩ h0] at hs ⊢
    dsimp only at hs ⊢
    rw [out_B, pay2_apply]
    refine Finset.sum_congr rfl fun k _ => ?_
    rw [← hs k, iblk2 m c ⟨n, h⟩ k b q hq]
    rfl

end Cert.Kernel2Ideal.Proj

namespace Cert.Kernel2Ideal.Proj

open Cert.Reference2Ideal.Read in
theorem ref_apply (x : Vec Ideal Cert.Kernel2Ideal.S16416x1024 .f32) (g : Vec Ideal Cert.Kernel2Ideal.S1024 .f32) (w : Vec Ideal Cert.Kernel2Ideal.S1024x5632 .f32) (r : Fin 16416) (q : Fin 5632) :
    val_main_v13 (F := Ideal) x g w (ix2 r q) = ∑ k : Fin 1024, normed x g r k * w (ix2 k q) := by
  unfold normed
  pointwise [val_main_v13, Cert.Reference2Ideal.dot_S16416x1024_S1024x5632_S16416x5632_1_0_0_1_n_n, val_main_v12, val_main_v11, val_main_v10, val_main_v9, val_main_v8, val_main_v7, val_main_v6, val_main_v5, val_main_v4, val_main_v3, val_main_v2, val_main_v1, val_main_v0, val_main_cst, val_main_cst_0, val_main_cst_1]

open Cert.Kernel2Ideal Cert.Kernel2Ideal.Gen Cert.Kernel2Ideal.Value

/-- The result array after the run is the reference's. -/
theorem final (m : (ℓ : Loc nD τ sig) → Buf (Elt Ideal) ℓ) (c : Dev nD) :
    G3 m c = Cert.Reference2Ideal.Read.val_main_v13 (F := Ideal) (X m c) (Gn m c) (W m c) := by
  funext i
  obtain ⟨r, q, rfl⟩ : ∃ (r : Fin 16416) (q : Fin 5632), i = ix2 r q := ⟨i 0, i 1, by funext a; match a with | ⟨0, _⟩ => rfl | ⟨1, _⟩ => rfl⟩
  have hN : cfg0.N = 72 := N_0
  have hr := r.isLt
  have hq := q.isLt
  unfold G3
  have hp : pt3Of (ix2 r q) = 4 * (r.val / 912) + q.val / 1408 := by
    show 4 * (r.val / 912 - 0) + 1 * (q.val / 1408 - 0) = _
    omega
  have hlt : pt3Of (ix2 r q) < cfg0.N := by rw [hp, hN]; omega
  rw [dif_pos hlt, ← outsAt0_sweep m c _ hlt]
  rw [ref_apply, show loc3Of (ix2 r q) = ix2 (⟨r.val % 912, Nat.mod_lt _ (by decide)⟩ : Fin 912) (⟨q.val % 1408, Nat.mod_lt _ (by decide)⟩ : Fin 1408) from funext fun a => match a with | ⟨0, _⟩ => rfl | ⟨1, _⟩ => rfl]
  exact left m c _ hlt ⟨r.val % 912, Nat.mod_lt _ (by decide)⟩ ⟨q.val % 1408, Nat.mod_lt _ (by decide)⟩ r q
    (by rw [hp]; dsimp only; omega) (by rw [hp]; dsimp only; omega)

end Cert.Kernel2Ideal.Proj

end
-- ==== Proof.Arith.lean ====
/- Facts about the extended reals that the value proofs share. -/
module

public import Idealize.ShloMosaic.Lib.Pointwise

@[expose] public section

noncomputable section

open Idealize.ShloMosaic

namespace Arith

/-- The exponential is never negative, so one plus it is never zero. -/
theorem one_add_exp_ne (y : EReal) : (1 : EReal) + Ideal.exp y ≠ 0 := by
  have h : (0 : EReal) ≤ Ideal.exp y := by
    induction y using EReal.rec with
    | bot => exact le_refl (0 : EReal)
    | top => exact (le_top : (0 : EReal) ≤ ⊤)
    | coe r =>
      have : Ideal.exp (r : EReal) = ((Real.exp r : ℝ) : EReal) := rfl
      rw [this]; exact_mod_cast (Real.exp_pos r).le
  intro h0
  have h1 : (1 : EReal) ≤ 1 + Ideal.exp y := le_add_of_nonneg_right h
  rw [h0] at h1
  exact absurd h1 (by norm_num)

/-- Dividing by one plus an exponential is multiplying by one over it. -/
theorem div_one_add_exp (x y : EReal) : Ideal.div x (1 + Ideal.exp y) = x * Ideal.div 1 (1 + Ideal.exp y) := by
  unfold Ideal.div
  rw [if_neg (one_add_exp_ne y), if_neg (one_add_exp_ne y), one_mul]

/-- A sum over 2·1408 positions in its two halves. -/
theorem sum_2816 (f : Fin 2816 → EReal) : ∑ k, f k = (∑ k : Fin 1408, f ⟨k.val, by omega⟩) + ∑ k : Fin 1408, f ⟨1408 + k.val, by omega⟩ :=
  Fin.sum_univ_add (a := 1408) (b := 1408) f

/-- A sum over 2·512 positions in its two halves. -/
theorem sum_1024 (f : Fin 1024 → EReal) : ∑ k, f k = (∑ k : Fin 512, f ⟨k.val, by omega⟩) + ∑ k : Fin 512, f ⟨512 + k.val, by omega⟩ :=
  Fin.sum_univ_add (a := 512) (b := 512) f

/-- The exponential is never negative. -/
theorem exp_nonneg (y : EReal) : (0 : EReal) ≤ Ideal.exp y := by
  induction y using EReal.rec with
  | bot => exact le_refl (0 : EReal)
  | top => exact (le_top : (0 : EReal) ≤ ⊤)
  | coe r =>
    have : Ideal.exp (r : EReal) = ((Real.exp r : ℝ) : EReal) := rfl
    rw [this]; exact_mod_cast (Real.exp_pos r).le

theorem exp_ne_top {y : EReal} (h : y ≠ ⊤) : Ideal.exp y ≠ ⊤ := by
  induction y using EReal.rec with
  | bot => exact EReal.zero_ne_top
  | top => exact absurd rfl h
  | coe r => exact EReal.coe_ne_top _

theorem log_ne_top {y : EReal} (h : y ≠ ⊤) : Ideal.log y ≠ ⊤ := by
  induction y using EReal.rec with
  | bot => exact bot_ne_top
  | top => exact absurd rfl h
  | coe r =>
    have : Ideal.log (r : EReal) = if r ≤ 0 then ⊥ else (Real.log r : EReal) := rfl
    rw [this]; split
    · exact bot_ne_top
    · exact EReal.coe_ne_top _

theorem log_ne_bot {y : EReal} (h : 1 ≤ y) : Ideal.log y ≠ ⊥ := by
  induction y using EReal.rec with
  | bot => exact absurd (le_bot_iff.mp h) (by decide)
  | top => exact top_ne_bot
  | coe r =>
    have h1 : (1 : ℝ) ≤ r := by exact_mod_cast h
    have : Ideal.log (r : EReal) = if r ≤ 0 then ⊥ else (Real.log r : EReal) := rfl
    rw [this, if_neg (by linarith)]
    exact EReal.coe_ne_bot _

/-- Minus an absolute value is not positive. -/
theorem neg_abs_ne_top (x : EReal) : -(max x (-x)) ≠ ⊤ := by
  rw [Ne, EReal.neg_eq_top_iff, max_eq_bot]
  rintro ⟨rfl, h⟩
  exact top_ne_bot h

theorem log_soft_ne_top (x : EReal) : Ideal.log (1 + Ideal.exp (-(max x (-x)))) ≠ ⊤ :=
  log_ne_top (EReal.add_ne_top (by exact EReal.coe_ne_top 1) (exp_ne_top (neg_abs_ne_top x)))

theorem log_soft_ne_bot (x : EReal) : Ideal.log (1 + Ideal.exp (-(max x (-x)))) ≠ ⊥ :=
  log_ne_bot (le_add_of_nonneg_right (exp_nonneg _))

/-- What three rounds of splitting a number add up to. -/
def split (x : EReal) : EReal := x + (x - x) + ((x - x) - (x - x))

/-- What is left over is zero, or minus infinity again where the number was. -/
theorem split_eq {x : EReal} (h : x ≠ ⊤) : split x = x := by
  unfold split
  induction x using EReal.rec with
  | bot => rfl
  | top => exact absurd rfl h
  | coe r =>
    have : (r : EReal) - r = 0 := by rw [← EReal.coe_sub, sub_self]; rfl
    rw [this, sub_zero, add_zero, add_zero]

theorem split_top : split ⊤ = ⊥ := rfl

/-- Three rounds of splitting a number and summing the masked parts. -/
theorem split_mask (c : Prop) [Decidable c] (x : EReal) :
    (if c then (1 : EReal) else 0) * x + (if c then (1 : EReal) else 0) * (x - x) + (if c then (1 : EReal) else 0) * ((x - x) - (x - x)) = if c then split x else 0 := by
  by_cases hc : c
  · simp only [if_pos hc, one_mul, split]
  · simp only [if_neg hc, zero_mul, add_zero]

/-- A mask's entry is positive where the mask is set. -/
theorem mask_pos (c : Prop) [Decidable c] (x : EReal) : (if (0 : EReal) < (if c then 1 else 0) then x else 0) = if c then x else 0 := by
  by_cases hc : c
  · simp only [if_pos hc, if_pos (zero_lt_one : (0 : EReal) < 1)]
  · simp only [if_neg hc, if_neg (lt_irrefl (0 : EReal))]

/-- A sum over 256 rows of which only one chunk's count is the sum over that chunk. -/
theorem sum_chunk (F : Fin 256 → EReal) (p : ℕ) (hp : p < 16) :
    (∑ s : Fin 256, if s.val / 16 = p then F s else 0) = ∑ i : Fin 16, F ⟨16 * p + i.val, by omega⟩ := by
  rw [← Finset.sum_filter]
  symm
  refine Finset.sum_bij (fun (i : Fin 16) _ => (⟨16 * p + i.val, by omega⟩ : Fin 256)) ?_ ?_ ?_ ?_
  · intro i _
    simp only [Finset.mem_filter, Finset.mem_univ, true_and]
    omega
  · intro i _ j _ e
    have := congrArg Fin.val e
    exact Fin.ext (by simpa using this)
  · intro s hs
    simp only [Finset.mem_filter, Finset.mem_univ, true_and] at hs
    exact ⟨⟨s.val % 16, by omega⟩, Finset.mem_univ _, Fin.ext (by show 16 * p + s.val % 16 = s.val; omega)⟩
  · intro i _; rfl

end Arith

end
-- ==== Proof.Ffn.lean ====
/- The dense feed-forward step (`Kernel3`): a row block's two grid points add the two halves of the hidden width's
   contraction, and the sum of both is the reference's one contraction. -/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Arith
public import Idealize.ShloMosaic.Lib.Tactic

@[expose] public section

noncomputable section

open Idealize.ShloMosaic Idealize.ShloMosaic.TcCoe Idealize.SL.Sem

namespace Cert.Kernel3Ideal.Ffn

open Cert.Kernel3Ideal Cert.Kernel3Ideal.Gen Cert.Kernel3Ideal.Value

theorem hz : (![0, 0] : Fin 2 → Nat) = fun _ => 0 := funext fun a => by fin_cases a <;> rfl

section AnyF
variable {F : FTy → Type} [FloatOps F]

/-- The first point of a row block leaves the normalised rows in the first scratch. -/
theorem sout_A0 (c : Dev nD) (i : grid0.Coords) (arg2 : Memref sig .tc .vmem S432x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S432x1024 .f32) (harg7 : arg7.IsWhole) (arg8 : Memref sig .tc .vmem S432x1024 .bf16) (harg8 : arg8.IsWhole) (arg9 : Memref sig .tc .vmem S432x1024 .f32) (harg9 : arg9.IsWhole) (hc0 : cond0_0 i) (hc1 : ¬cond0_1 i) (x0 : Vec F S432x1024 .f32) (x1 : Vec F S1x1024 .f32) (x2 : Vec F S1024x1408 .bf16) (x3 : Vec F S1024x1408 .bf16) (x4 : Vec F S1408x1024 .bf16) :
    sout0_A_0 c i arg2 harg2 arg3 harg3 arg4 harg4 arg5 harg5 arg6 harg6 arg7 harg7 arg8 harg8 arg9 harg9 hc0 hc1 x0 x1 x2 x3 x4 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero (S := S432x1024) hz]
  simp only [View.readAt_eq_ld, harg2.read_unread, harg3.read_unread, harg4.read_unread, harg5.read_unread, harg6.read_unread, harg7.read_unread, harg8.read_unread, harg9.read_unread, View.ld_unit_zero (S := S432x1024) hz, View.ld_unit_zero (S := S1x1024) hz, View.ld_unit_zero (S := S1024x1408) hz, View.ld_unit_zero (S := S1408x1024) hz]

/-- … and the first half of the contraction in the second. -/
theorem sout_A1 (c : Dev nD) (i : grid0.Coords) (arg2 : Memref sig .tc .vmem S432x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S432x1024 .f32) (harg7 : arg7.IsWhole) (arg8 : Memref sig .tc .vmem S432x1024 .bf16) (harg8 : arg8.IsWhole) (arg9 : Memref sig .tc .vmem S432x1024 .f32) (harg9 : arg9.IsWhole) (hc0 : cond0_0 i) (hc1 : ¬cond0_1 i) (x0 : Vec F S432x1024 .f32) (x1 : Vec F S1x1024 .f32) (x2 : Vec F S1024x1408 .bf16) (x3 : Vec F S1024x1408 .bf16) (x4 : Vec F S1408x1024 .bf16) :
    sout0_A_1 c i arg2 harg2 arg3 harg3 arg4 harg4 arg5 harg5 arg6 harg6 arg7 harg7 arg8 harg8 arg9 harg9 hc0 hc1 x0 x1 x2 x3 x4 = k0_pay3 (k0_pay1 x0 x1) x2 x3 k0_pay2 x4 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S432x1024) hz, View.readCov_unit_zero (S := S432x1024) _ hz, View.readCov_unit_zero (S := S432x1024) _ hz]
  simp only [View.readAt_eq_ld, harg2.read_unread, harg3.read_unread, harg4.read_unread, harg5.read_unread, harg6.read_unread, harg7.read_unread, harg8.read_unread, harg9.read_unread, View.ld_unit_zero (S := S432x1024) hz, View.ld_unit_zero (S := S1x1024) hz, View.ld_unit_zero (S := S1024x1408) hz, View.ld_unit_zero (S := S1408x1024) hz]

/-- The second point adds the second half. -/
theorem sout_B1 (c : Dev nD) (i : grid0.Coords) (arg2 : Memref sig .tc .vmem S432x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S432x1024 .f32) (harg7 : arg7.IsWhole) (arg8 : Memref sig .tc .vmem S432x1024 .bf16) (harg8 : arg8.IsWhole) (arg9 : Memref sig .tc .vmem S432x1024 .f32) (harg9 : arg9.IsWhole) (hc0 : ¬cond0_0 i) (hc1 : cond0_1 i) (x0 : Vec F S432x1024 .f32) (x1 : Vec F S1x1024 .f32) (x2 : Vec F S1024x1408 .bf16) (x3 : Vec F S1024x1408 .bf16) (x4 : Vec F S1408x1024 .bf16) (xs0 : Vec F S432x1024 .bf16) (xs1 : Vec F S432x1024 .f32) :
    sout0_B_1 c i arg2 harg2 arg3 harg3 arg4 harg4 arg5 harg5 arg6 harg6 arg7 harg7 arg8 harg8 arg9 harg9 hc0 hc1 x0 x1 x2 x3 x4 xs0 xs1 = k0_pay3 xs0 x2 x3 xs1 x4 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero (S := S432x1024) hz]
  simp only [View.readAt_eq_ld, harg2.read_unread, harg3.read_unread, harg4.read_unread, harg5.read_unread, harg6.read_unread, harg7.read_unread, harg8.read_unread, harg9.read_unread, View.ld_unit_zero (S := S432x1024) hz, View.ld_unit_zero (S := S1x1024) hz, View.ld_unit_zero (S := S1024x1408) hz, View.ld_unit_zero (S := S1408x1024) hz]

/-- … and writes the sum with the input rows. -/
theorem out_B (c : Dev nD) (i : grid0.Coords) (arg2 : Memref sig .tc .vmem S432x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S432x1024 .f32) (harg7 : arg7.IsWhole) (arg8 : Memref sig .tc .vmem S432x1024 .bf16) (harg8 : arg8.IsWhole) (arg9 : Memref sig .tc .vmem S432x1024 .f32) (harg9 : arg9.IsWhole) (hc0 : ¬cond0_0 i) (hc1 : cond0_1 i) (x0 : Vec F S432x1024 .f32) (x1 : Vec F S1x1024 .f32) (x2 : Vec F S1024x1408 .bf16) (x3 : Vec F S1024x1408 .bf16) (x4 : Vec F S1408x1024 .bf16) (xs0 : Vec F S432x1024 .bf16) (xs1 : Vec F S432x1024 .f32) :
    out0_B_5 c i arg2 harg2 arg3 harg3 arg4 harg4 arg5 harg5 arg6 harg6 arg7 harg7 arg8 harg8 arg9 harg9 hc0 hc1 x0 x1 x2 x3 x4 xs0 xs1 = k0_pay4 x0 (k0_pay3 xs0 x2 x3 xs1 x4) := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero (S := S432x1024) hz, View.readCov_unit_zero (S := S432x1024) _ hz]
  simp only [View.readAt_eq_ld, harg2.read_unread, harg3.read_unread, harg4.read_unread, harg5.read_unread, harg6.read_unread, harg7.read_unread, harg8.read_unread, harg9.read_unread, View.ld_unit_zero (S := S432x1024) hz, View.ld_unit_zero (S := S1x1024) hz, View.ld_unit_zero (S := S1024x1408) hz, View.ld_unit_zero (S := S1408x1024) hz]

end AnyF

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 2 :=
  (by decide +kernel : ∀ t : Fin grid0.N, _)
theorem idx3 : ∀ t : Fin cfg0.N, win0_3.index t (0 : Fin 2) = 0 ∧ win0_3.index t (1 : Fin 2) = t.val % 2 :=
  (by decide +kernel : ∀ t : Fin grid0.N, _)
theorem idx4 : ∀ t : Fin cfg0.N, win0_4.index t (0 : Fin 2) = t.val % 2 ∧ win0_4.index t (1 : Fin 2) = 0 :=
  (by decide +kernel : ∀ t : Fin grid0.N, _)

variable (m : (ℓ : Loc nD τ sig) → Buf (Elt Ideal) ℓ)

abbrev X (c : Dev nD) : Vec Ideal S16416x1024 .f32 := m ((c : Thread nD τ).loc main_arg0)
abbrev Gn (c : Dev nD) : Vec Ideal S1024 .f32 := m ((c : Thread nD τ).loc main_arg1)
abbrev Wg (c : Dev nD) : Vec Ideal S1024x2816 .f32 := m ((c : Thread nD τ).loc main_arg2)
abbrev Wu (c : Dev nD) : Vec Ideal S1024x2816 .f32 := m ((c : Thread nD τ).loc main_arg3)
abbrev Wd (c : Dev nD) : Vec Ideal S2816x1024 .f32 := m ((c : Thread nD τ).loc main_arg4)

theorem iblk0 (c : Dev nD) (t : Fin cfg0.N) (a : Fin 432) (b : Fin 1024) (r : Fin 16416) (hr : r.val = 432 * (t.val / 2) + a.val) :
    iblk m c 0 t (ix2 a b) = X m c (ix2 r b) := by
  obtain ⟨e0, e1⟩ := idx0 t
  show V m c main_arg0 (((cfg0.win 0).blk t).view.emb (ix2 a b)) = _
  rw [V_main_arg0]
  refine congrArg (X m c) (funext fun d => Fin.ext ?_)
  match d with
  | ⟨0, _⟩ => show win0_0.index t (0 : Fin 2) * 432 + 1 * a.val = r.val; omega
  | ⟨1, _⟩ => show win0_0.index t (1 : Fin 2) * 1024 + 1 * b.val = b.val; omega

theorem iblk1 (c : Dev nD) (t : Fin cfg0.N) (b : Fin 1024) :
    iblk m c 1 t (ix2 (0 : Fin 1) b) = Gn m c (ix1 b) := by
  obtain ⟨e0, e1⟩ := idx1 t
  show V m c main_v3 (((cfg0.win 1).blk t).view.emb (ix2 (0 : Fin 1) b)) = _
  have e : ((cfg0.win 1).blk t).view.emb (ix2 (0 : Fin 1) b) = (ix2 (0 : Fin 1) b : S1x1024.Idx) := funext fun d => Fin.ext (by
    match d with
    | ⟨0, _⟩ => show win0_1.index t (0 : Fin 2) * 1 + 1 * 0 = 0; omega
    | ⟨1, _⟩ => show win0_1.index t (1 : Fin 2) * 1024 + 1 * b.val = b.val; omega)
  rw [e, show V m c main_v3 = shapeCast S1x1024 (Gn m c) shapeCasts_S1024_S1x1024 from by dsimp only [V, hostOps0]; after_results; rfl]
  pointwise

theorem iblk2 (c : Dev nD) (t : Fin cfg0.N) (k : Fin 1024) (b : Fin 1408) (q : Fin 2816) (hq : q.val = 1408 * (t.val % 2) + b.val) :
    iblk m c 2 t (ix2 k b) = Wg m c (ix2 k q) := by
  obtain ⟨e0, e1⟩ := idx2 t
  show V m c main_v0 (((cfg0.win 2).blk t).view.emb (ix2 k b)) = _
  have e : ((cfg0.win 2).blk t).view.emb (ix2 k b) = (ix2 k q : S1024x2816.Idx) := funext fun d => Fin.ext (by
    match d with
    | ⟨0, _⟩ => show win0_2.index t (0 : Fin 2) * 1024 + 1 * k.val = k.val; omega
    | ⟨1, _⟩ => show win0_2.index t (1 : Fin 2) * 1408 + 1 * b.val = q.val; omega)
  rw [e, show V m c main_v0 = (truncf (F := Ideal) .bf16 (Wg m c) bitsLt_bf16_f32 : FVec Ideal S1024x2816 .bf16) from by dsimp only [V, hostOps0]; after_results]
  pointwise

theorem iblk3 (c : Dev nD) (t : Fin cfg0.N) (k : Fin 1024) (b : Fin 1408) (q : Fin 2816) (hq : q.val = 1408 * (t.val % 2) + b.val) :
    iblk m c 3 t (ix2 k b) = Wu m c (ix2 k q) := by
  obtain ⟨e0, e1⟩ := idx3 t
  show V m c main_v1 (((cfg0.win 3).blk t).view.emb (ix2 k b)) = _
  have e : ((cfg0.win 3).blk t).view.emb (ix2 k b) = (ix2 k q : S1024x2816.Idx) := funext fun d => Fin.ext (by
    match d with
    | ⟨0, _⟩ => show win0_3.index t (0 : Fin 2) * 1024 + 1 * k.val = k.val; omega
    | ⟨1, _⟩ => show win0_3.index t (1 : Fin 2) * 1408 + 1 * b.val = q.val; omega)
  rw [e, show V m c main_v1 = (truncf (F := Ideal) .bf16 (Wu m c) bitsLt_bf16_f32 : FVec Ideal S1024x2816 .bf16) from by dsimp only [V, hostOps0]; after_results]
  pointwise

theorem iblk4 (c : Dev nD) (t : Fin cfg0.N) (k : Fin 1408) (b : Fin 1024) (q : Fin 2816) (hq : q.val = 1408 * (t.val % 2) + k.val) :
    iblk m c 4 t (ix2 k b) = Wd m c (ix2 q b) := by
  obtain ⟨e0, e1⟩ := idx4 t
  show V m c main_v2 (((cfg0.win 4).blk t).view.emb (ix2 k b)) = _
  have e : ((cfg0.win 4).blk t).view.emb (ix2 k b) = (ix2 q b : S2816x1024.Idx) := funext fun d => Fin.ext (by
    match d with
    | ⟨0, _⟩ => show win0_4.index t (0 : Fin 2) * 1408 + 1 * k.val = q.val; omega
    | ⟨1, _⟩ => show win0_4.index t (1 : Fin 2) * 1024 + 1 * b.val = b.val; omega)
  rw [e, show V m c main_v2 = (truncf (F := Ideal) .bf16 (Wd m c) bitsLt_bf16_f32 : FVec Ideal S2816x1024 .bf16) from by dsimp only [V, hostOps0]; after_results]
  pointwise

/-- The normalised row, scaled, at one place. -/
def normed (x : Vec Ideal S16416x1024 .f32) (g : Vec Ideal S1024 .f32) (r : Fin 16416) (k : Fin 1024) : EReal :=
  x (ix2 r k) * Ideal.rsqrt (Ideal.div (∑ k' : Fin 1024, x (ix2 r k') * x (ix2 r k')) (Ideal.ofBits FTy.f32 0x44800000#32) + Ideal.ofBits FTy.f32 0x358637BD#32) * g (ix1 k)

/-- One hidden unit's value at a row: the gate through its own sigmoid, times the other branch. -/
def hidden (x : Vec Ideal S16416x1024 .f32) (g : Vec Ideal S1024 .f32) (wg wu : Vec Ideal S1024x2816 .f32) (r : Fin 16416) (q : Fin 2816) : EReal :=
  (∑ k : Fin 1024, normed x g r k * wg (ix2 k q)) * Ideal.div 1 (1 + Ideal.exp (-∑ k : Fin 1024, normed x g r k * wg (ix2 k q))) * ∑ k : Fin 1024, normed x g r k * wu (ix2 k q)

theorem pay1_apply (x : Vec Ideal S432x1024 .f32) (g : Vec Ideal S1x1024 .f32) (a : Fin 432) (b : Fin 1024) :
    k0_pay1 x g (ix2 a b) = x (ix2 a b) * Ideal.rsqrt (Ideal.div (∑ k' : Fin 1024, x (ix2 a k') * x (ix2 a k')) (Ideal.ofBits FTy.f32 0x44800000#32) + Ideal.ofBits FTy.f32 0x358637BD#32) * g (ix2 (0 : Fin 1) b) := by
  pointwise [k0_pay1]

theorem pay2_apply (a : Fin 432) (b : Fin 1024) : k0_pay2 (F := Ideal) (ix2 a b) = 0 := by
  pointwise [k0_pay2]

theorem pay3_apply (h : Vec Ideal S432x1024 .bf16) (wg wu : Vec Ideal S1024x1408 .bf16) (acc : Vec Ideal S432x1024 .f32) (wd : Vec Ideal S1408x1024 .bf16) (a : Fin 432) (b : Fin 1024) :
    k0_pay3 h wg wu acc wd (ix2 a b) = acc (ix2 a b) + ∑ q : Fin 1408, (∑ k : Fin 1024, h (ix2 a k) * wg (ix2 k q)) * Ideal.div 1 (1 + Ideal.exp (-∑ k : Fin 1024, h (ix2 a k) * wg (ix2 k q))) * (∑ k : Fin 1024, h (ix2 a k) * wu (ix2 k q)) * wd (ix2 q b) := by
  pointwise [k0_pay3, dot_S432x1024_S1024x1408_S432x1408_1_0_0_1_n_n, dot_S432x1408_S1408x1024_S432x1024_1_0_0_1_n_n]
  simp only [Arith.div_one_add_exp (∑ k : Fin 1024, _), zero_sub]

theorem pay4_apply (x y : Vec Ideal S432x1024 .f32) (a : Fin 432) (b : Fin 1024) : k0_pay4 x y (ix2 a b) = x (ix2 a b) + y (ix2 a b) := by
  pointwise [k0_pay4]

theorem Nis : cfg0.N = 76 := N_0

/-- The first point of a row block: what it leaves in both scratch buffers. -/
theorem first (c : Dev nD) (n : ℕ) (h : n < cfg0.N) (h0 : n % 2 = 0) (a : Fin 432) (b : Fin 1024) (r : Fin 16416) (hr : r.val = 432 * (n / 2) + a.val) :
    (outsAt0 m c n h).2.1 (ix2 a b) = normed (X m c) (Gn m c) r b
    ∧ (outsAt0 m c n h).2.2 (ix2 a b) = 0 + ∑ q : Fin 1408, hidden (X m c) (Gn m c) (Wg m c) (Wu m c) r ⟨q.val, by omega⟩ * Wd m c (ix2 (⟨q.val, by omega⟩ : Fin 2816) b) := by
  have hn : ∀ b : Fin 1024, k0_pay1 (iblk m c 0 ⟨n, h⟩) (iblk m c 1 ⟨n, h⟩) (ix2 a b) = normed (X m c) (Gn m c) r b := by
    intro b
    rw [pay1_apply, iblk1, iblk0 m c ⟨n, h⟩ a b r hr]
    unfold normed
    simp only [iblk0 m c ⟨n, h⟩ a _ r hr]
  rw [outsAt0_A m c ⟨n, h⟩ h0 (by show ¬n % 2 = 1; omega)]
  dsimp only
  rw [sout_A0, sout_A1, pay3_apply, pay2_apply]
  refine ⟨hn b, ?_⟩
  refine congrArg (fun z : EReal => 0 + z) (Finset.sum_congr rfl fun q _ => ?_)
  unfold hidden
  rw [iblk4 m c ⟨n, h⟩ q b ⟨q.val, by omega⟩ (by dsimp only; omega)]
  simp only [hn, iblk2 m c ⟨n, h⟩ _ q ⟨q.val, by omega⟩ (by dsimp only; omega), iblk3 m c ⟨n, h⟩ _ q ⟨q.val, by omega⟩ (by dsimp only; omega)]

/-- The second point of a row block: what it leaves in its block of the result. -/
theorem left (c : Dev nD) (n : ℕ) (h : n < cfg0.N) (h1 : n % 2 = 1) (a : Fin 432) (b : Fin 1024) (r : Fin 16416) (hr : r.val = 432 * (n / 2) + a.val) :
    (outsAt0 m c n h).1 (ix2 a b) = X m c (ix2 r b) + ∑ q : Fin 2816, hidden (X m c) (Gn m c) (Wg m c) (Wu m c) r q * Wd m c (ix2 q b) := by
  have hf := fun b => first m c (n - 1) (Nat.lt_of_le_of_lt (Nat.sub_le _ _) h) (by omega) a b r (by omega)
  rw [outsAt0_B m c ⟨n, h⟩ (by show ¬n % 2 = 0; omega) h1]
  dsimp only
  rw [out_B, pay4_apply, pay3_apply, iblk0 m c ⟨n, h⟩ a b r hr, Arith.sum_2816, (hf b).2, zero_add]
  refine congrArg (fun z : EReal => _ + (_ + z)) (Finset.sum_congr rfl fun q _ => ?_)
  unfold hidden
  rw [iblk4 m c ⟨n, h⟩ q b ⟨1408 + q.val, by omega⟩ (by dsimp only; omega)]
  simp only [(hf _).1, iblk2 m c ⟨n, h⟩ _ q ⟨1408 + q.val, by omega⟩ (by dsimp only; omega), iblk3 m c ⟨n, h⟩ _ q ⟨1408 + q.val, by omega⟩ (by dsimp only; omega)]

end Cert.Kernel3Ideal.Ffn

namespace Cert.Kernel3Ideal.Ffn

open Cert.Reference3Ideal.Read in
theorem ref_apply (x : Vec Ideal Cert.Kernel3Ideal.S16416x1024 .f32) (g : Vec Ideal Cert.Kernel3Ideal.S1024 .f32) (wg wu : Vec Ideal Cert.Kernel3Ideal.S1024x2816 .f32) (wd : Vec Ideal Cert.Kernel3Ideal.S2816x1024 .f32) (r : Fin 16416) (q : Fin 1024) :
    val_main_v18 (F := Ideal) x g wg wu wd (ix2 r q) = x (ix2 r q) + ∑ k : Fin 2816, hidden x g wg wu r k * wd (ix2 k q) := by
  unfold hidden normed
  pointwise [val_main_v18, val_main_v17, val_main_v16, val_main_v15, val_main_v14, val_main_v13, val_main_call0_v5, val_main_call0_v4, val_main_call0_cst_0, val_main_call0_v3, val_main_call0_v2, val_main_call0_cst, val_main_call0_v1, val_main_call0_v0, Cert.Reference3Ideal.dot_S16416x1024_S1024x2816_S16416x2816_1_0_0_1_n_n, Cert.Reference3Ideal.dot_S16416x2816_S2816x1024_S16416x1024_1_0_0_1_n_n, val_main_v12, val_main_v11, val_main_v10, val_main_v9, val_main_v8, val_main_v7, val_main_v6, val_main_v5, val_main_v4, val_main_v3, val_main_v2, val_main_v1, val_main_v0, val_main_cst, val_main_cst_0, val_main_cst_1]

open Cert.Kernel3Ideal Cert.Kernel3Ideal.Gen Cert.Kernel3Ideal.Value

/-- The result array after the run is the reference's. -/
theorem final (m : (ℓ : Loc nD τ sig) → Buf (Elt Ideal) ℓ) (c : Dev nD) :
    G5 m c = Cert.Reference3Ideal.Read.val_main_v18 (F := Ideal) (X m c) (Gn m c) (Wg m c) (Wu m c) (Wd m c) := by
  funext i
  obtain ⟨r, q, rfl⟩ : ∃ (r : Fin 16416) (q : Fin 1024), i = ix2 r q := ⟨i 0, i 1, by funext a; match a with | ⟨0, _⟩ => rfl | ⟨1, _⟩ => rfl⟩
  have hN : cfg0.N = 76 := N_0
  have hr := r.isLt
  have hq := q.isLt
  unfold G5
  have hp : pt5Of (ix2 r q) = 2 * (r.val / 432) + 1 := by
    show 2 * (1 * (r.val / 432 - 0) + 1 * (q.val / 1024 - 0)) + 1 = _
    omega
  have hlt : pt5Of (ix2 r q) < cfg0.N := by rw [hp, hN]; omega
  rw [dif_pos hlt, ← outsAt0_sweep m c _ hlt]
  rw [ref_apply, show loc5Of (ix2 r q) = ix2 (⟨r.val % 432, Nat.mod_lt _ (by decide)⟩ : Fin 432) q from funext fun a => match a with | ⟨0, _⟩ => rfl | ⟨1, _⟩ => Fin.ext (Nat.mod_eq_of_lt q.isLt)]
  exact left m c _ hlt (by rw [hp]; omega) ⟨r.val % 432, Nat.mod_lt _ (by decide)⟩ q r (by rw [hp]; dsimp only; omega)

end Cert.Kernel3Ideal.Ffn

end
-- ==== Proof.Merge.lean ====
/- The merge step over the prompt rows (`Kernel4`): each grid point writes its 512 rows, the second branch read
   transposed and the output weights in two halves; the rows past the prompt keep what they held. -/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Arith
public import Idealize.ShloMosaic.Lib.Tactic
public import Idealize.ShloMosaic.Lib.Pipeline.ValueKit.Partial

@[expose] public section

noncomputable section

open Idealize.ShloMosaic Idealize.ShloMosaic.TcCoe Idealize.SL.Sem

namespace Cert.Kernel4Ideal.Merge

open Cert.Kernel4Ideal Cert.Kernel4Ideal.Gen Cert.Kernel4Ideal.Value

theorem hz : (![0, 0] : Fin 2 → Nat) = fun _ => 0 := funext fun a => by fin_cases a <;> rfl
theorem hz3 : (![0, 0, 0] : Fin 3 → Nat) = fun _ => 0 := funext fun a => by fin_cases a <;> rfl

section AnyF
variable {F : FTy → Type} [FloatOps F]

/-- The output weights' upper and lower halves, as the kernel loads them. -/
def woTop (w : Vec F S1024x1024 .bf16) : Vec F S512x1024 .bf16 := View.ld w (Rect.unit (s := S1024x1024) ![0, 0] S512x1024.size inb_S1024x1024_S512x1024_0_0)
def woBot (w : Vec F S1024x1024 .bf16) : Vec F S512x1024 .bf16 := View.ld w (Rect.unit (s := S1024x1024) ![512, 0] S512x1024.size inb_S1024x1024_S512x1024_512_0)

/-- What a point leaves in its block: the printed values over the point's input blocks. -/
theorem out_A (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S1x512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S512x1024 .f32) (harg11 : arg11.IsWhole) (x0 : Vec F S512x1024 .f32) (x1 : Vec F S512x512 .f32) (x2 : Vec F S1x512x512 .f32) (x3 : Vec F S512x512 .f32) (x4 : Vec F S512x512 .f32) (x5 : Vec F S512x512 .f32) (x6 : Vec F S512x512 .f32) (x7 : Vec F S512x1024 .bf16) (x8 : Vec F S512x1024 .bf16) (x9 : Vec F S1024x1024 .bf16) :
    out0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9 = k0_pay1 (k0_pay2 x1 x7) (k0_pay3 x2 x8) (k0_pay4 x1 x2 x7 x8 x3 x5) x4 k0_pay5 x6 (woTop x9) (woBot x9) x0 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9)]
  unfold kernelRun0_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x1024) hz, View.ld_unit_zero (S := S512x512) hz, View.ld_unit_zero (S := S1x512x512) hz3]
  rfl

end AnyF

/-- One merged unit at a prompt row: each branch's projection through its own gate. -/
def merged (z : Vec Ideal S16416x5632 .f32) (oa : Vec Ideal S16384x512 .f32) (ob : Vec Ideal S2x512x8192 .f32) (wa wb : Vec Ideal S512x1024 .f32) (r : Fin 16384) (k : Fin 1024) : EReal :=
  Ideal.div 1 (1 + Ideal.exp (-z (ix2 (⟨r.val, by omega⟩ : Fin 16416) (⟨3584 + k.val, by omega⟩ : Fin 5632)))) * (∑ j : Fin 512, oa (ix2 r j) * wa (ix2 j k))
  + Ideal.div 1 (1 + Ideal.exp (-z (ix2 (⟨r.val, by omega⟩ : Fin 16416) (⟨4608 + k.val, by omega⟩ : Fin 5632)))) * ∑ j : Fin 512, ob (ix3 (⟨r.val / 8192, by omega⟩ : Fin 2) j (⟨r.val % 8192, by omega⟩ : Fin 8192)) * wb (ix2 j k)

theorem pay_apply (x : Vec Ideal S512x1024 .f32) (oa : Vec Ideal S512x512 .f32) (ob : Vec Ideal S1x512x512 .f32) (ga0 ga1 gb0 gb1 : Vec Ideal S512x512 .f32) (wa wb : Vec Ideal S512x1024 .bf16) (w0 w1 : Vec Ideal S512x1024 .bf16) (a : Fin 512) (b : Fin 1024) :
    k0_pay1 (k0_pay2 oa wa) (k0_pay3 ob wb) (k0_pay4 oa ob wa wb ga0 gb0) ga1 k0_pay5 gb1 w0 w1 x (ix2 a b)
    = x (ix2 a b) + ((∑ k : Fin 512, (Ideal.div 1 (1 + Ideal.exp (-ga0 (ix2 a k))) * (∑ j : Fin 512, oa (ix2 a j) * wa (ix2 j (⟨k.val, by omega⟩ : Fin 1024)))
          + Ideal.div 1 (1 + Ideal.exp (-gb0 (ix2 a k))) * ∑ j : Fin 512, ob (ix3 (0 : Fin 1) j a) * wb (ix2 j (⟨k.val, by omega⟩ : Fin 1024))) * w0 (ix2 k b))
      + ∑ k : Fin 512, (Ideal.div 1 (1 + Ideal.exp (-ga1 (ix2 a k))) * (∑ j : Fin 512, oa (ix2 a j) * wa (ix2 j (⟨512 + k.val, by omega⟩ : Fin 1024)))
          + Ideal.div 1 (1 + Ideal.exp (-gb1 (ix2 a k))) * ∑ j : Fin 512, ob (ix3 (0 : Fin 1) j a) * wb (ix2 j (⟨512 + k.val, by omega⟩ : Fin 1024))) * w1 (ix2 k b)) := by
  pointwise [k0_pay1, k0_pay5, k0_pay4, k0_pay2, k0_pay3, dot_S512x512_S512x1024_S512x1024_1_0_0_1_n_n]
  simp only [zero_sub]

theorem woTop_apply (w : Vec Ideal S1024x1024 .bf16) (a : Fin 512) (b : Fin 1024) : woTop w (ix2 a b) = w (ix2 (⟨a.val, by omega⟩ : Fin 1024) b) := by
  unfold woTop View.ld
  refine congrArg w (funext fun d => Fin.ext ?_)
  match d with
  | ⟨0, _⟩ => show 0 + 1 * a.val = a.val; omega
  | ⟨1, _⟩ => show 0 + 1 * b.val = b.val; omega

theorem woBot_apply (w : Vec Ideal S1024x1024 .bf16) (a : Fin 512) (b : Fin 1024) : woBot w (ix2 a b) = w (ix2 (⟨512 + a.val, by omega⟩ : Fin 1024) b) := by
  unfold woBot View.ld
  refine congrArg w (funext fun d => Fin.ext ?_)
  match d with
  | ⟨0, _⟩ => show 512 + 1 * a.val = 512 + a.val; omega
  | ⟨1, _⟩ => show 0 + 1 * b.val = b.val; omega

theorem idxs : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = t.val / 16 ∧ win0_2.index t (1 : Fin 3) = 0 ∧ win0_2.index t (2 : Fin 3) = t.val % 16)
    ∧ (win0_3.index t (0 : Fin 2) = t.val ∧ win0_3.index t (1 : Fin 2) = 7)
    ∧ (win0_4.index t (0 : Fin 2) = t.val ∧ win0_4.index t (1 : Fin 2) = 8)
    ∧ (win0_5.index t (0 : Fin 2) = t.val ∧ win0_5.index t (1 : Fin 2) = 9)
    ∧ (win0_6.index t (0 : Fin 2) = t.val ∧ win0_6.index t (1 : Fin 2) = 10)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0) :=
  (by decide +kernel : ∀ t : Fin grid0.N, _)

variable (m : (ℓ : Loc nD τ sig) → Buf (Elt Ideal) ℓ)

abbrev X (c : Dev nD) : Vec Ideal S16416x1024 .f32 := m ((c : Thread nD τ).loc main_arg0)
abbrev Z (c : Dev nD) : Vec Ideal S16416x5632 .f32 := m ((c : Thread nD τ).loc main_arg1)
abbrev Oa (c : Dev nD) : Vec Ideal S16384x512 .f32 := m ((c : Thread nD τ).loc main_arg2)
abbrev Ob (c : Dev nD) : Vec Ideal S2x512x8192 .f32 := m ((c : Thread nD τ).loc main_arg3)
abbrev Wa (c : Dev nD) : Vec Ideal S512x1024 .f32 := m ((c : Thread nD τ).loc main_arg4)
abbrev Wb (c : Dev nD) : Vec Ideal S512x1024 .f32 := m ((c : Thread nD τ).loc main_arg5)
abbrev Wo (c : Dev nD) : Vec Ideal S1024x1024 .f32 := m ((c : Thread nD τ).loc main_arg6)

theorem Nis : cfg0.N = 32 := N_0

theorem blk0 (c : Dev nD) (t : Fin cfg0.N) (a : Fin 512) (b : Fin 1024) (r : Fin 16416) (hr : r.val = 512 * t.val + a.val) :
    X0_0 m c t (ix2 a b) = X m c (ix2 r b) := by
  obtain ⟨e0, e1⟩ := (idxs t).1
  unfold X0_0 Pipeline.Window.fill
  rw [dif_pos (moved0_0 t _)]
  show V m c main_arg0 (((cfg0.win 0).blk t).view.emb _) = _
  rw [V_main_arg0]
  refine congrArg (X m c) (funext fun d => Fin.ext ?_)
  match d with
  | ⟨0, _⟩ => show win0_0.index t (0 : Fin 2) * 512 + 1 * a.val = r.val; omega
  | ⟨1, _⟩ => show win0_0.index t (1 : Fin 2) * 1024 + 1 * b.val = b.val; omega

theorem blk1 (c : Dev nD) (t : Fin cfg0.N) (a : Fin 512) (b : Fin 512) (r : Fin 16384) (hr : r.val = 512 * t.val + a.val) :
    iblk m c 1 t (ix2 a b) = Oa m c (ix2 r b) := by
  obtain ⟨e0, e1⟩ := (idxs t).2.1
  show V m c main_arg2 (((cfg0.win 1).blk t).view.emb (ix2 a b)) = _
  rw [V_main_arg2]
  refine congrArg (Oa m c) (funext fun d => Fin.ext ?_)
  match d with
  | ⟨0, _⟩ => show win0_1.index t (0 : Fin 2) * 512 + 1 * a.val = r.val; omega
  | ⟨1, _⟩ => show win0_1.index t (1 : Fin 2) * 512 + 1 * b.val = b.val; omega

theorem blk2 (c : Dev nD) (t : Fin cfg0.N) (a b : Fin 512) (r : Fin 16384) (hr : r.val = 512 * t.val + b.val) :
    iblk m c 2 t (ix3 (0 : Fin 1) a b) = Ob m c (ix3 (⟨r.val / 8192, by omega⟩ : Fin 2) a (⟨r.val % 8192, by omega⟩ : Fin 8192)) := by
  obtain ⟨e0, e1, e2⟩ := (idxs t).2.2.1
  show V m c main_arg3 (((cfg0.win 2).blk t).view.emb (ix3 (0 : Fin 1) a b)) = _
  rw [V_main_arg3]
  refine congrArg (Ob m c) (funext fun d => Fin.ext ?_)
  match d with
  | ⟨0, _⟩ => show win0_2.index t (0 : Fin 3) * 1 + 1 * 0 = r.val / 8192; omega
  | ⟨1, _⟩ => show win0_2.index t (1 : Fin 3) * 512 + 1 * a.val = a.val; omega
  | ⟨2, _⟩ => show win0_2.index t (2 : Fin 3) * 512 + 1 * b.val = r.val % 8192; omega

theorem blk3 (c : Dev nD) (t : Fin cfg0.N) (a b : Fin 512) (r : Fin 16416) (q : Fin 5632) (hr : r.val = 512 * t.val + a.val) (hq : q.val = 3584 + b.val) :
    X0_3 m c t (ix2 a b) = Z m c (ix2 r q) := by
  obtain ⟨e0, e1⟩ := (idxs t).2.2.2.1
  unfold X0_3 Pipeline.Window.fill
  rw [dif_pos (moved0_3 t _)]
  show V m c main_arg1 (((cfg0.win 3).blk t).view.emb _) = _
  rw [V_main_arg1]
  refine congrArg (Z m c) (funext fun d => Fin.ext ?_)
  match d with
  | ⟨0, _⟩ => show win0_3.index t (0 : Fin 2) * 512 + 1 * a.val = r.val; omega
  | ⟨1, _⟩ => show win0_3.index t (1 : Fin 2) * 512 + 1 * b.val = q.val; omega

theorem blk4 (c : Dev nD) (t : Fin cfg0.N) (a b : Fin 512) (r : Fin 16416) (q : Fin 5632) (hr : r.val = 512 * t.val + a.val) (hq : q.val = 4096 + b.val) :
    X0_4 m c t (ix2 a b) = Z m c (ix2 r q) := by
  obtain ⟨e0, e1⟩ := (idxs t).2.2.2.2.1
  unfold X0_4 Pipeline.Window.fill
  rw [dif_pos (moved0_4 t _)]
  show V m c main_arg1 (((cfg0.win 4).blk t).view.emb _) = _
  rw [V_main_arg1]
  refine congrArg (Z m c) (funext fun d => Fin.ext ?_)
  match d with
  | ⟨0, _⟩ => show win0_4.index t (0 : Fin 2) * 512 + 1 * a.val = r.val; omega
  | ⟨1, _⟩ => show win0_4.index t (1 : Fin 2) * 512 + 1 * b.val = q.val; omega

theorem blk5 (c : Dev nD) (t : Fin cfg0.N) (a b : Fin 512) (r : Fin 16416) (q : Fin 5632) (hr : r.val = 512 * t.val + a.val) (hq : q.val = 4608 + b.val) :
    X0_5 m c t (ix2 a b) = Z m c (ix2 r q) := by
  obtain ⟨e0, e1⟩ := (idxs t).2.2.2.2.2.1
  unfold X0_5 Pipeline.Window.fill
  rw [dif_pos (moved0_5 t _)]
  show V m c main_arg1 (((cfg0.win 5).blk t).view.emb _) = _
  rw [V_main_arg1]
  refine congrArg (Z m c) (funext fun d => Fin.ext ?_)
  match d with
  | ⟨0, _⟩ => show win0_5.index t (0 : Fin 2) * 512 + 1 * a.val = r.val; omega
  | ⟨1, _⟩ => show win0_5.index t (1 : Fin 2) * 512 + 1 * b.val = q.val; omega

theorem blk6 (c : Dev nD) (t : Fin cfg0.N) (a b : Fin 512) (r : Fin 16416) (q : Fin 5632) (hr : r.val = 512 * t.val + a.val) (hq : q.val = 5120 + b.val) :
    X0_6 m c t (ix2 a b) = Z m c (ix2 r q) := by
  obtain ⟨e0, e1⟩ := (idxs t).2.2.2.2.2.2.1
  unfold X0_6 Pipeline.Window.fill
  rw [dif_pos (moved0_6 t _)]
  show V m c main_arg1 (((cfg0.win 6).blk t).view.emb _) = _
  rw [V_main_arg1]
  refine congrArg (Z m c) (funext fun d => Fin.ext ?_)
  match d with
  | ⟨0, _⟩ => show win0_6.index t (0 : Fin 2) * 512 + 1 * a.val = r.val; omega
  | ⟨1, _⟩ => show win0_6.index t (1 : Fin 2) * 512 + 1 * b.val = q.val; omega

theorem blk7 (c : Dev nD) (t : Fin cfg0.N) : iblk m c 7 t = (truncf (F := Ideal) .bf16 (Wa m c) bitsLt_bf16_f32 : FVec Ideal S512x1024 .bf16) := by
  obtain ⟨e0, e1⟩ := (idxs t).2.2.2.2.2.2.2.1
  funext y
  show V m c main_v0 (((cfg0.win 7).blk t).view.emb y) = _
  have e : ((cfg0.win 7).blk t).view.emb y = y := funext fun d => Fin.ext (by
    match d with
    | ⟨0, _⟩ => show win0_7.index t (0 : Fin 2) * 512 + 1 * (y 0).val = (y 0).val; omega
    | ⟨1, _⟩ => show win0_7.index t (1 : Fin 2) * 1024 + 1 * (y 1).val = (y 1).val; omega)
  rw [e, show V m c main_v0 = (truncf (F := Ideal) .bf16 (Wa m c) bitsLt_bf16_f32 : FVec Ideal S512x1024 .bf16) from by dsimp only [V, hostOps0]; after_results]

theorem blk8 (c : Dev nD) (t : Fin cfg0.N) : iblk m c 8 t = (truncf (F := Ideal) .bf16 (Wb m c) bitsLt_bf16_f32 : FVec Ideal S512x1024 .bf16) := by
  obtain ⟨e0, e1⟩ := (idxs t).2.2.2.2.2.2.2.2.1
  funext y
  show V m c main_v1 (((cfg0.win 8).blk t).view.emb y) = _
  have e : ((cfg0.win 8).blk t).view.emb y = y := funext fun d => Fin.ext (by
    match d with
    | ⟨0, _⟩ => show win0_8.index t (0 : Fin 2) * 512 + 1 * (y 0).val = (y 0).val; omega
    | ⟨1, _⟩ => show win0_8.index t (1 : Fin 2) * 1024 + 1 * (y 1).val = (y 1).val; omega)
  rw [e, show V m c main_v1 = (truncf (F := Ideal) .bf16 (Wb m c) bitsLt_bf16_f32 : FVec Ideal S512x1024 .bf16) from by dsimp only [V, hostOps0]; after_results]

theorem blk9 (c : Dev nD) (t : Fin cfg0.N) : iblk m c 9 t = (truncf (F := Ideal) .bf16 (Wo m c) bitsLt_bf16_f32 : FVec Ideal S1024x1024 .bf16) := by
  obtain ⟨e0, e1⟩ := (idxs t).2.2.2.2.2.2.2.2.2.1
  funext y
  show V m c main_v2 (((cfg0.win 9).blk t).view.emb y) = _
  have e : ((cfg0.win 9).blk t).view.emb y = y := funext fun d => Fin.ext (by
    match d with
    | ⟨0, _⟩ => show win0_9.index t (0 : Fin 2) * 1024 + 1 * (y 0).val = (y 0).val; omega
    | ⟨1, _⟩ => show win0_9.index t (1 : Fin 2) * 1024 + 1 * (y 1).val = (y 1).val; omega)
  rw [e, show V m c main_v2 = (truncf (F := Ideal) .bf16 (Wo m c) bitsLt_bf16_f32 : FVec Ideal S1024x1024 .bf16) from by dsimp only [V, hostOps0]; after_results]

/-- What a point leaves in its block of the result. -/
theorem left (c : Dev nD) (t : Fin cfg0.N) (a : Fin 512) (b : Fin 1024) (r : Fin 16384) (hr : r.val = 512 * t.val + a.val) :
    outsAt0 m c t (ix2 a b) = X m c (ix2 (⟨r.val, by omega⟩ : Fin 16416) b) + ∑ k : Fin 1024, merged (Z m c) (Oa m c) (Ob m c) (Wa m c) (Wb m c) r k * Wo m c (ix2 k b) := by
  unfold outsAt0
  rw [out_A, pay_apply, blk0 m c t a b ⟨r.val, by omega⟩ hr, Arith.sum_1024]
  simp only [woTop_apply, woBot_apply, blk7, blk8, blk9, ValueIdx.truncf_apply]
  simp only [blk1 m c t a _ r hr, blk2 m c t _ a r hr,
    fun b : Fin 512 => blk3 m c t a b ⟨r.val, by omega⟩ ⟨3584 + b.val, by omega⟩ hr rfl,
    fun b : Fin 512 => blk4 m c t a b ⟨r.val, by omega⟩ ⟨3584 + (512 + b.val), by omega⟩ hr (by dsimp only; omega),
    fun b : Fin 512 => blk5 m c t a b ⟨r.val, by omega⟩ ⟨4608 + b.val, by omega⟩ hr rfl,
    fun b : Fin 512 => blk6 m c t a b ⟨r.val, by omega⟩ ⟨4608 + (512 + b.val), by omega⟩ hr (by dsimp only; omega)]
  rfl

open Cert.Reference4Ideal.Read in
theorem ref_apply (x : Vec Ideal S16416x1024 .f32) (z : Vec Ideal S16416x5632 .f32) (oa : Vec Ideal S16384x512 .f32) (ob : Vec Ideal S2x512x8192 .f32) (wa wb : Vec Ideal S512x1024 .f32) (wo : Vec Ideal S1024x1024 .f32) (r : Fin 16384) (q : Fin 1024) :
    val_main_v23 (F := Ideal) x z oa ob wa wb wo (ix2 r q) = x (ix2 (⟨r.val, by omega⟩ : Fin 16416) q) + ∑ k : Fin 1024, merged z oa ob wa wb r k * wo (ix2 k q) := by
  unfold merged
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, Cert.Reference4Ideal.dot_S16384x512_S512x1024_S16384x1024_1_0_0_1_n_n, Cert.Reference4Ideal.dot_S16384x1024_S1024x1024_S16384x1024_1_0_0_1_n_n]

open Cert.Reference4Ideal.Read in
theorem ref_top (x : Vec Ideal S16416x1024 .f32) (z : Vec Ideal S16416x5632 .f32) (oa : Vec Ideal S16384x512 .f32) (ob : Vec Ideal S2x512x8192 .f32) (wa wb : Vec Ideal S512x1024 .f32) (wo : Vec Ideal S1024x1024 .f32) (r : Fin 16416) (q : Fin 1024) (h : r.val < 16384) :
    val_main_v25 (F := Ideal) x z oa ob wa wb wo (ix2 r q) = x (ix2 r q) + ∑ k : Fin 1024, merged z oa ob wa wb ⟨r.val, h⟩ k * wo (ix2 k q) := by
  pointwise [val_main_v25]
  rw [dif_pos h, ref_apply]

open Cert.Reference4Ideal.Read in
theorem ref_rest (x : Vec Ideal S16416x1024 .f32) (z : Vec Ideal S16416x5632 .f32) (oa : Vec Ideal S16384x512 .f32) (ob : Vec Ideal S2x512x8192 .f32) (wa wb : Vec Ideal S512x1024 .f32) (wo : Vec Ideal S1024x1024 .f32) (r : Fin 16416) (q : Fin 1024) (h : ¬r.val < 16384) :
    val_main_v25 (F := Ideal) x z oa ob wa wb wo (ix2 r q) = x (ix2 r q) := by
  pointwise [val_main_v25]
  rw [dif_neg h]
  pointwise [val_main_v24]
  exact congrArg x (congrArg (fun r' => ix2 r' q) (Fin.ext (by show 16384 + (r.val - 16384) = r.val; omega)))

/-- The result array after the run is the reference's. -/
theorem final (c : Dev nD) :
    (dats m 0 c).arrAt 10 cfg0.N = Cert.Reference4Ideal.Read.val_main_v25 (F := Ideal) (X m c) (Z m c) (Oa m c) (Ob m c) (Wa m c) (Wb m c) (Wo m c) := by
  refine (dats m 0 c).arrAt_eq_of_coversWhere_of_agree 10 _ (fun β => β (0 : Fin 2) < 32) (by decide +kernel) (fun t hf y => ?_) (fun j hj => ?_)
  · obtain ⟨e0, e1⟩ := (idxs t).2.2.2.2.2.2.2.2.2.2
    have hN : cfg0.N = 32 := N_0
    have ht : t.val < 32 := hN ▸ t.isLt
    have ha : ((cfg0.win 10).xinj (grid0.coords t) y 0).val < 512 := ((cfg0.win 10).xinj (grid0.coords t) y 0).isLt
    have hb : ((cfg0.win 10).xinj (grid0.coords t) y 1).val < 1024 := ((cfg0.win 10).xinj (grid0.coords t) y 1).isLt
    have hl := left m c t ⟨_, ha⟩ ⟨_, hb⟩ ⟨512 * t.val + ((cfg0.win 10).xinj (grid0.coords t) y 0).val, by omega⟩ rfl
    have he : ((cfg0.win 10).blk t).view.emb y = (ix2 (⟨512 * t.val + ((cfg0.win 10).xinj (grid0.coords t) y 0).val, by omega⟩ : Fin 16416) (⟨_, hb⟩ : Fin 1024) : S16416x1024.Idx) := funext fun d => Fin.ext (by
      match d with
      | ⟨0, _⟩ => show win0_10.index t (0 : Fin 2) * 512 + 1 * (y 0).val = 512 * t.val + (y 0).val; omega
      | ⟨1, _⟩ => show win0_10.index t (1 : Fin 2) * 1024 + 1 * (y 1).val = (y 1).val; omega)
    have hr : 512 * t.val + ((cfg0.win 10).xinj (grid0.coords t) y 0).val < 16384 := by omega
    rw [he, ref_top _ _ _ _ _ _ _ _ _ hr, ← hl]
    show (dats m 0 c).after 10 t ((cfg0.win 10).xinj (grid0.coords t) y) = _
    rw [after0_10]
    exact congrArg (outsAt0 m c t) (funext fun d => match d with | ⟨0, _⟩ => rfl | ⟨1, _⟩ => rfl)
  · have hj0 : ¬(j 0).val / 512 < 32 := hj
    rw [A_eq]
    show V m c main_v3 j = Cert.Reference4Ideal.Read.val_main_v25 (F := Ideal) (X m c) (Z m c) (Oa m c) (Ob m c) (Wa m c) (Wb m c) (Wo m c) j
    obtain ⟨r, q, rfl⟩ : ∃ (r : Fin 16416) (q : Fin 1024), j = ix2 r q := ⟨j 0, j 1, by funext a; match a with | ⟨0, _⟩ => rfl | ⟨1, _⟩ => rfl⟩
    rw [ref_rest _ _ _ _ _ _ _ _ _ (by have : ¬r.val / 512 < 32 := hj0; omega), show V m c main_v3 = X m c from by dsimp only [V, hostOps0]; after_results; rfl]

end Cert.Kernel4Ideal.Merge

end
-- ==== Proof.Tile.lean ====
/- The recurrence over the prompt (`Kernel`): what one grid point computes of its 256 rows, head by head — the gates, the
   sums inside a chunk, the sixteen steps of the carried state — named once, and each case of the body read as these. -/
module

public import proofs.«01_k».proof.Proof.Gen.KernelIdeal.Value
public import Idealize.ShloMosaic.Lib.Pointwise
public import Idealize.ShloMosaic.Lib.Tactic

@[expose] public section

set_option maxRecDepth 65536

noncomputable section

open Idealize.ShloMosaic Idealize.ShloMosaic.TcCoe Idealize.ShloMosaic.Tactic Idealize.SL.Sem

namespace Cert.KernelIdeal.Tile

open Cert.KernelIdeal Cert.KernelIdeal.Gen

section AnyF
variable {F : FTy → Type} [FloatOps F]

theorem rows16 (n : ℕ) : S256x128.Slices ![16 * (n % 16), 0] S16x128 := by
  have : n % 16 < 16 := Nat.mod_lt _ (by decide)
  refine ⟨rfl, fun a => ?_⟩
  fin_cases a
  · show 16 * (n % 16) + 16 ≤ 256; omega
  · show 0 + 128 ≤ 128; omega
theorem row1 (n : ℕ) : S256x128.Slices ![16 * (n % 16), 0] S1x128 := by
  have : n % 16 < 16 := Nat.mod_lt _ (by decide)
  refine ⟨rfl, fun a => ?_⟩
  fin_cases a
  · show 16 * (n % 16) + 1 ≤ 256; omega
  · show 0 + 128 ≤ 128; omega
theorem cols (h : ℕ) : ∀ a, (![0, 128 * (h % 4)] : Fin 2 → Nat) a + S256x128.size a ≤ S256x512.size a := by
  have : h % 4 < 4 := Nat.mod_lt _ (by decide)
  intro a; fin_cases a
  · show 0 + 256 ≤ 256; omega
  · show 128 * (h % 4) + 128 ≤ 512; omega
theorem cols1 (h : ℕ) : ∀ a, (![0, 128 * (h % 4)] : Fin 2 → Nat) a + S1x128.size a ≤ S1x512.size a := by
  have : h % 4 < 4 := Nat.mod_lt _ (by decide)
  intro a; fin_cases a
  · show 0 + 1 ≤ 1; omega
  · show 128 * (h % 4) + 128 ≤ 512; omega
theorem slab (h : ℕ) : ∀ a, (![h % 4, 0, 0] : Fin 3 → Nat) a + S1x128x128.size a ≤ S4x128x128.size a := by
  have : h % 4 < 4 := Nat.mod_lt _ (by decide)
  intro a; fin_cases a
  · show h % 4 + 1 ≤ 4; omega
  · show 0 + 128 ≤ 128; omega
  · show 0 + 128 ≤ 128; omega
theorem slab1 (h : ℕ) : ∀ a, (![0, h % 4, 0, 0] : Fin 4 → Nat) a + S1x1x128x128.size a ≤ S1x4x128x128.size a := by
  have : h % 4 < 4 := Nat.mod_lt _ (by decide)
  intro a; fin_cases a
  · show 0 + 1 ≤ 1; omega
  · show h % 4 + 1 ≤ 4; omega
  · show 0 + 128 ≤ 128; omega
  · show 0 + 128 ≤ 128; omega
theorem box (k : ℕ) : ∀ a, (![16 * (k / 4 % 16), 128 * (k % 4)] : Fin 2 → Nat) a + S16x128.size a ≤ S256x512.size a := by
  have h1 : k % 4 < 4 := Nat.mod_lt _ (by decide)
  have h2 : k / 4 % 16 < 16 := Nat.mod_lt _ (by decide)
  intro a; fin_cases a
  · show 16 * (k / 4 % 16) + 16 ≤ 256; omega
  · show 128 * (k % 4) + 128 ≤ 512; omega

abbrev colR (h : ℕ) : Rect S256x512 := Rect.unit ![0, 128 * (h % 4)] S256x128.size (cols h)
abbrev col1R (h : ℕ) : Rect S1x512 := Rect.unit ![0, 128 * (h % 4)] S1x128.size (cols1 h)
abbrev slabR (h : ℕ) : Rect S4x128x128 := Rect.unit ![h % 4, 0, 0] S1x128x128.size (slab h)
abbrev slab1R (h : ℕ) : Rect S1x4x128x128 := Rect.unit ![0, h % 4, 0, 0] S1x1x128x128.size (slab1 h)
abbrev boxR (k : ℕ) : Rect S256x512 := Rect.unit ![16 * (k / 4 % 16), 128 * (k % 4)] S16x128.size (box k)

/-- What a grid point reads: per head the columns of the four branches, of the lower bounds and of the state it starts
    from; the mask of a chunk; the norm's weights. -/
structure In (F : FTy → Type) [FloatOps F] where
  zq : ℕ → Vec F S256x128 .f32
  zf : ℕ → Vec F S256x128 .f32
  zi : ℕ → Vec F S256x128 .f32
  zg : ℕ → Vec F S256x128 .f32
  lb : ℕ → Vec F S1x128 .f32
  go : Vec F S1x128 .f32
  tri : Vec F S256x256 .bf16
  S : ℕ → Vec F S1x128x128 .f32

variable (I : In F)

def logf (h : ℕ) : FVec F S256x128 .f32 := k0_pay9 (I.zf h) (I.lb h)
def cum (h : ℕ) : FVec F S256x128 .f32 := k0_pay13 (k0_pay7 I.tri) (logf I h)
def qin (h : ℕ) : FVec F S256x128 .bf16 := k0_pay15 (k0_pay7 I.tri) (logf I h) (I.zq h)
def kout (h : ℕ) : FVec F S256x128 .bf16 := k0_pay16 (k0_pay7 I.tri) (logf I h) (k0_pay10 (I.lb h)) (k0_pay11 (I.zf h))
def dec (h : ℕ) : FVec F S256x128 .f32 := k0_pay17 (k0_pay7 I.tri) (logf I h)
def val (h : ℕ) : FVec F S256x128 .bf16 := k0_pay18 (I.zi h)
def oin (h : ℕ) : FVec F S256x128 .f32 :=
  k0_pay19 (k0_pay7 I.tri) (I.zi h) (logf I h) (k0_pay10 (I.lb h)) (k0_pay11 (I.zf h)) (I.zq h)

/-- Chunk `n`'s part of the result out of the state: the chunk's queries through the state. -/
def through (q : FVec F S256x128 .bf16) (S : FVec F S128x128 .f32) (n : ℕ) : FVec F S16x128 .f32 :=
  shapeCast S16x128 (matmul dot_S16x128_S128x128_S16x128_1_1_0_0_n_n none (extractStridedSlice S16x128 ![16 * (n % 16), 0] q (rows16 n))
    (truncf .bf16 S bitsLt_bf16_f32) (constant S16x128 .f32 0x00000000#32)) shapeCasts_S16x128_S16x128

/-- Chunk `n`'s step of the state: decayed, and the outer products of the chunk added. -/
def stepOf (k : FVec F S256x128 .bf16) (d : FVec F S256x128 .f32) (v : FVec F S256x128 .bf16) (S : FVec F S128x128 .f32) (n : ℕ) :
    FVec F S128x128 .f32 :=
  addf (mulf S (broadcastTo S128x128 (extractStridedSlice S1x128 ![16 * (n % 16), 0] d (row1 n)) broadcasts_S1x128_S128x128))
    (matmul dot_S16x128_S16x128_S128x128_0_0_1_1_n_n none (extractStridedSlice S16x128 ![16 * (n % 16), 0] v (rows16 n))
      (extractStridedSlice S16x128 ![16 * (n % 16), 0] k (rows16 n)) (constant S128x128 .f32 0x00000000#32))

/-- Head `h`'s state before chunk `n`. -/
def st (h : ℕ) : ℕ → FVec F S128x128 .f32
  | 0 => shapeCast S128x128 (I.S h) shapeCasts_S1x128x128_S128x128
  | n + 1 => stepOf (kout I h) (dec I h) (val I h) (st h n) n

/-- The stores of the first `k` of the chunks' parts, the last one first: chunk by chunk, in each the four heads. -/
def parts : ℕ → List (View.Piece (Elt F) S256x512 .f32)
  | 0 => []
  | k + 1 => ⟨boxR k, through (qin I (k % 4)) (st I (k % 4) (k / 4)) (k / 4)⟩ :: parts k

/-- Head `h`'s rows of the result, over what is read back of the chunks' parts. -/
def outOf (oi : FVec F S256x128 .f32) (h : ℕ) : FVec F S256x128 .f32 :=
  k0_pay215 (k0_pay212 I.go) (k0_pay214 (oin I h) oi) (I.zg h)

/-- The four stores of the result. -/
def outs (oi : ℕ → FVec F S256x128 .f32) : ℕ → List (View.Piece (Elt F) S256x512 .f32)
  | 0 => []
  | h + 1 => ⟨colR h, outOf I (oi h) h⟩ :: outs oi h

/-- The four stores of the state. -/
def keeps : ℕ → List (View.Piece (Elt F) S4x128x128 .f32)
  | 0 => []
  | h + 1 => ⟨slabR h, shapeCast S1x128x128 (st I h 16) shapeCasts_S128x128_S1x128x128⟩ :: keeps h

/-- The four stores of the state in the end, keys first. -/
def lasts : ℕ → List (View.Piece (Elt F) S1x4x128x128 .f32)
  | 0 => []
  | h + 1 => ⟨slab1R h, shapeCast S1x1x128x128 (transpose S128x128 [1, 0] (st I h 16) transposes_S128x128_p1_0_S128x128) shapeCasts_S128x128_S1x1x128x128⟩ :: lasts h

/-- What the point reads of its blocks. -/
def inOf (x0 x1 x2 x3 : Vec F S256x512 .f32) (x4 : Vec F S1x512 .f32) (x5 : Vec F S1x128 .f32) (x6 : Vec F S256x256 .bf16) (S : ℕ → Vec F S1x128x128 .f32) : In F where
  zq h := View.ld x0 (colR h)
  zf h := View.ld x1 (colR h)
  zi h := View.ld x2 (colR h)
  zg h := View.ld x3 (colR h)
  lb h := View.ld x4 (col1R h)
  go := x5
  tri := x6
  S := S

/-- The first point of a sequence: it leaves its heads’ states over the zeros it wrote before. -/
theorem runA_keeps (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S256x512 .f32) (harg12 : arg12.IsWhole) (hc0 : cond0_0 i) (hc1 : ¬cond0_1 i) (x0 : Vec F S256x512 .f32) (x1 : Vec F S256x512 .f32) (x2 : Vec F S256x512 .f32) (x3 : Vec F S256x512 .f32) (x4 : Vec F S1x512 .f32) (x5 : Vec F S1x128 .f32) (x6 : Vec F S256x256 .bf16) :
    (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 = keeps ⟨fun h => View.readAt (Elt F) arg2.view (colR h).toLoadRect (harg2.unread x0), fun h => View.readAt (Elt F) arg3.view (colR h).toLoadRect (harg3.unread x1), fun h => View.readAt (Elt F) arg4.view (colR h).toLoadRect (harg4.unread x2), fun h => View.readAt (Elt F) arg5.view (colR h).toLoadRect (harg5.unread x3), fun h => View.readAt (Elt F) arg6.view (col1R h).toLoadRect (harg6.unread x4), View.readAt (Elt F) arg7.view (Rect.unit ![0, 0] S1x128.size inb_S1x128_S1x128_0_0).toLoadRect (harg7.unread x5), View.readAt (Elt F) arg8.view (Rect.unit ![0, 0] S256x256.size inb_S256x256_S256x256_0_0).toLoadRect (harg8.unread x6), fun h => arg11.view.readCov [⟨Rect.unit ![0, 0, 0] S4x128x128.size inb_S4x128x128_S4x128x128_0_0_0, k0_pay6⟩] (slabR h).toLoadRect⟩ 4 ++ [⟨Rect.unit ![0, 0, 0] S4x128x128.size inb_S4x128x128_S4x128x128_0_0_0, k0_pay6⟩] := by
  unfold kernelRun0_A
  dsimp only
  sl_kernel_rfl

/-- The first point of a sequence: its result. -/
theorem runA_outs (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S256x512 .f32) (harg12 : arg12.IsWhole) (hc0 : cond0_0 i) (hc1 : ¬cond0_1 i) (x0 : Vec F S256x512 .f32) (x1 : Vec F S256x512 .f32) (x2 : Vec F S256x512 .f32) (x3 : Vec F S256x512 .f32) (x4 : Vec F S1x512 .f32) (x5 : Vec F S1x128 .f32) (x6 : Vec F S256x256 .bf16) :
    (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).1 = outs ⟨fun h => View.readAt (Elt F) arg2.view (colR h).toLoadRect (harg2.unread x0), fun h => View.readAt (Elt F) arg3.view (colR h).toLoadRect (harg3.unread x1), fun h => View.readAt (Elt F) arg4.view (colR h).toLoadRect (harg4.unread x2), fun h => View.readAt (Elt F) arg5.view (colR h).toLoadRect (harg5.unread x3), fun h => View.readAt (Elt F) arg6.view (col1R h).toLoadRect (harg6.unread x4), View.readAt (Elt F) arg7.view (Rect.unit ![0, 0] S1x128.size inb_S1x128_S1x128_0_0).toLoadRect (harg7.unread x5), View.readAt (Elt F) arg8.view (Rect.unit ![0, 0] S256x256.size inb_S256x256_S256x256_0_0).toLoadRect (harg8.unread x6), fun h => arg11.view.readCov [⟨Rect.unit ![0, 0, 0] S4x128x128.size inb_S4x128x128_S4x128x128_0_0_0, k0_pay6⟩] (slabR h).toLoadRect⟩ (fun h => arg12.view.readCov (parts ⟨fun h => View.readAt (Elt F) arg2.view (colR h).toLoadRect (harg2.unread x0), fun h => View.readAt (Elt F) arg3.view (colR h).toLoadRect (harg3.unread x1), fun h => View.readAt (Elt F) arg4.view (colR h).toLoadRect (harg4.unread x2), fun h => View.readAt (Elt F) arg5.view (colR h).toLoadRect (harg5.unread x3), fun h => View.readAt (Elt F) arg6.view (col1R h).toLoadRect (harg6.unread x4), View.readAt (Elt F) arg7.view (Rect.unit ![0, 0] S1x128.size inb_S1x128_S1x128_0_0).toLoadRect (harg7.unread x5), View.readAt (Elt F) arg8.view (Rect.unit ![0, 0] S256x256.size inb_S256x256_S256x256_0_0).toLoadRect (harg8.unread x6), fun h => arg11.view.readCov [⟨Rect.unit ![0, 0, 0] S4x128x128.size inb_S4x128x128_S4x128x128_0_0_0, k0_pay6⟩] (slabR h).toLoadRect⟩ 64) (colR h).toLoadRect) 4 := by
  unfold kernelRun0_A
  dsimp only
  sl_kernel_rfl

/-- A point inside a sequence: it leaves its heads’ states. -/
theorem runB_keeps (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S256x512 .f32) (harg12 : arg12.IsWhole) (hc0 : ¬cond0_0 i) (hc1 : ¬cond0_1 i) (x0 : Vec F S256x512 .f32) (x1 : Vec F S256x512 .f32) (x2 : Vec F S256x512 .f32) (x3 : Vec F S256x512 .f32) (x4 : Vec F S1x512 .f32) (x5 : Vec F S1x128 .f32) (x6 : Vec F S256x256 .bf16) (xs0 : Vec F S4x128x128 .f32) :
    (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0).2.2.1 = keeps ⟨fun h => View.readAt (Elt F) arg2.view (colR h).toLoadRect (harg2.unread x0), fun h => View.readAt (Elt F) arg3.view (colR h).toLoadRect (harg3.unread x1), fun h => View.readAt (Elt F) arg4.view (colR h).toLoadRect (harg4.unread x2), fun h => View.readAt (Elt F) arg5.view (colR h).toLoadRect (harg5.unread x3), fun h => View.readAt (Elt F) arg6.view (col1R h).toLoadRect (harg6.unread x4), View.readAt (Elt F) arg7.view (Rect.unit ![0, 0] S1x128.size inb_S1x128_S1x128_0_0).toLoadRect (harg7.unread x5), View.readAt (Elt F) arg8.view (Rect.unit ![0, 0] S256x256.size inb_S256x256_S256x256_0_0).toLoadRect (harg8.unread x6), fun h => View.readAt (Elt F) arg11.view (slabR h).toLoadRect (harg11.unread xs0)⟩ 4 := by
  unfold kernelRun0_B
  dsimp only
  sl_kernel_rfl

/-- A point inside a sequence: its result. -/
theorem runB_outs (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S256x512 .f32) (harg12 : arg12.IsWhole) (hc0 : ¬cond0_0 i) (hc1 : ¬cond0_1 i) (x0 : Vec F S256x512 .f32) (x1 : Vec F S256x512 .f32) (x2 : Vec F S256x512 .f32) (x3 : Vec F S256x512 .f32) (x4 : Vec F S1x512 .f32) (x5 : Vec F S1x128 .f32) (x6 : Vec F S256x256 .bf16) (xs0 : Vec F S4x128x128 .f32) :
    (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0).1 = outs ⟨fun h => View.readAt (Elt F) arg2.view (colR h).toLoadRect (harg2.unread x0), fun h => View.readAt (Elt F) arg3.view (colR h).toLoadRect (harg3.unread x1), fun h => View.readAt (Elt F) arg4.view (colR h).toLoadRect (harg4.unread x2), fun h => View.readAt (Elt F) arg5.view (colR h).toLoadRect (harg5.unread x3), fun h => View.readAt (Elt F) arg6.view (col1R h).toLoadRect (harg6.unread x4), View.readAt (Elt F) arg7.view (Rect.unit ![0, 0] S1x128.size inb_S1x128_S1x128_0_0).toLoadRect (harg7.unread x5), View.readAt (Elt F) arg8.view (Rect.unit ![0, 0] S256x256.size inb_S256x256_S256x256_0_0).toLoadRect (harg8.unread x6), fun h => View.readAt (Elt F) arg11.view (slabR h).toLoadRect (harg11.unread xs0)⟩ (fun h => arg12.view.readCov (parts ⟨fun h => View.readAt (Elt F) arg2.view (colR h).toLoadRect (harg2.unread x0), fun h => View.readAt (Elt F) arg3.view (colR h).toLoadRect (harg3.unread x1), fun h => View.readAt (Elt F) arg4.view (colR h).toLoadRect (harg4.unread x2), fun h => View.readAt (Elt F) arg5.view (colR h).toLoadRect (harg5.unread x3), fun h => View.readAt (Elt F) arg6.view (col1R h).toLoadRect (harg6.unread x4), View.readAt (Elt F) arg7.view (Rect.unit ![0, 0] S1x128.size inb_S1x128_S1x128_0_0).toLoadRect (harg7.unread x5), View.readAt (Elt F) arg8.view (Rect.unit ![0, 0] S256x256.size inb_S256x256_S256x256_0_0).toLoadRect (harg8.unread x6), fun h => View.readAt (Elt F) arg11.view (slabR h).toLoadRect (harg11.unread xs0)⟩ 64) (colR h).toLoadRect) 4 := by
  unfold kernelRun0_B
  dsimp only
  sl_kernel_rfl

/-- The last point of a sequence: it leaves its heads’ states. -/
theorem runC_keeps (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S256x512 .f32) (harg12 : arg12.IsWhole) (hc0 : ¬cond0_0 i) (hc1 : cond0_1 i) (x0 : Vec F S256x512 .f32) (x1 : Vec F S256x512 .f32) (x2 : Vec F S256x512 .f32) (x3 : Vec F S256x512 .f32) (x4 : Vec F S1x512 .f32) (x5 : Vec F S1x128 .f32) (x6 : Vec F S256x256 .bf16) (xs0 : Vec F S4x128x128 .f32) :
    (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0).2.2.1 = keeps ⟨fun h => View.readAt (Elt F) arg2.view (colR h).toLoadRect (harg2.unread x0), fun h => View.readAt (Elt F) arg3.view (colR h).toLoadRect (harg3.unread x1), fun h => View.readAt (Elt F) arg4.view (colR h).toLoadRect (harg4.unread x2), fun h => View.readAt (Elt F) arg5.view (colR h).toLoadRect (harg5.unread x3), fun h => View.readAt (Elt F) arg6.view (col1R h).toLoadRect (harg6.unread x4), View.readAt (Elt F) arg7.view (Rect.unit ![0, 0] S1x128.size inb_S1x128_S1x128_0_0).toLoadRect (harg7.unread x5), View.readAt (Elt F) arg8.view (Rect.unit ![0, 0] S256x256.size inb_S256x256_S256x256_0_0).toLoadRect (harg8.unread x6), fun h => View.readAt (Elt F) arg11.view (slabR h).toLoadRect (harg11.unread xs0)⟩ 4 := by
  unfold kernelRun0_C
  dsimp only
  sl_kernel_rfl

/-- The last point of a sequence: its result. -/
theorem runC_outs (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S256x512 .f32) (harg12 : arg12.IsWhole) (hc0 : ¬cond0_0 i) (hc1 : cond0_1 i) (x0 : Vec F S256x512 .f32) (x1 : Vec F S256x512 .f32) (x2 : Vec F S256x512 .f32) (x3 : Vec F S256x512 .f32) (x4 : Vec F S1x512 .f32) (x5 : Vec F S1x128 .f32) (x6 : Vec F S256x256 .bf16) (xs0 : Vec F S4x128x128 .f32) :
    (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0).1 = outs ⟨fun h => View.readAt (Elt F) arg2.view (colR h).toLoadRect (harg2.unread x0), fun h => View.readAt (Elt F) arg3.view (colR h).toLoadRect (harg3.unread x1), fun h => View.readAt (Elt F) arg4.view (colR h).toLoadRect (harg4.unread x2), fun h => View.readAt (Elt F) arg5.view (colR h).toLoadRect (harg5.unread x3), fun h => View.readAt (Elt F) arg6.view (col1R h).toLoadRect (harg6.unread x4), View.readAt (Elt F) arg7.view (Rect.unit ![0, 0] S1x128.size inb_S1x128_S1x128_0_0).toLoadRect (harg7.unread x5), View.readAt (Elt F) arg8.view (Rect.unit ![0, 0] S256x256.size inb_S256x256_S256x256_0_0).toLoadRect (harg8.unread x6), fun h => View.readAt (Elt F) arg11.view (slabR h).toLoadRect (harg11.unread xs0)⟩ (fun h => arg12.view.readCov (parts ⟨fun h => View.readAt (Elt F) arg2.view (colR h).toLoadRect (harg2.unread x0), fun h => View.readAt (Elt F) arg3.view (colR h).toLoadRect (harg3.unread x1), fun h => View.readAt (Elt F) arg4.view (colR h).toLoadRect (harg4.unread x2), fun h => View.readAt (Elt F) arg5.view (colR h).toLoadRect (harg5.unread x3), fun h => View.readAt (Elt F) arg6.view (col1R h).toLoadRect (harg6.unread x4), View.readAt (Elt F) arg7.view (Rect.unit ![0, 0] S1x128.size inb_S1x128_S1x128_0_0).toLoadRect (harg7.unread x5), View.readAt (Elt F) arg8.view (Rect.unit ![0, 0] S256x256.size inb_S256x256_S256x256_0_0).toLoadRect (harg8.unread x6), fun h => View.readAt (Elt F) arg11.view (slabR h).toLoadRect (harg11.unread xs0)⟩ 64) (colR h).toLoadRect) 4 := by
  unfold kernelRun0_C
  dsimp only
  sl_kernel_rfl

/-- The last point of a sequence: the final states. -/
theorem runC_lasts (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S256x512 .f32) (harg12 : arg12.IsWhole) (hc0 : ¬cond0_0 i) (hc1 : cond0_1 i) (x0 : Vec F S256x512 .f32) (x1 : Vec F S256x512 .f32) (x2 : Vec F S256x512 .f32) (x3 : Vec F S256x512 .f32) (x4 : Vec F S1x512 .f32) (x5 : Vec F S1x128 .f32) (x6 : Vec F S256x256 .bf16) (xs0 : Vec F S4x128x128 .f32) :
    (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0).2.1 = lasts ⟨fun h => View.readAt (Elt F) arg2.view (colR h).toLoadRect (harg2.unread x0), fun h => View.readAt (Elt F) arg3.view (colR h).toLoadRect (harg3.unread x1), fun h => View.readAt (Elt F) arg4.view (colR h).toLoadRect (harg4.unread x2), fun h => View.readAt (Elt F) arg5.view (colR h).toLoadRect (harg5.unread x3), fun h => View.readAt (Elt F) arg6.view (col1R h).toLoadRect (harg6.unread x4), View.readAt (Elt F) arg7.view (Rect.unit ![0, 0] S1x128.size inb_S1x128_S1x128_0_0).toLoadRect (harg7.unread x5), View.readAt (Elt F) arg8.view (Rect.unit ![0, 0] S256x256.size inb_S256x256_S256x256_0_0).toLoadRect (harg8.unread x6), fun h => View.readAt (Elt F) arg11.view (slabR h).toLoadRect (harg11.unread xs0)⟩ 4 := by
  unfold kernelRun0_C
  dsimp only
  sl_kernel_rfl

end AnyF

end Cert.KernelIdeal.Tile
-- ==== Proof.Spec.lean ====
/- The recurrence over the prompt, entry by entry: the gates, the sums inside a chunk of sixteen rows, the state carried
   from chunk to chunk and the normalised result — what both programs are compared with. -/
module

public import proofs.«01_k».proof.Proof.Arith
public import Idealize.ShloMosaic.Lib.Pointwise

@[expose] public section

noncomputable section

open Idealize.ShloMosaic

namespace Spec

/-- The column `o + d` of a token's row of `z`. -/
def at2 (z : Vec Ideal ⟨2, ![16416, 5632]⟩ .f32) (o r d : ℕ) : EReal :=
  z (ix2 (⟨r % 16416, Nat.mod_lt _ (by decide)⟩ : Fin 16416) (⟨(o + d) % 5632, Nat.mod_lt _ (by decide)⟩ : Fin 5632))

/-- The entry of a vector of the width `N`. -/
def at1 {N : ℕ} (hN : 0 < N) (l : Vec Ideal ⟨1, ![N]⟩ .f32) (d : ℕ) : EReal := l (ix1 (⟨d % N, Nat.mod_lt _ hN⟩ : Fin N))

/-- The log of a forget gate, of its logit and its lower bound. -/
def gate (x l : EReal) : EReal :=
  max (Ideal.log l) (Ideal.log (1 - l) + (min x 0 - Ideal.log (1 + Ideal.exp (-(max x (-x))))))
  + Ideal.log (1 + Ideal.exp (-(max (Ideal.log l - (Ideal.log (1 - l) + (min x 0 - Ideal.log (1 + Ideal.exp (-(max x (-x)))))))
      (-(Ideal.log l - (Ideal.log (1 - l) + (min x 0 - Ideal.log (1 + Ideal.exp (-(max x (-x)))))))))))

theorem gate_ne_top (x : EReal) {l : EReal} (h : l ≠ ⊤) (h' : l ≠ ⊥) : gate x l ≠ ⊤ := by
  unfold gate
  refine EReal.add_ne_top (fun hm => ?_) (Arith.log_soft_ne_top _)
  rcases max_choice (Ideal.log l) (Ideal.log (1 - l) + (min x 0 - Ideal.log (1 + Ideal.exp (-(max x (-x)))))) with e | e
  · exact Arith.log_ne_top h (e ▸ hm)
  · refine EReal.add_ne_top (Arith.log_ne_top ?_) ?_ (e ▸ hm)
    · rw [sub_eq_add_neg]
      exact EReal.add_ne_top (by exact EReal.coe_ne_top 1) (by rwa [Ne, EReal.neg_eq_top_iff])
    · rw [sub_eq_add_neg]
      refine EReal.add_ne_top (fun hx => ?_) (by rw [Ne, EReal.neg_eq_top_iff]; exact Arith.log_soft_ne_bot x)
      exact absurd (hx ▸ min_le_right x 0 : (⊤ : EReal) ≤ 0) (by decide)

/-- The same log, as the sum of the parts it is split into. -/
def parts (x l : EReal) : EReal := Arith.split (gate x l)

/-- The key: what the gate does not keep. -/
def key (x l : EReal) : EReal := Ideal.div (1 - l) (1 + Ideal.exp x)

/-! The log is written `γ`, for either of the two. -/

variable (γ : EReal → EReal → EReal) (q f v g : ℕ → ℕ → EReal) (lb w : ℕ → EReal)

/-- The gates' logs summed over the chunk's rows up to row `r`. -/
def bb (r d : ℕ) : EReal := ∑ i : Fin 16, if i.val ≤ r % 16 then γ (f (16 * (r / 16) + i.val) d) (lb d) else 0
def qi (r d : ℕ) : EReal := q r d * Ideal.exp (bb γ f lb r d)
def ki (r d : ℕ) : EReal := key (f r d) (lb d) * Ideal.exp (-bb γ f lb r d)
def ko (r d : ℕ) : EReal := key (f r d) (lb d) * Ideal.exp (bb γ f lb (16 * (r / 16) + 15) d - bb γ f lb r d)
def de (r d : ℕ) : EReal := Ideal.exp (bb γ f lb (16 * (r / 16) + 15) d)

/-- The part of the result from inside the chunk. -/
def oi (h r c : ℕ) : EReal := ∑ i : Fin 16,
  (if i.val ≤ r % 16 then ∑ k : Fin 128, qi γ q f lb r (128 * h + k.val) * ki γ f lb (16 * (r / 16) + i.val) (128 * h + k.val) else 0)
    * v (16 * (r / 16) + i.val) (128 * h + c)

/-- Head `h`'s state before chunk `n` of the sequence whose rows begin at `b`. -/
def SS (b h : ℕ) : ℕ → ℕ → ℕ → EReal
  | 0, _, _ => 0
  | n + 1, k, c => SS b h n k c * de γ f lb (b + 16 * n) (128 * h + k)
      + ∑ i : Fin 16, ko γ f lb (b + 16 * n + i.val) (128 * h + k) * v (b + 16 * n + i.val) (128 * h + c)

/-- The result before the norm. -/
def oo (h r c : ℕ) : EReal :=
  oi γ q f v lb h r c + ∑ k : Fin 128, qi γ q f lb r (128 * h + k.val) * SS γ f v lb (8192 * (r / 8192)) h (r % 8192 / 16) k.val c

/-- The norm over a head's columns, the norm's weights, and the output gate. -/
def fin (o : ℕ → EReal) (w x : EReal) (c : ℕ) : EReal :=
  o c * Ideal.rsqrt (Ideal.div (∑ k : Fin 128, o k.val * o k.val) (Ideal.ofBits .f32 0x43000000#32) + Ideal.ofBits .f32 0x358637BD#32) * w
    * Ideal.div x (1 + Ideal.exp (-x))

/-- The result. -/
def res (h r c : ℕ) : EReal := fin (oo γ q f v lb h r) (w c) (g r (128 * h + c)) c

end Spec

end
-- ==== Proof.TileV.lean ====
/- The recurrence over the prompt (`Kernel`): each named part of a grid point read at an entry, and what the point leaves
   in its blocks as the entries of the plain recurrence. -/
module

public import proofs.«01_k».proof.Proof.Tile
public import proofs.«01_k».proof.Proof.Spec
public import Idealize.ShloMosaic.Lib.Pipeline.CanonAppend

@[expose] public section

set_option maxRecDepth 65536

noncomputable section

open Idealize.ShloMosaic Idealize.ShloMosaic.TcCoe

namespace Cert.KernelIdeal.Tile

open Cert.KernelIdeal Cert.KernelIdeal.Gen

theorem pay9_apply (x : Vec Ideal S256x128 .f32) (l : Vec Ideal S1x128 .f32) (a : Fin 256) (b : Fin 128) :
    k0_pay9 x l (ix2 a b) = Spec.gate (x (ix2 a b)) (l (ix2 (0 : Fin 1) b)) := by
  pointwise [k0_pay9, k0_pay8]
  simp only [zero_sub]
  rfl

theorem pay12_apply (x : Vec Ideal S256x128 .f32) (l : Vec Ideal S1x128 .f32) (a : Fin 256) (b : Fin 128) :
    k0_pay12 (k0_pay10 l) (k0_pay11 x) (ix2 a b) = Spec.key (x (ix2 a b)) (l (ix2 (0 : Fin 1) b)) := by
  pointwise [k0_pay12, k0_pay10, k0_pay11, k0_pay8]
  rfl

theorem pay13_apply (t : Vec Ideal S256x256 .bf16) (x : Vec Ideal S256x128 .f32) (a : Fin 256) (b : Fin 128) :
    k0_pay13 (k0_pay7 t) x (ix2 a b) = ((∑ s : Fin 256, t (ix2 a s) * x (ix2 s b)) + ∑ s : Fin 256, t (ix2 a s) * (x (ix2 s b) - x (ix2 s b)))
      + ∑ s : Fin 256, t (ix2 a s) * ((x (ix2 s b) - x (ix2 s b)) - (x (ix2 s b) - x (ix2 s b))) := by
  pointwise [k0_pay13, k0_pay7, dot_S256x256_S256x128_S256x128_1_0_0_1_n_n]

theorem pay14_apply (t : Vec Ideal S256x256 .bf16) (x : Vec Ideal S256x128 .f32) (a : Fin 256) (b : Fin 128) :
    k0_pay14 (k0_pay7 t) x (ix2 a b) = k0_pay13 (k0_pay7 t) x (ix2 (⟨a.val / 16 * 16 + 15, by omega⟩ : Fin 256) b) := by
  pointwise [k0_pay14]

theorem pay15_apply (t : Vec Ideal S256x256 .bf16) (x z : Vec Ideal S256x128 .f32) (a : Fin 256) (b : Fin 128) :
    k0_pay15 (k0_pay7 t) x z (ix2 a b) = z (ix2 a b) * Ideal.exp (k0_pay13 (k0_pay7 t) x (ix2 a b)) := by
  pointwise [k0_pay15]

theorem pay16_apply (t : Vec Ideal S256x256 .bf16) (x : Vec Ideal S256x128 .f32) (l : FVec Ideal S1x128 .f32) (e : FVec Ideal S256x128 .f32) (a : Fin 256) (b : Fin 128) :
    k0_pay16 (k0_pay7 t) x l e (ix2 a b) = k0_pay12 l e (ix2 a b) * Ideal.exp (k0_pay14 (k0_pay7 t) x (ix2 a b) - k0_pay13 (k0_pay7 t) x (ix2 a b)) := by
  pointwise [k0_pay16]

theorem pay17_apply (t : Vec Ideal S256x256 .bf16) (x : Vec Ideal S256x128 .f32) (a : Fin 256) (b : Fin 128) :
    k0_pay17 (k0_pay7 t) x (ix2 a b) = Ideal.exp (k0_pay14 (k0_pay7 t) x (ix2 a b)) := by
  pointwise [k0_pay17]

theorem pay18_apply (x : Vec Ideal S256x128 .f32) (a : Fin 256) (b : Fin 128) : k0_pay18 x (ix2 a b) = x (ix2 a b) := by
  pointwise [k0_pay18]

theorem pay19_apply (t : Vec Ideal S256x256 .bf16) (y x : Vec Ideal S256x128 .f32) (l : FVec Ideal S1x128 .f32) (e : FVec Ideal S256x128 .f32) (z : Vec Ideal S256x128 .f32) (a : Fin 256) (b : Fin 128) :
    k0_pay19 (k0_pay7 t) y x l e z (ix2 a b) = ∑ s : Fin 256, (if 0 < t (ix2 a s) then
      ∑ k : Fin 128, k0_pay15 (k0_pay7 t) x z (ix2 a k) * (k0_pay12 l e (ix2 s k) * Ideal.exp (-k0_pay13 (k0_pay7 t) x (ix2 s k))) else 0) * y (ix2 s b) := by
  pointwise [k0_pay19, k0_pay18, k0_pay7, dot_S256x256_S256x128_S256x128_1_0_0_1_n_n, dot_S256x128_S256x128_S256x256_1_1_0_0_n_n]
  simp only [zero_sub]

theorem out_apply (I : In Ideal) (h : ℕ) (oi : FVec Ideal S256x128 .f32) (o : ℕ → EReal) (a : Fin 256) (b : Fin 128)
    (ho : ∀ k : Fin 128, oin I h (ix2 a k) + oi (ix2 a k) = o k.val) :
    outOf I oi h (ix2 a b) = Spec.fin o (I.go (ix2 (0 : Fin 1) b)) (I.zg h (ix2 a b)) b.val := by
  pointwise [outOf, k0_pay215, k0_pay214, k0_pay212]
  simp only [zero_sub, ho]
  rfl

theorem through_apply (q : FVec Ideal S256x128 .bf16) (S : FVec Ideal S128x128 .f32) (n : ℕ) (a : Fin 16) (b : Fin 128) :
    through q S n (ix2 a b) = ∑ k : Fin 128, q (ix2 (⟨16 * (n % 16) + a.val, by omega⟩ : Fin 256) k) * S (ix2 b k) := by
  pointwise [through, dot_S16x128_S128x128_S16x128_1_1_0_0_n_n]

theorem step_apply (k : FVec Ideal S256x128 .bf16) (d : FVec Ideal S256x128 .f32) (v : FVec Ideal S256x128 .bf16) (S : FVec Ideal S128x128 .f32) (n : ℕ) (a b : Fin 128) :
    stepOf k d v S n (ix2 a b) = S (ix2 a b) * d (ix2 (⟨16 * (n % 16), by omega⟩ : Fin 256) b)
      + ∑ i : Fin 16, v (ix2 (⟨16 * (n % 16) + i.val, by omega⟩ : Fin 256) a) * k (ix2 (⟨16 * (n % 16) + i.val, by omega⟩ : Fin 256) b) := by
  pointwise [stepOf, dot_S16x128_S16x128_S128x128_0_0_1_1_n_n]

/-- The blocks a grid point reads are rows `r0 …` of the four branches, and the rest it reads. -/
structure Reads (I : In Ideal) (q f v g : ℕ → ℕ → EReal) (lb w : ℕ → EReal) (r0 : ℕ) : Prop where
  row : r0 % 256 = 0
  zq : ∀ h < 4, ∀ (a : Fin 256) (b : Fin 128), I.zq h (ix2 a b) = q (r0 + a.val) (128 * h + b.val)
  zf : ∀ h < 4, ∀ (a : Fin 256) (b : Fin 128), I.zf h (ix2 a b) = f (r0 + a.val) (128 * h + b.val)
  zi : ∀ h < 4, ∀ (a : Fin 256) (b : Fin 128), I.zi h (ix2 a b) = v (r0 + a.val) (128 * h + b.val)
  zg : ∀ h < 4, ∀ (a : Fin 256) (b : Fin 128), I.zg h (ix2 a b) = g (r0 + a.val) (128 * h + b.val)
  zl : ∀ h < 4, ∀ b : Fin 128, I.lb h (ix2 (0 : Fin 1) b) = lb (128 * h + b.val)
  go : ∀ b : Fin 128, I.go (ix2 (0 : Fin 1) b) = w b.val
  tri : ∀ r s : Fin 256, I.tri (ix2 r s) = if s.val / 16 = r.val / 16 ∧ s.val ≤ r.val then (1 : EReal) else 0
  S : ∀ h < 4, ∀ c k : Fin 128, I.S h (ix3 (0 : Fin 1) c k) = Spec.SS Spec.parts f v lb (8192 * (r0 / 8192)) h (r0 % 8192 / 16) k.val c.val

section
variable {I : In Ideal} {q f v g : ℕ → ℕ → EReal} {lb w : ℕ → EReal} {r0 : ℕ} (R : Reads I q f v g lb w r0)
include R

theorem logf_apply (h : ℕ) (hh : h < 4) (a : Fin 256) (b : Fin 128) :
    logf I h (ix2 a b) = Spec.gate (f (r0 + a.val) (128 * h + b.val)) (lb (128 * h + b.val)) := by
  unfold logf
  rw [pay9_apply, R.zf h hh, R.zl h hh]

theorem cum_apply (h : ℕ) (hh : h < 4) (a : Fin 256) (b : Fin 128) :
    k0_pay13 (k0_pay7 I.tri) (logf I h) (ix2 a b) = Spec.bb Spec.parts f lb (r0 + a.val) (128 * h + b.val) := by
  have hr := R.row
  have ha := a.isLt
  rw [pay13_apply, ← Finset.sum_add_distrib, ← Finset.sum_add_distrib]
  have e : ∀ s : Fin 256, I.tri (ix2 a s) * logf I h (ix2 s b) + I.tri (ix2 a s) * (logf I h (ix2 s b) - logf I h (ix2 s b))
        + I.tri (ix2 a s) * ((logf I h (ix2 s b) - logf I h (ix2 s b)) - (logf I h (ix2 s b) - logf I h (ix2 s b)))
      = if s.val / 16 = a.val / 16 then (if s.val ≤ a.val then Spec.parts (f (r0 + s.val) (128 * h + b.val)) (lb (128 * h + b.val)) else 0) else 0 := by
    intro s
    rw [R.tri, logf_apply R h hh, Arith.split_mask, ite_and]
    rfl
  rw [Finset.sum_congr rfl fun s _ => e s, Arith.sum_chunk (fun s => if s.val ≤ a.val then Spec.parts (f (r0 + s.val) (128 * h + b.val)) (lb (128 * h + b.val)) else 0) (a.val / 16) (by omega)]
  unfold Spec.bb
  refine Finset.sum_congr rfl fun i _ => ?_
  have hi := i.isLt
  have e1 : (16 * (a.val / 16) + i.val ≤ a.val) = (i.val ≤ (r0 + a.val) % 16) := propext (by omega)
  have e2 : r0 + (16 * (a.val / 16) + i.val) = 16 * ((r0 + a.val) / 16) + i.val := by omega
  simp only [e1, e2]

theorem total_apply (h : ℕ) (hh : h < 4) (a : Fin 256) (b : Fin 128) :
    k0_pay14 (k0_pay7 I.tri) (logf I h) (ix2 a b) = Spec.bb Spec.parts f lb (16 * ((r0 + a.val) / 16) + 15) (128 * h + b.val) := by
  have hr := R.row
  rw [pay14_apply, cum_apply R h hh]
  have e : r0 + (a.val / 16 * 16 + 15) = 16 * ((r0 + a.val) / 16) + 15 := by omega
  simp only [e]

theorem qin_apply (h : ℕ) (hh : h < 4) (a : Fin 256) (b : Fin 128) :
    qin I h (ix2 a b) = Spec.qi Spec.parts q f lb (r0 + a.val) (128 * h + b.val) := by
  unfold qin
  rw [pay15_apply, cum_apply R h hh, R.zq h hh]; rfl

theorem key_apply (h : ℕ) (hh : h < 4) (a : Fin 256) (b : Fin 128) :
    k0_pay12 (k0_pay10 (I.lb h)) (k0_pay11 (I.zf h)) (ix2 a b) = Spec.key (f (r0 + a.val) (128 * h + b.val)) (lb (128 * h + b.val)) := by
  rw [pay12_apply, R.zf h hh, R.zl h hh]

theorem kout_apply (h : ℕ) (hh : h < 4) (a : Fin 256) (b : Fin 128) :
    kout I h (ix2 a b) = Spec.ko Spec.parts f lb (r0 + a.val) (128 * h + b.val) := by
  unfold kout
  rw [pay16_apply, total_apply R h hh, cum_apply R h hh, key_apply R h hh]; rfl

theorem dec_apply (h : ℕ) (hh : h < 4) (a : Fin 256) (b : Fin 128) :
    dec I h (ix2 a b) = Spec.de Spec.parts f lb (r0 + a.val) (128 * h + b.val) := by
  unfold dec
  rw [pay17_apply, total_apply R h hh]; rfl

theorem val_apply (h : ℕ) (hh : h < 4) (a : Fin 256) (b : Fin 128) : val I h (ix2 a b) = v (r0 + a.val) (128 * h + b.val) := by
  unfold val
  rw [pay18_apply, R.zi h hh]

theorem oin_apply (h : ℕ) (hh : h < 4) (a : Fin 256) (b : Fin 128) :
    oin I h (ix2 a b) = Spec.oi Spec.parts q f v lb h (r0 + a.val) b.val := by
  have hr := R.row
  have ha := a.isLt
  unfold oin
  rw [pay19_apply]
  have e : ∀ s : Fin 256, (if 0 < I.tri (ix2 a s) then
        ∑ k : Fin 128, k0_pay15 (k0_pay7 I.tri) (logf I h) (I.zq h) (ix2 a k) * (k0_pay12 (k0_pay10 (I.lb h)) (k0_pay11 (I.zf h)) (ix2 s k) * Ideal.exp (-k0_pay13 (k0_pay7 I.tri) (logf I h) (ix2 s k))) else 0) * I.zi h (ix2 s b)
      = if s.val / 16 = a.val / 16 then ((if s.val ≤ a.val then
          ∑ k : Fin 128, Spec.qi Spec.parts q f lb (r0 + a.val) (128 * h + k.val) * Spec.ki Spec.parts f lb (r0 + s.val) (128 * h + k.val) else 0) * v (r0 + s.val) (128 * h + b.val)) else 0 := by
    intro s
    have e1 : ∀ k : Fin 128, k0_pay15 (k0_pay7 I.tri) (logf I h) (I.zq h) (ix2 a k) * (k0_pay12 (k0_pay10 (I.lb h)) (k0_pay11 (I.zf h)) (ix2 s k) * Ideal.exp (-k0_pay13 (k0_pay7 I.tri) (logf I h) (ix2 s k)))
        = Spec.qi Spec.parts q f lb (r0 + a.val) (128 * h + k.val) * Spec.ki Spec.parts f lb (r0 + s.val) (128 * h + k.val) := by
      intro k
      rw [show k0_pay15 (k0_pay7 I.tri) (logf I h) (I.zq h) (ix2 a k) = _ from qin_apply R h hh a k, key_apply R h hh, cum_apply R h hh]; rfl
    rw [R.tri, R.zi h hh, Finset.sum_congr rfl fun k _ => e1 k, Arith.mask_pos, ite_and, ite_zero_mul]
  rw [Finset.sum_congr rfl fun s _ => e s, Arith.sum_chunk (fun s => (if s.val ≤ a.val then
          ∑ k : Fin 128, Spec.qi Spec.parts q f lb (r0 + a.val) (128 * h + k.val) * Spec.ki Spec.parts f lb (r0 + s.val) (128 * h + k.val) else 0) * v (r0 + s.val) (128 * h + b.val)) (a.val / 16) (by omega)]
  unfold Spec.oi
  refine Finset.sum_congr rfl fun i _ => ?_
  have hi := i.isLt
  have e1 : (16 * (a.val / 16) + i.val ≤ a.val) = (i.val ≤ (r0 + a.val) % 16) := propext (by omega)
  have e2 : r0 + (16 * (a.val / 16) + i.val) = 16 * ((r0 + a.val) / 16) + i.val := by omega
  simp only [e1, e2]

theorem st_apply (h : ℕ) (hh : h < 4) : ∀ (n : ℕ), n ≤ 16 → ∀ (c k : Fin 128),
    st I h n (ix2 c k) = Spec.SS Spec.parts f v lb (8192 * (r0 / 8192)) h (r0 % 8192 / 16 + n) k.val c.val
  | 0, _, c, k => by
    have e : st I h 0 (ix2 c k) = I.S h (ix3 (0 : Fin 1) c k) := by pointwise [st]
    rw [e, R.S h hh]; rfl
  | n + 1, hn, c, k => by
    have hr := R.row
    have hm : n % 16 = n := Nat.mod_eq_of_lt (by omega)
    show stepOf (kout I h) (dec I h) (val I h) (st I h n) n (ix2 c k) = _
    rw [step_apply, st_apply h hh n (by omega) c k, dec_apply R h hh]
    rw [show r0 % 8192 / 16 + (n + 1) = (r0 % 8192 / 16 + n) + 1 from rfl, Spec.SS]
    have e : ∀ i, r0 + (16 * (n % 16) + i) = 8192 * (r0 / 8192) + 16 * (r0 % 8192 / 16 + n) + i := by intro i; omega
    have e0 := e 0
    simp only [add_zero] at e0
    simp only [e0]
    refine congrArg _ (Finset.sum_congr rfl fun i _ => ?_)
    rw [val_apply R h hh, kout_apply R h hh, mul_comm]
    simp only [e]

/-- The chunks' parts as one array. -/
def partAt (I : In Ideal) (y : S256x512.Idx) : EReal :=
  ∑ k : Fin 128, qin I ((y 1).val / 128) (ix2 (⟨(y 0).val, (y 0).isLt⟩ : Fin 256) k)
    * st I ((y 1).val / 128) ((y 0).val / 16) (ix2 (⟨(y 1).val % 128, Nat.mod_lt _ (by decide)⟩ : Fin 128) k)

omit R in
theorem parts_pieces : ∀ n, n ≤ 64 → ∀ p ∈ parts I n, ∀ x : p.1.shape.Idx, p.2 x = partAt I (p.1.emb x)
  | 0, _, p, hp => absurd hp (by simp [parts])
  | n + 1, hn, p, hp => by
    rcases List.mem_cons.mp hp with rfl | hp
    · intro x
      obtain ⟨a, b, rfl⟩ : ∃ (a : Fin 16) (b : Fin 128), x = ix2 a b := ⟨x 0, x 1, (ix2_eta x).symm⟩
      have e0 : (((boxR n).emb (ix2 a b)) 0).val = 16 * (n / 4 % 16) + a.val := by
        show 16 * (n / 4 % 16) + 1 * a.val = _; omega
      have e1 : (((boxR n).emb (ix2 a b)) 1).val = 128 * (n % 4) + b.val := by
        show 128 * (n % 4) + 1 * b.val = _; omega
      have ha := a.isLt
      have hb := b.isLt
      have h1 : (((boxR n).emb (ix2 a b)) 1).val / 128 = n % 4 := by omega
      have h2 : (((boxR n).emb (ix2 a b)) 0).val / 16 = n / 4 := by omega
      have h3 : (((boxR n).emb (ix2 a b)) 1).val % 128 = b.val := by omega
      show through (qin I (n % 4)) (st I (n % 4) (n / 4)) (n / 4) (ix2 a b) = _
      rw [through_apply]
      unfold partAt
      simp only [h1, h2, h3]
      simp only [e0]
    · exact parts_pieces n (by omega) p hp

omit R in
theorem parts_mem (y : S256x512.Idx) : ∀ n, ∀ m < n, y ∈ (boxR m).set → ∃ p ∈ parts I n, y ∈ p.1.set
  | 0, m, hm, _ => absurd hm (by omega)
  | n + 1, m, hm, hy => by
    by_cases e : m = n
    · subst e
      exact ⟨_, List.mem_cons_self, hy⟩
    · obtain ⟨p, hp, h⟩ := parts_mem y n m (by omega) hy
      exact ⟨p, List.mem_cons_of_mem _ hp, h⟩

omit R in
theorem parts_canon (y : S256x512.Idx) : View.canon (parts I 64) y = partAt I y := by
  refine View.canon_apply_of_pieces (partAt I) (parts I 64) (parts_pieces 64 le_rfl) y ?_
  have h0 : (y 0).val < 256 := (y 0).isLt
  have h1 : (y 1).val < 512 := (y 1).isLt
  refine parts_mem y 64 (4 * ((y 0).val / 16) + (y 1).val / 128) (by omega) (Rect.mem_set_unit.mpr fun a => ?_)
  match a with
  | ⟨0, _⟩ =>
    show 16 * ((4 * ((y 0).val / 16) + (y 1).val / 128) / 4 % 16) ≤ (y 0).val ∧ (y 0).val < 16 * ((4 * ((y 0).val / 16) + (y 1).val / 128) / 4 % 16) + 16
    omega
  | ⟨1, _⟩ =>
    show 128 * ((4 * ((y 0).val / 16) + (y 1).val / 128) % 4) ≤ (y 1).val ∧ (y 1).val < 128 * ((4 * ((y 0).val / 16) + (y 1).val / 128) % 4) + 128
    omega

/-- What is read back of the chunks' parts for head `h`. -/
def back (I : In Ideal) (h : ℕ) : FVec Ideal S256x128 .f32 := fun j => View.canon (parts I 64) ((colR h).toLoadRect.idx j)

theorem back_apply (h : ℕ) (hh : h < 4) (a : Fin 256) (b : Fin 128) :
    back I h (ix2 a b) = ∑ k : Fin 128, Spec.qi Spec.parts q f lb (r0 + a.val) (128 * h + k.val)
      * Spec.SS Spec.parts f v lb (8192 * ((r0 + a.val) / 8192)) h ((r0 + a.val) % 8192 / 16) k.val b.val := by
  have hr := R.row
  have ha := a.isLt
  have hb := b.isLt
  unfold back
  rw [parts_canon]
  have e0 : ((colR h).toLoadRect.idx (ix2 a b) 0).val = a.val := by show 0 + 1 * a.val = _; omega
  have e1 : ((colR h).toLoadRect.idx (ix2 a b) 1).val = 128 * h + b.val := by show 128 * (h % 4) + 1 * b.val = _; omega
  have h1 : ((colR h).toLoadRect.idx (ix2 a b) 1).val / 128 = h := by omega
  have h3 : ((colR h).toLoadRect.idx (ix2 a b) 1).val % 128 = b.val := by omega
  unfold partAt
  refine Finset.sum_congr rfl fun k _ => ?_
  simp only [h1, h3, e0]
  rw [qin_apply R h hh, st_apply R h hh _ (by omega)]
  have e2 : 8192 * ((r0 + a.val) / 8192) = 8192 * (r0 / 8192) := by omega
  have e3 : (r0 + a.val) % 8192 / 16 = r0 % 8192 / 16 + a.val / 16 := by omega
  rw [e2, e3]

theorem outOf_apply (h : ℕ) (hh : h < 4) (a : Fin 256) (b : Fin 128) :
    outOf I (back I h) h (ix2 a b) = Spec.res Spec.parts q f v g lb w h (r0 + a.val) b.val := by
  rw [out_apply I h (back I h) (Spec.oo Spec.parts q f v lb h (r0 + a.val)) a b, R.go, R.zg h hh]
  · rfl
  · intro k
    rw [oin_apply R h hh, back_apply R h hh]; rfl

/-- The tile of the result. -/
def outAt (q f v g : ℕ → ℕ → EReal) (lb w : ℕ → EReal) (r0 : ℕ) (y : S256x512.Idx) : EReal :=
  Spec.res Spec.parts q f v g lb w ((y 1).val / 128) (r0 + (y 0).val) ((y 1).val % 128)

theorem outs_pieces : ∀ n, n ≤ 4 → ∀ p ∈ outs I (back I) n, ∀ x : p.1.shape.Idx, p.2 x = outAt q f v g lb w r0 (p.1.emb x)
  | 0, _, p, hp => absurd hp (by simp [outs])
  | n + 1, hn, p, hp => by
    rcases List.mem_cons.mp hp with rfl | hp
    · intro x
      obtain ⟨a, b, rfl⟩ : ∃ (a : Fin 256) (b : Fin 128), x = ix2 a b := ⟨x 0, x 1, (ix2_eta x).symm⟩
      have hb := b.isLt
      have e0 : (((colR n).emb (ix2 a b)) 0).val = a.val := by show 0 + 1 * a.val = _; omega
      have e1 : (((colR n).emb (ix2 a b)) 1).val = 128 * n + b.val := by show 128 * (n % 4) + 1 * b.val = _; omega
      have h1 : (((colR n).emb (ix2 a b)) 1).val / 128 = n := by omega
      have h3 : (((colR n).emb (ix2 a b)) 1).val % 128 = b.val := by omega
      show outOf I (back I n) n (ix2 a b) = _
      rw [outOf_apply R n (by omega)]
      unfold outAt
      rw [h1, h3, e0]
    · exact outs_pieces n (by omega) p hp

omit R in
theorem outs_mem (oi : ℕ → FVec Ideal S256x128 .f32) (y : S256x512.Idx) : ∀ n, ∀ m < n, y ∈ (colR m).set → ∃ p ∈ outs I oi n, y ∈ p.1.set
  | 0, m, hm, _ => absurd hm (by omega)
  | n + 1, m, hm, hy => by
    by_cases e : m = n
    · subst e
      exact ⟨_, List.mem_cons_self, hy⟩
    · obtain ⟨p, hp, h⟩ := outs_mem oi y n m (by omega) hy
      exact ⟨p, List.mem_cons_of_mem _ hp, h⟩

theorem outs_canon (y : S256x512.Idx) : View.canon (outs I (back I) 4) y = outAt q f v g lb w r0 y := by
  refine View.canon_apply_of_pieces (outAt q f v g lb w r0) (outs I (back I) 4) (outs_pieces R 4 le_rfl) y ?_
  have h0 : (y 0).val < 256 := (y 0).isLt
  have h1 : (y 1).val < 512 := (y 1).isLt
  refine outs_mem _ y 4 ((y 1).val / 128) (by omega) (Rect.mem_set_unit.mpr fun a => ?_)
  match a with
  | ⟨0, _⟩ => show 0 ≤ (y 0).val ∧ (y 0).val < 0 + 256; omega
  | ⟨1, _⟩ => show 128 * ((y 1).val / 128 % 4) ≤ (y 1).val ∧ (y 1).val < 128 * ((y 1).val / 128 % 4) + 128; omega

/-- The state the tile leaves, values first. -/
def keepAt (f v : ℕ → ℕ → EReal) (lb : ℕ → EReal) (r0 : ℕ) (y : S4x128x128.Idx) : EReal :=
  Spec.SS Spec.parts f v lb (8192 * (r0 / 8192)) (y 0).val (r0 % 8192 / 16 + 16) (y 2).val (y 1).val

theorem keeps_pieces : ∀ n, n ≤ 4 → ∀ p ∈ keeps I n, ∀ x : p.1.shape.Idx, p.2 x = keepAt f v lb r0 (p.1.emb x)
  | 0, _, p, hp => absurd hp (by simp [keeps])
  | n + 1, hn, p, hp => by
    rcases List.mem_cons.mp hp with rfl | hp
    · intro x
      obtain ⟨a, b, c, rfl⟩ : ∃ (a : Fin 1) (b c : Fin 128), x = ix3 a b c := ⟨x 0, x 1, x 2, (ix3_eta x).symm⟩
      have ha := a.isLt
      have e0 : (((slabR n).emb (ix3 a b c)) 0).val = n := by show n % 4 + 1 * a.val = _; omega
      have e1 : (((slabR n).emb (ix3 a b c)) 1).val = b.val := by show 0 + 1 * b.val = _; omega
      have e2 : (((slabR n).emb (ix3 a b c)) 2).val = c.val := by show 0 + 1 * c.val = _; omega
      show shapeCast S1x128x128 (st I n 16) shapeCasts_S128x128_S1x128x128 (ix3 a b c) = _
      have e : shapeCast S1x128x128 (st I n 16) shapeCasts_S128x128_S1x128x128 (ix3 a b c) = st I n 16 (ix2 b c) := by
        pointwise
      rw [e, st_apply R n (by omega) 16 le_rfl]
      unfold keepAt
      rw [e0, e1, e2]
    · exact keeps_pieces n (by omega) p hp

omit R in
theorem keeps_mem (y : S4x128x128.Idx) : ∀ n, ∀ m < n, y ∈ (slabR m).set → ∃ p ∈ keeps I n, y ∈ p.1.set
  | 0, m, hm, _ => absurd hm (by omega)
  | n + 1, m, hm, hy => by
    by_cases e : m = n
    · subst e
      exact ⟨_, List.mem_cons_self, hy⟩
    · obtain ⟨p, hp, h⟩ := keeps_mem y n m (by omega) hy
      exact ⟨p, List.mem_cons_of_mem _ hp, h⟩

theorem keeps_canon (L : List (View.Piece (Elt Ideal) S4x128x128 .f32)) (y : S4x128x128.Idx) :
    View.canon (keeps I 4 ++ L) y = keepAt f v lb r0 y := by
  refine View.canon_append_of_pieces (keepAt f v lb r0) L (keeps I 4) (keeps_pieces R 4 le_rfl) y ?_
  have h0 : (y 0).val < 4 := (y 0).isLt
  have h1 : (y 1).val < 128 := (y 1).isLt
  have h2 : (y 2).val < 128 := (y 2).isLt
  refine keeps_mem y 4 (y 0).val (by omega) (Rect.mem_set_unit.mpr fun a => ?_)
  match a with
  | ⟨0, _⟩ => show (y 0).val % 4 ≤ (y 0).val ∧ (y 0).val < (y 0).val % 4 + 1; omega
  | ⟨1, _⟩ => show 0 ≤ (y 1).val ∧ (y 1).val < 0 + 128; omega
  | ⟨2, _⟩ => show 0 ≤ (y 2).val ∧ (y 2).val < 0 + 128; omega

/-- The state the tile hands out, keys first. -/
def lastAt (f v : ℕ → ℕ → EReal) (lb : ℕ → EReal) (r0 : ℕ) (y : S1x4x128x128.Idx) : EReal :=
  Spec.SS Spec.parts f v lb (8192 * (r0 / 8192)) (y 1).val (r0 % 8192 / 16 + 16) (y 2).val (y 3).val

theorem lasts_pieces : ∀ n, n ≤ 4 → ∀ p ∈ lasts I n, ∀ x : p.1.shape.Idx, p.2 x = lastAt f v lb r0 (p.1.emb x)
  | 0, _, p, hp => absurd hp (by simp [lasts])
  | n + 1, hn, p, hp => by
    rcases List.mem_cons.mp hp with rfl | hp
    · intro x
      obtain ⟨z, a, b, c, rfl⟩ : ∃ (z a : Fin 1) (b c : Fin 128), x = ix4 z a b c := ⟨x 0, x 1, x 2, x 3, (ix4_eta x).symm⟩
      have ha := a.isLt
      have e0 : (((slab1R n).emb (ix4 z a b c)) 1).val = n := by show n % 4 + 1 * a.val = _; omega
      have e1 : (((slab1R n).emb (ix4 z a b c)) 2).val = b.val := by show 0 + 1 * b.val = _; omega
      have e2 : (((slab1R n).emb (ix4 z a b c)) 3).val = c.val := by show 0 + 1 * c.val = _; omega
      show shapeCast S1x1x128x128 (transpose S128x128 [1, 0] (st I n 16) transposes_S128x128_p1_0_S128x128) shapeCasts_S128x128_S1x1x128x128 (ix4 z a b c) = _
      have e : shapeCast S1x1x128x128 (transpose S128x128 [1, 0] (st I n 16) transposes_S128x128_p1_0_S128x128) shapeCasts_S128x128_S1x1x128x128 (ix4 z a b c) = st I n 16 (ix2 c b) := by
        pointwise
      rw [e, st_apply R n (by omega) 16 le_rfl]
      unfold lastAt
      rw [e0, e1, e2]
    · exact lasts_pieces n (by omega) p hp

omit R in
theorem lasts_mem (y : S1x4x128x128.Idx) : ∀ n, ∀ m < n, y ∈ (slab1R m).set → ∃ p ∈ lasts I n, y ∈ p.1.set
  | 0, m, hm, _ => absurd hm (by omega)
  | n + 1, m, hm, hy => by
    by_cases e : m = n
    · subst e
      exact ⟨_, List.mem_cons_self, hy⟩
    · obtain ⟨p, hp, h⟩ := lasts_mem y n m (by omega) hy
      exact ⟨p, List.mem_cons_of_mem _ hp, h⟩

theorem lasts_canon (y : S1x4x128x128.Idx) : View.canon (lasts I 4) y = lastAt f v lb r0 y := by
  refine View.canon_apply_of_pieces (lastAt f v lb r0) (lasts I 4) (lasts_pieces R 4 le_rfl) y ?_
  have hz : (y 0).val < 1 := (y 0).isLt
  have h0 : (y 1).val < 4 := (y 1).isLt
  have h1 : (y 2).val < 128 := (y 2).isLt
  have h2 : (y 3).val < 128 := (y 3).isLt
  refine lasts_mem y 4 (y 1).val (by omega) (Rect.mem_set_unit.mpr fun a => ?_)
  match a with
  | ⟨0, _⟩ => show 0 ≤ (y 0).val ∧ (y 0).val < 0 + 1; omega
  | ⟨1, _⟩ => show (y 1).val % 4 ≤ (y 1).val ∧ (y 1).val < (y 1).val % 4 + 1; omega
  | ⟨2, _⟩ => show 0 ≤ (y 2).val ∧ (y 2).val < 0 + 128; omega
  | ⟨3, _⟩ => show 0 ≤ (y 3).val ∧ (y 3).val < 0 + 128; omega

end

end Cert.KernelIdeal.Tile

end
-- ==== Proof.Blocks.lean ====
/- What a grid point of the recurrence's kernel reads. -/
module

public import proofs.«01_k».proof.Proof.TileV
public import Idealize.ShloMosaic.Lib.Pipeline.ValueKit.Partial

@[expose] public section

set_option maxRecDepth 65536

noncomputable section

open Idealize.ShloMosaic Idealize.ShloMosaic.TcCoe Idealize.SL.Sem

namespace Cert.KernelIdeal.Sweep

open Cert.KernelIdeal Cert.KernelIdeal.Gen Cert.KernelIdeal.Value Cert.KernelIdeal.Tile

variable (m : (ℓ : Loc nD τ sig) → Buf (Elt Ideal) ℓ)

/-- The quotient by 16 as the caller counts it. -/
def quo (x : BitVec 32) : BitVec 32 :=
  Scalar.select
    (IntOp.andi
      (IntOp.cmpi CmpIPredicate.ne (if x = 0 then 0 else if x.msb = true then -1 else 1 : BitVec 32)
        (if 16#32 = 0 then 0 else if (16#32).msb = true then -1 else 1))
      (IntOp.cmpi CmpIPredicate.ne (IntOp.remsi ArithUnit.host x 16#32) 0#32))
    (IntOp.subi (IntOp.divsi ArithUnit.host x 16#32) 1#32)
    (IntOp.divsi ArithUnit.host x 16#32)

theorem quo_eq : ∀ r : Fin 256, quo (BitVec.ofNat 32 r.val) = BitVec.ofNat 32 (r.val / 16) := by decide +kernel

theorem eq_word (a b : ℕ) (ha : a < 256) (hb : b < 256) :
    IntOp.cmpi CmpIPredicate.eq (BitVec.ofNat 32 a) (BitVec.ofNat 32 b) = BitVec.ofBool (decide (b = a)) := by
  have : (BitVec.ofNat 32 a = BitVec.ofNat 32 b) ↔ b = a := by
    rw [← BitVec.toNat_inj, BitVec.toNat_ofNat, BitVec.toNat_ofNat, Nat.mod_eq_of_lt (by omega), Nat.mod_eq_of_lt (by omega)]
    exact eq_comm
  show BitVec.ofBool (BitVec.ofNat 32 a == BitVec.ofNat 32 b) = _
  congr 1
  rw [beq_eq_decide, decide_eq_decide]
  exact this

theorem sle_word (a b : ℕ) (ha : a < 256) (hb : b < 256) :
    IntOp.cmpi CmpIPredicate.sle (BitVec.ofNat 32 a) (BitVec.ofNat 32 b) = BitVec.ofBool (decide (a ≤ b)) := by
  show BitVec.ofBool (BitVec.sle (BitVec.ofNat 32 a) (BitVec.ofNat 32 b)) = _
  congr 1
  rw [BitVec.sle_eq_decide, BitVec.toInt_eq_toNat_of_lt, BitVec.toInt_eq_toNat_of_lt, BitVec.toNat_ofNat, BitVec.toNat_ofNat,
    Nat.mod_eq_of_lt (by omega), Nat.mod_eq_of_lt (by omega), decide_eq_decide]
  · exact Int.ofNat_le
  all_goals (rw [BitVec.toNat_ofNat, Nat.mod_eq_of_lt (by omega)]; omega)

theorem bit_word (p q : Prop) [Decidable p] [Decidable q] :
    (FloatOps.uitofp (F := Ideal) FTy.bf16 (IntOp.andi (BitVec.ofBool (decide p)) (BitVec.ofBool (decide q))) : EReal)
      = if p ∧ q then (1 : EReal) else 0 := by
  by_cases hp : p <;> by_cases hq : q <;> simp only [hp, hq, decide_true, decide_false, and_true, and_false, if_true, if_false]
  · show ((((1#1).toNat : ℝ)) : EReal) = 1
    simp
  all_goals
    show (((((0#1).toNat : ℕ) : ℝ)) : EReal) = 0
    simp

theorem mask_apply (c : Dev nD) (r s : Fin 256) :
    (V m c main_v16 : Vec Ideal S256x256 .bf16) (ix2 r s) = (if s.val / 16 = r.val / 16 ∧ s.val ≤ r.val then (1 : EReal) else 0 : EReal) := by
  have e : (V m c main_v16 : Vec Ideal S256x256 .bf16) (ix2 r s) = FloatOps.uitofp (F := Ideal) FTy.bf16 (IntOp.andi
      (IntOp.cmpi CmpIPredicate.eq (quo (BitVec.ofNat 32 r.val)) (quo (BitVec.ofNat 32 s.val)))
      (IntOp.cmpi CmpIPredicate.sle (BitVec.ofNat 32 s.val) (BitVec.ofNat 32 r.val))) := by
    dsimp only [V, hostOps0, hostOps0_1, hostOps0_2, hostOps0_3, hostOps0_4, List.flatten_cons, List.flatten_nil, List.append_nil, List.cons_append, List.nil_append]
    after_results
    simp only [StableHlo.TRef.ofBuf_toBuf, id]
    simp only [StableHlo.TRef.ofBuf, StableHlo.TRef.toBuf, cast_eq, eqRec_eq_cast]
    pointwise
    rfl
  rw [e, quo_eq, quo_eq, eq_word _ _ (by omega) (by omega), sle_word _ _ s.isLt r.isLt]
  exact bit_word _ _

theorem idxs : ∀ t : Fin cfg0.N, (win0_0.index t (0 : Fin 2) = t.val ∧ win0_0.index t (1 : Fin 2) = 0)
    ∧ (win0_1.index t (0 : Fin 2) = t.val ∧ win0_1.index t (1 : Fin 2) = 1)
    ∧ (win0_2.index t (0 : Fin 2) = t.val ∧ win0_2.index t (1 : Fin 2) = 2)
    ∧ (win0_3.index t (0 : Fin 2) = t.val ∧ win0_3.index t (1 : Fin 2) = 3)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

abbrev Z (c : Dev nD) : Vec Ideal S16416x5632 .f32 := m ((c : Thread nD τ).loc main_arg0)
abbrev Lb (c : Dev nD) : Vec Ideal S512 .f32 := m ((c : Thread nD τ).loc main_arg1)
abbrev Hn (c : Dev nD) : Vec Ideal S128 .f32 := m ((c : Thread nD τ).loc main_arg2)

theorem blk0 (c : Dev nD) (t : Fin cfg0.N) (a : Fin 256) (b : Fin 512) :
    X0_0 m c t (ix2 a b) = Spec.at2 (Z m c) 0 (256 * t.val + a.val) b.val := by
  obtain ⟨e0, e1⟩ := (idxs t).1
  have ht : t.val < 64 := N_0 ▸ t.isLt
  unfold X0_0 Pipeline.Window.fill Spec.at2
  rw [dif_pos (moved0_0 t _)]
  show V m c main_arg0 (((cfg0.win 0).blk t).view.emb _) = _
  rw [V_main_arg0]
  refine congrArg (Z m c) (funext fun d => Fin.ext ?_)
  match d with
  | ⟨0, _⟩ => show win0_0.index t (0 : Fin 2) * 256 + 1 * a.val = (256 * t.val + a.val) % 16416; omega
  | ⟨1, _⟩ => show win0_0.index t (1 : Fin 2) * 512 + 1 * b.val = (0 + b.val) % 5632; omega

theorem blk1 (c : Dev nD) (t : Fin cfg0.N) (a : Fin 256) (b : Fin 512) :
    X0_1 m c t (ix2 a b) = Spec.at2 (Z m c) 512 (256 * t.val + a.val) b.val := by
  obtain ⟨e0, e1⟩ := (idxs t).2.1
  have ht : t.val < 64 := N_0 ▸ t.isLt
  unfold X0_1 Pipeline.Window.fill Spec.at2
  rw [dif_pos (moved0_1 t _)]
  show V m c main_arg0 (((cfg0.win 1).blk t).view.emb _) = _
  rw [V_main_arg0]
  refine congrArg (Z m c) (funext fun d => Fin.ext ?_)
  match d with
  | ⟨0, _⟩ => show win0_1.index t (0 : Fin 2) * 256 + 1 * a.val = (256 * t.val + a.val) % 16416; omega
  | ⟨1, _⟩ => show win0_1.index t (1 : Fin 2) * 512 + 1 * b.val = (512 + b.val) % 5632; omega

theorem blk2 (c : Dev nD) (t : Fin cfg0.N) (a : Fin 256) (b : Fin 512) :
    X0_2 m c t (ix2 a b) = Spec.at2 (Z m c) 1024 (256 * t.val + a.val) b.val := by
  obtain ⟨e0, e1⟩ := (idxs t).2.2.1
  have ht : t.val < 64 := N_0 ▸ t.isLt
  unfold X0_2 Pipeline.Window.fill Spec.at2
  rw [dif_pos (moved0_2 t _)]
  show V m c main_arg0 (((cfg0.win 2).blk t).view.emb _) = _
  rw [V_main_arg0]
  refine congrArg (Z m c) (funext fun d => Fin.ext ?_)
  match d with
  | ⟨0, _⟩ => show win0_2.index t (0 : Fin 2) * 256 + 1 * a.val = (256 * t.val + a.val) % 16416; omega
  | ⟨1, _⟩ => show win0_2.index t (1 : Fin 2) * 512 + 1 * b.val = (1024 + b.val) % 5632; omega

theorem blk3 (c : Dev nD) (t : Fin cfg0.N) (a : Fin 256) (b : Fin 512) :
    X0_3 m c t (ix2 a b) = Spec.at2 (Z m c) 1536 (256 * t.val + a.val) b.val := by
  obtain ⟨e0, e1⟩ := (idxs t).2.2.2.1
  have ht : t.val < 64 := N_0 ▸ t.isLt
  unfold X0_3 Pipeline.Window.fill Spec.at2
  rw [dif_pos (moved0_3 t _)]
  show V m c main_arg0 (((cfg0.win 3).blk t).view.emb _) = _
  rw [V_main_arg0]
  refine congrArg (Z m c) (funext fun d => Fin.ext ?_)
  match d with
  | ⟨0, _⟩ => show win0_3.index t (0 : Fin 2) * 256 + 1 * a.val = (256 * t.val + a.val) % 16416; omega
  | ⟨1, _⟩ => show win0_3.index t (1 : Fin 2) * 512 + 1 * b.val = (1536 + b.val) % 5632; omega

theorem V_v0 (c : Dev nD) : V m c main_v0 = (shapeCast S1x512 (Lb m c) shapeCasts_S512_S1x512 : Vec Ideal S1x512 .f32) := by
  dsimp only [V, hostOps0, hostOps0_1, hostOps0_2, hostOps0_3, hostOps0_4, List.flatten_cons, List.flatten_nil, List.append_nil, List.cons_append, List.nil_append]
  after_results
  rfl

theorem V_v1 (c : Dev nD) : V m c main_v1 = (shapeCast S1x128 (Hn m c) shapeCasts_S128_S1x128 : Vec Ideal S1x128 .f32) := by
  dsimp only [V, hostOps0, hostOps0_1, hostOps0_2, hostOps0_3, hostOps0_4, List.flatten_cons, List.flatten_nil, List.append_nil, List.cons_append, List.nil_append]
  after_results
  rfl

theorem blk4 (c : Dev nD) (t : Fin cfg0.N) (b : Fin 512) :
    iblk m c 4 t (ix2 (0 : Fin 1) b) = Spec.at1 (N := 512) (by decide) (Lb m c) b.val := by
  obtain ⟨e0, e1⟩ := (idxs t).2.2.2.2.1
  show V m c main_v0 (((cfg0.win 4).blk t).view.emb (ix2 (0 : Fin 1) b)) = _
  have : ((cfg0.win 4).blk t).view.emb (ix2 (0 : Fin 1) b) = (ix2 (0 : Fin 1) b : S1x512.Idx) := by
    refine funext fun d => Fin.ext ?_
    match d with
    | ⟨0, _⟩ => show win0_4.index t (0 : Fin 2) * 1 + 1 * 0 = 0; omega
    | ⟨1, _⟩ => show win0_4.index t (1 : Fin 2) * 512 + 1 * b.val = b.val; omega
  rw [this, V_v0]
  pointwise [Spec.at1]
  exact congrArg _ (congrArg ix1 (Fin.ext (Nat.mod_eq_of_lt b.isLt).symm))

theorem blk5 (c : Dev nD) (t : Fin cfg0.N) (b : Fin 128) :
    iblk m c 5 t (ix2 (0 : Fin 1) b) = Spec.at1 (N := 128) (by decide) (Hn m c) b.val := by
  obtain ⟨e0, e1⟩ := (idxs t).2.2.2.2.2.1
  show V m c main_v1 (((cfg0.win 5).blk t).view.emb (ix2 (0 : Fin 1) b)) = _
  have : ((cfg0.win 5).blk t).view.emb (ix2 (0 : Fin 1) b) = (ix2 (0 : Fin 1) b : S1x128.Idx) := by
    refine funext fun d => Fin.ext ?_
    match d with
    | ⟨0, _⟩ => show win0_5.index t (0 : Fin 2) * 1 + 1 * 0 = 0; omega
    | ⟨1, _⟩ => show win0_5.index t (1 : Fin 2) * 128 + 1 * b.val = b.val; omega
  rw [this, V_v1]
  pointwise [Spec.at1]
  exact congrArg _ (congrArg ix1 (Fin.ext (Nat.mod_eq_of_lt b.isLt).symm))

theorem blk6 (c : Dev nD) (t : Fin cfg0.N) (r s : Fin 256) :
    iblk m c 6 t (ix2 r s) = (if s.val / 16 = r.val / 16 ∧ s.val ≤ r.val then (1 : EReal) else 0 : EReal) := by
  obtain ⟨e0, e1⟩ := (idxs t).2.2.2.2.2.2
  show V m c main_v16 (((cfg0.win 6).blk t).view.emb (ix2 r s)) = _
  have : ((cfg0.win 6).blk t).view.emb (ix2 r s) = (ix2 r s : S256x256.Idx) := by
    refine funext fun d => Fin.ext ?_
    match d with
    | ⟨0, _⟩ => show win0_6.index t (0 : Fin 2) * 256 + 1 * r.val = r.val; omega
    | ⟨1, _⟩ => show win0_6.index t (1 : Fin 2) * 256 + 1 * s.val = s.val; omega
  rw [this]
  exact mask_apply m c r s

/-- What the point `t` reads of its blocks, with the states `S` it starts from. -/
abbrev inAt (c : Dev nD) (t : Fin cfg0.N) (S : ℕ → Vec Ideal S1x128x128 .f32) : In Ideal :=
  inOf (X0_0 m c t) (X0_1 m c t) (X0_2 m c t) (X0_3 m c t) (iblk m c 4 t) (iblk m c 5 t) (iblk m c 6 t) S

theorem colR_idx (h : ℕ) (hh : h < 4) (a : Fin 256) (b : Fin 128) :
    (colR h).idx (ix2 a b) = ix2 a (⟨128 * h + b.val, by omega⟩ : Fin 512) := by
  refine funext fun d => Fin.ext ?_
  match d with
  | ⟨0, _⟩ => show 0 + 1 * a.val = a.val; omega
  | ⟨1, _⟩ => show 128 * (h % 4) + 1 * b.val = 128 * h + b.val; omega

theorem col1R_idx (h : ℕ) (hh : h < 4) (b : Fin 128) :
    (col1R h).idx (ix2 (0 : Fin 1) b) = ix2 (0 : Fin 1) (⟨128 * h + b.val, by omega⟩ : Fin 512) := by
  refine funext fun d => Fin.ext ?_
  match d with
  | ⟨0, _⟩ => rfl
  | ⟨1, _⟩ => show 128 * (h % 4) + 1 * b.val = 128 * h + b.val; omega

theorem slabR_idx (h : ℕ) (hh : h < 4) (a b : Fin 128) :
    (slabR h).idx (ix3 (0 : Fin 1) a b) = ix3 (⟨h, hh⟩ : Fin 4) a b := by
  refine funext fun d => Fin.ext ?_
  match d with
  | ⟨0, _⟩ => show h % 4 + 1 * 0 = h; omega
  | ⟨1, _⟩ => show 0 + 1 * a.val = a.val; omega
  | ⟨2, _⟩ => show 0 + 1 * b.val = b.val; omega

abbrev q (c : Dev nD) := Spec.at2 (Z m c) 0
abbrev f (c : Dev nD) := Spec.at2 (Z m c) 512
abbrev v (c : Dev nD) := Spec.at2 (Z m c) 1024
abbrev g (c : Dev nD) := Spec.at2 (Z m c) 1536
abbrev lb (c : Dev nD) := Spec.at1 (N := 512) (by decide) (Lb m c)
abbrev w (c : Dev nD) := Spec.at1 (N := 128) (by decide) (Hn m c)

theorem reads (c : Dev nD) (t : Fin cfg0.N) (S : ℕ → Vec Ideal S1x128x128 .f32)
    (hS : ∀ h < 4, ∀ a k : Fin 128, S h (ix3 (0 : Fin 1) a k)
      = Spec.SS Spec.parts (f m c) (v m c) (lb m c) (8192 * (256 * t.val / 8192)) h (256 * t.val % 8192 / 16) k.val a.val) :
    Reads (inAt m c t S) (q m c) (f m c) (v m c) (g m c) (lb m c) (w m c) (256 * t.val) where
  row := by omega
  zq h hh a b := by
    show X0_0 m c t ((colR h).idx (ix2 a b)) = _
    rw [colR_idx h hh, blk0]
  zf h hh a b := by
    show X0_1 m c t ((colR h).idx (ix2 a b)) = _
    rw [colR_idx h hh, blk1]
  zi h hh a b := by
    show X0_2 m c t ((colR h).idx (ix2 a b)) = _
    rw [colR_idx h hh, blk2]
  zg h hh a b := by
    show X0_3 m c t ((colR h).idx (ix2 a b)) = _
    rw [colR_idx h hh, blk3]
  zl h hh b := by
    show iblk m c 4 t ((col1R h).idx (ix2 (0 : Fin 1) b)) = _
    rw [col1R_idx h hh, blk4]
  go b := blk5 m c t b
  tri r s := blk6 m c t r s
  S := hS

end Cert.KernelIdeal.Sweep
-- ==== Proof.Sweep.lean ====
/- The recurrence's kernel over its grid: the state carried from point to point, and the two result arrays. -/
module

public import proofs.«01_k».proof.Proof.Blocks
public import Idealize.ShloMosaic.Lib.Pipeline.ValueKit.Partial

@[expose] public section

set_option maxRecDepth 65536

noncomputable section

open Idealize.ShloMosaic Idealize.ShloMosaic.TcCoe Idealize.SL.Sem Idealize.ShloMosaic.Tactic

namespace Cert.KernelIdeal.Sweep

open Cert.KernelIdeal Cert.KernelIdeal.Gen Cert.KernelIdeal.Value Cert.KernelIdeal.Tile

variable (m : (ℓ : Loc nD τ sig) → Buf (Elt Ideal) ℓ)

theorem hz2 : (![0, 0] : Fin 2 → ℕ) = fun _ => 0 := funext fun a => by match a with | ⟨0, _⟩ => rfl | ⟨1, _⟩ => rfl
theorem hz3 : (![0, 0, 0] : Fin 3 → ℕ) = fun _ => 0 := funext fun a => by match a with | ⟨0, _⟩ => rfl | ⟨1, _⟩ => rfl | ⟨2, _⟩ => rfl

theorem ld5 (x : Vec Ideal S1x128 .f32) : View.ld x (Rect.unit ![0, 0] S1x128.size inb_S1x128_S1x128_0_0) = x :=
  View.ld_unit_zero (S := S1x128) hz2 _ x
theorem ld6 (x : Vec Ideal S256x256 .bf16) : View.ld x (Rect.unit ![0, 0] S256x256.size inb_S256x256_S256x256_0_0) = x :=
  View.ld_unit_zero (S := S256x256) hz2 _ x

/-- The zeros a sequence's first point writes before all else. -/
abbrev wipe : View.Piece (Elt Ideal) S4x128x128 .f32 :=
  ⟨Rect.unit ![0, 0, 0] S4x128x128.size inb_S4x128x128_S4x128x128_0_0_0, k0_pay6 (F := Ideal)⟩

/-- The states a sequence's first point starts from: the zeros it has just written. -/
abbrev S0 : ℕ → Vec Ideal S1x128x128 .f32 := fun h j =>
  View.canon [wipe] ((slabR h).toLoadRect.idx j)

/-- The states another point starts from: what the point before left. -/
abbrev S1 (xs : Vec Ideal S4x128x128 .f32) : ℕ → Vec Ideal S1x128x128 .f32 := fun h => View.ld xs (slabR h)

theorem in_eq {zq zq' zf zf' zi zi' zg zg' : ℕ → Vec Ideal S256x128 .f32} {l l' : ℕ → Vec Ideal S1x128 .f32} {go go' : Vec Ideal S1x128 .f32}
    {tri tri' : Vec Ideal S256x256 .bf16} {S S' : ℕ → Vec Ideal S1x128x128 .f32} (h1 : ∀ h, zq h = zq' h) (h2 : ∀ h, zf h = zf' h)
    (h3 : ∀ h, zi h = zi' h) (h4 : ∀ h, zg h = zg' h) (h5 : ∀ h, l h = l' h) (h6 : go = go') (h7 : tri = tri') (h8 : ∀ h, S h = S' h) :
    (⟨zq, zf, zi, zg, l, go, tri, S⟩ : In Ideal) = ⟨zq', zf', zi', zg', l', go', tri', S'⟩ := by
  obtain rfl := funext h1
  obtain rfl := funext h2
  obtain rfl := funext h3
  obtain rfl := funext h4
  obtain rfl := funext h5
  subst h6 h7
  obtain rfl := funext h8
  rfl

/-- What a point loads, through whichever buffers hold its blocks. -/
theorem loads {arg2 arg3 arg4 arg5 : Memref sig .tc .vmem S256x512 .f32} (harg2 : arg2.IsWhole) (harg3 : arg3.IsWhole) (harg4 : arg4.IsWhole)
    (harg5 : arg5.IsWhole) {arg6 : Memref sig .tc .vmem S1x512 .f32} (harg6 : arg6.IsWhole) {arg7 : Memref sig .tc .vmem S1x128 .f32}
    (harg7 : arg7.IsWhole) {arg8 : Memref sig .tc .vmem S256x256 .bf16} (harg8 : arg8.IsWhole) (x0 x1 x2 x3 : Vec Ideal S256x512 .f32)
    (x4 : Vec Ideal S1x512 .f32) (x5 : Vec Ideal S1x128 .f32) (x6 : Vec Ideal S256x256 .bf16) (S S' : ℕ → Vec Ideal S1x128x128 .f32)
    (hS : ∀ h, S h = S' h) :
    (⟨fun h => View.readAt (Elt Ideal) arg2.view (colR h).toLoadRect (harg2.unread x0), fun h => View.readAt (Elt Ideal) arg3.view (colR h).toLoadRect (harg3.unread x1),
      fun h => View.readAt (Elt Ideal) arg4.view (colR h).toLoadRect (harg4.unread x2), fun h => View.readAt (Elt Ideal) arg5.view (colR h).toLoadRect (harg5.unread x3),
      fun h => View.readAt (Elt Ideal) arg6.view (col1R h).toLoadRect (harg6.unread x4),
      View.readAt (Elt Ideal) arg7.view (Rect.unit ![0, 0] S1x128.size inb_S1x128_S1x128_0_0).toLoadRect (harg7.unread x5),
      View.readAt (Elt Ideal) arg8.view (Rect.unit ![0, 0] S256x256.size inb_S256x256_S256x256_0_0).toLoadRect (harg8.unread x6), S⟩ : In Ideal)
      = inOf x0 x1 x2 x3 x4 x5 x6 S' :=
  in_eq (fun h => congrArg (View.ld · (colR h)) (harg2.read_unread x0)) (fun h => congrArg (View.ld · (colR h)) (harg3.read_unread x1))
    (fun h => congrArg (View.ld · (colR h)) (harg4.read_unread x2)) (fun h => congrArg (View.ld · (colR h)) (harg5.read_unread x3))
    (fun h => congrArg (View.ld · (col1R h)) (harg6.read_unread x4))
    ((congrArg (View.ld · (Rect.unit ![0, 0] S1x128.size inb_S1x128_S1x128_0_0)) (harg7.read_unread x5)).trans (ld5 x5))
    ((congrArg (View.ld · (Rect.unit ![0, 0] S256x256.size inb_S256x256_S256x256_0_0)) (harg8.read_unread x6)).trans (ld6 x6)) hS

section
variable (c : Dev nD) (t : Fin cfg0.N) (acc : Vec Ideal S256x512 .f32 × Vec Ideal S1x4x128x128 .f32 × Vec Ideal S4x128x128 .f32)

theorem stA_out (h0 : t.val % 32 = 0) :
    (stAt0 m c t.val t.isLt acc).1 = View.canon (outs (inAt m c t S0) (back (inAt m c t S0)) 4) := by
  rw [stAt0_A m c t acc h0 (by omega)]
  dsimp only
  unfold out0_A_7
  rw [View.read_writes_junk_eq_canon, runA_outs]
  refine (congrArg (fun I => View.canon (outs I (fun h => View.readCov scM0_1.view (parts I 64) (colR h).toLoadRect) 4)) (loads (hs0_0 t) (hs0_1 t) (hs0_2 t) (hs0_3 t) (hs0_4 t) (hs0_5 t) (hs0_6 t) (X0_0 m c t) (X0_1 m c t) (X0_2 m c t) (X0_3 m c t) (iblk m c 4 t) (iblk m c 5 t) (iblk m c 6 t) _ S0 (fun h => View.readCov_eq_canon' _ _ _))).trans ?_
  exact congrArg (fun o => View.canon (outs _ o 4)) (funext fun h => View.readCov_eq_canon' _ _ _)

theorem stA_keep (h0 : t.val % 32 = 0) :
    (stAt0 m c t.val t.isLt acc).2.2 = View.canon (keeps (inAt m c t S0) 4 ++ [wipe]) := by
  rw [stAt0_A m c t acc h0 (by omega)]
  dsimp only
  unfold sout0_A_0
  rw [View.read_writes_junk_eq_canon, runA_keeps]
  exact congrArg (fun I => View.canon (keeps I 4 ++ [wipe])) (loads (hs0_0 t) (hs0_1 t) (hs0_2 t) (hs0_3 t) (hs0_4 t) (hs0_5 t) (hs0_6 t) (X0_0 m c t) (X0_1 m c t) (X0_2 m c t) (X0_3 m c t) (iblk m c 4 t) (iblk m c 5 t) (iblk m c 6 t) _ S0 (fun h => View.readCov_eq_canon' _ _ _))

theorem stB_out (h0 : ¬t.val % 32 = 0) (h1 : ¬t.val % 32 = 31) :
    (stAt0 m c t.val t.isLt acc).1 = View.canon (outs (inAt m c t (S1 acc.2.2)) (back (inAt m c t (S1 acc.2.2))) 4) := by
  rw [stAt0_B m c t acc h0 h1]
  dsimp only
  unfold out0_B_7
  rw [View.read_writes_junk_eq_canon, runB_outs]
  refine (congrArg (fun I => View.canon (outs I (fun h => View.readCov scM0_1.view (parts I 64) (colR h).toLoadRect) 4)) (loads (hs0_0 t) (hs0_1 t) (hs0_2 t) (hs0_3 t) (hs0_4 t) (hs0_5 t) (hs0_6 t) (X0_0 m c t) (X0_1 m c t) (X0_2 m c t) (X0_3 m c t) (iblk m c 4 t) (iblk m c 5 t) (iblk m c 6 t) _ (S1 acc.2.2) (fun h => congrArg (View.ld · (slabR h)) (Memref.IsWhole.read_unread _ acc.2.2)))).trans ?_
  exact congrArg (fun o => View.canon (outs _ o 4)) (funext fun h => View.readCov_eq_canon' _ _ _)

theorem stB_keep (h0 : ¬t.val % 32 = 0) (h1 : ¬t.val % 32 = 31) :
    (stAt0 m c t.val t.isLt acc).2.2 = View.canon (keeps (inAt m c t (S1 acc.2.2)) 4) := by
  rw [stAt0_B m c t acc h0 h1]
  dsimp only
  unfold sout0_B_0
  rw [View.read_writes_junk_eq_canon, runB_keeps]
  exact congrArg (fun I => View.canon (keeps I 4)) (loads (hs0_0 t) (hs0_1 t) (hs0_2 t) (hs0_3 t) (hs0_4 t) (hs0_5 t) (hs0_6 t) (X0_0 m c t) (X0_1 m c t) (X0_2 m c t) (X0_3 m c t) (iblk m c 4 t) (iblk m c 5 t) (iblk m c 6 t) _ (S1 acc.2.2) (fun h => congrArg (View.ld · (slabR h)) (Memref.IsWhole.read_unread _ acc.2.2)))

theorem stC_out (h0 : ¬t.val % 32 = 0) (h1 : t.val % 32 = 31) :
    (stAt0 m c t.val t.isLt acc).1 = View.canon (outs (inAt m c t (S1 acc.2.2)) (back (inAt m c t (S1 acc.2.2))) 4) := by
  rw [stAt0_C m c t acc h0 h1]
  dsimp only
  unfold out0_C_7
  rw [View.read_writes_junk_eq_canon, runC_outs]
  refine (congrArg (fun I => View.canon (outs I (fun h => View.readCov scM0_1.view (parts I 64) (colR h).toLoadRect) 4)) (loads (hs0_0 t) (hs0_1 t) (hs0_2 t) (hs0_3 t) (hs0_4 t) (hs0_5 t) (hs0_6 t) (X0_0 m c t) (X0_1 m c t) (X0_2 m c t) (X0_3 m c t) (iblk m c 4 t) (iblk m c 5 t) (iblk m c 6 t) _ (S1 acc.2.2) (fun h => congrArg (View.ld · (slabR h)) (Memref.IsWhole.read_unread _ acc.2.2)))).trans ?_
  exact congrArg (fun o => View.canon (outs _ o 4)) (funext fun h => View.readCov_eq_canon' _ _ _)

theorem stC_keep (h0 : ¬t.val % 32 = 0) (h1 : t.val % 32 = 31) :
    (stAt0 m c t.val t.isLt acc).2.2 = View.canon (keeps (inAt m c t (S1 acc.2.2)) 4) := by
  rw [stAt0_C m c t acc h0 h1]
  dsimp only
  unfold sout0_C_0
  rw [View.read_writes_junk_eq_canon, runC_keeps]
  exact congrArg (fun I => View.canon (keeps I 4)) (loads (hs0_0 t) (hs0_1 t) (hs0_2 t) (hs0_3 t) (hs0_4 t) (hs0_5 t) (hs0_6 t) (X0_0 m c t) (X0_1 m c t) (X0_2 m c t) (X0_3 m c t) (iblk m c 4 t) (iblk m c 5 t) (iblk m c 6 t) _ (S1 acc.2.2) (fun h => congrArg (View.ld · (slabR h)) (Memref.IsWhole.read_unread _ acc.2.2)))

theorem stC_last (h0 : ¬t.val % 32 = 0) (h1 : t.val % 32 = 31) :
    (stAt0 m c t.val t.isLt acc).2.1 = View.canon (lasts (inAt m c t (S1 acc.2.2)) 4) := by
  rw [stAt0_C m c t acc h0 h1]
  dsimp only
  unfold out0_C_8
  rw [View.read_writes_junk_eq_canon, runC_lasts]
  exact congrArg (fun I => View.canon (lasts I 4)) (loads (hs0_0 t) (hs0_1 t) (hs0_2 t) (hs0_3 t) (hs0_4 t) (hs0_5 t) (hs0_6 t) (X0_0 m c t) (X0_1 m c t) (X0_2 m c t) (X0_3 m c t) (iblk m c 4 t) (iblk m c 5 t) (iblk m c 6 t) _ (S1 acc.2.2) (fun h => congrArg (View.ld · (slabR h)) (Memref.IsWhole.read_unread _ acc.2.2)))

end

variable (c : Dev nD)

theorem readsA (t : Fin cfg0.N) (h0 : t.val % 32 = 0) :
    Reads (inAt m c t S0) (q m c) (f m c) (v m c) (g m c) (lb m c) (w m c) (256 * t.val) :=
  reads m c t S0 fun h hh a k => by
    refine (congrFun (View.canon_unit_zero (Val := Elt Ideal) (e := .f32) (S := S4x128x128) hz3 inb_S4x128x128_S4x128x128_0_0_0 (k0_pay6 (F := Ideal))) _).trans ?_
    rw [show 256 * t.val % 8192 / 16 = 0 by omega]
    exact Ideal.ofBits_zero_f32

theorem readsB (t : Fin cfg0.N) (xs : Vec Ideal S4x128x128 .f32) (h0 : ¬t.val % 32 = 0)
    (hxs : ∀ y, xs y = keepAt (f m c) (v m c) (lb m c) (256 * (t.val - 1)) y) :
    Reads (inAt m c t (S1 xs)) (q m c) (f m c) (v m c) (g m c) (lb m c) (w m c) (256 * t.val) :=
  reads m c t (S1 xs) fun h hh a k => by
    show xs ((slabR h).idx (ix3 (0 : Fin 1) a k)) = _
    rw [slabR_idx h hh, hxs]
    show Spec.SS Spec.parts _ _ _ (8192 * (256 * (t.val - 1) / 8192)) h (256 * (t.val - 1) % 8192 / 16 + 16) k.val a.val = _
    rw [show 8192 * (256 * (t.val - 1) / 8192) = 8192 * (256 * t.val / 8192) by omega,
      show 256 * (t.val - 1) % 8192 / 16 + 16 = 256 * t.val % 8192 / 16 by omega]

theorem keep_at : ∀ (n : ℕ) (hn : n < cfg0.N) (y : S4x128x128.Idx),
    (outsAt0 m c n hn).2.2 y = keepAt (f m c) (v m c) (lb m c) (256 * n) y
  | 0, hn, y => by
    rw [outsAt0_zero]
    have e := stA_keep m c ⟨0, hn⟩ junk0 rfl
    exact (congrFun e y).trans (keeps_canon (readsA m c ⟨0, hn⟩ rfl) [wipe] y)
  | n + 1, hn, y => by
    rw [outsAt0_succ]
    by_cases h0 : (n + 1) % 32 = 0
    · have e := stA_keep m c ⟨n + 1, hn⟩ (outsAt0 m c n (Nat.lt_of_succ_lt hn)) h0
      exact (congrFun e y).trans (keeps_canon (readsA m c ⟨n + 1, hn⟩ h0) [wipe] y)
    · have R := readsB m c ⟨n + 1, hn⟩ (outsAt0 m c n (Nat.lt_of_succ_lt hn)).2.2 h0 (keep_at n (Nat.lt_of_succ_lt hn))
      by_cases h1 : (n + 1) % 32 = 31
      · refine (congrFun (stC_keep m c ⟨n + 1, hn⟩ _ h0 h1) y).trans ?_
        rw [← List.append_nil (keeps _ 4)]
        exact keeps_canon R [] y
      · refine (congrFun (stB_keep m c ⟨n + 1, hn⟩ _ h0 h1) y).trans ?_
        rw [← List.append_nil (keeps _ 4)]
        exact keeps_canon R [] y

theorem out_at (n : ℕ) (hn : n < cfg0.N) (y : S256x512.Idx) :
    (outsAt0 m c n hn).1 y = outAt (q m c) (f m c) (v m c) (g m c) (lb m c) (w m c) (256 * n) y := by
  cases n with
  | zero =>
    rw [outsAt0_zero]
    exact (congrFun (stA_out m c ⟨0, hn⟩ junk0 rfl) y).trans (outs_canon (readsA m c ⟨0, hn⟩ rfl) y)
  | succ n =>
    rw [outsAt0_succ]
    by_cases h0 : (n + 1) % 32 = 0
    · exact (congrFun (stA_out m c ⟨n + 1, hn⟩ _ h0) y).trans (outs_canon (readsA m c ⟨n + 1, hn⟩ h0) y)
    · have R := readsB m c ⟨n + 1, hn⟩ (outsAt0 m c n (Nat.lt_of_succ_lt hn)).2.2 h0 (keep_at m c n (Nat.lt_of_succ_lt hn))
      by_cases h1 : (n + 1) % 32 = 31
      · exact (congrFun (stC_out m c ⟨n + 1, hn⟩ _ h0 h1) y).trans (outs_canon R y)
      · exact (congrFun (stB_out m c ⟨n + 1, hn⟩ _ h0 h1) y).trans (outs_canon R y)

theorem last_at (n : ℕ) (hn : n < cfg0.N) (h1 : n % 32 = 31) (y : S1x4x128x128.Idx) :
    (outsAt0 m c n hn).2.1 y = lastAt (f m c) (v m c) (lb m c) (256 * n) y := by
  cases n with
  | zero => exact absurd h1 (by decide)
  | succ n =>
    rw [outsAt0_succ]
    have h0 : ¬(n + 1) % 32 = 0 := by omega
    have R := readsB m c ⟨n + 1, hn⟩ (outsAt0 m c n (Nat.lt_of_succ_lt hn)).2.2 h0 (keep_at m c n (Nat.lt_of_succ_lt hn))
    exact (congrFun (stC_last m c ⟨n + 1, hn⟩ _ h0 h1) y).trans (lasts_canon R y)

/-- The kernel's first result, entry by entry. -/
theorem G7_apply (r : Fin 16384) (d : Fin 512) :
    G7 m c (ix2 r d) = Spec.res Spec.parts (q m c) (f m c) (v m c) (g m c) (lb m c) (w m c) (d.val / 128) r.val (d.val % 128) := by
  have hp : pt7Of (ix2 r d) = r.val / 256 := by
    show 1 * (r.val / 256 - 0) + 1 * (d.val / 512 - 0) = _
    omega
  have hN : pt7Of (ix2 r d) < cfg0.N := by rw [hp, show cfg0.N = 64 from N_0]; omega
  unfold G7
  rw [dif_pos hN, ← outsAt0_sweep m c _ hN, out_at m c]
  unfold outAt
  rw [hp]
  show Spec.res Spec.parts _ _ _ _ _ _ (d.val % 512 / 128) (256 * (r.val / 256) + r.val % 256) (d.val % 512 % 128) = _
  rw [Nat.mod_eq_of_lt d.isLt, Nat.div_add_mod]

/-- The kernel's second result, entry by entry. -/
theorem G8_apply (b : Fin 2) (h : Fin 4) (k n : Fin 128) :
    G8 m c (ix4 b h k n) = Spec.SS Spec.parts (f m c) (v m c) (lb m c) (8192 * b.val) h.val 512 k.val n.val := by
  have hp : pt8Of (ix4 b h k n) = 32 * b.val + 31 := by
    show 32 * (1 * (b.val / 1 - 0) + 1 * (h.val / 4 - 0) + 1 * (k.val / 128 - 0) + 1 * (n.val / 128 - 0)) + 31 = _
    omega
  have hN : pt8Of (ix4 b h k n) < cfg0.N := by rw [hp, show cfg0.N = 64 from N_0]; omega
  unfold G8
  rw [dif_pos hN, ← outsAt0_sweep m c _ hN, last_at m c _ _ (by rw [hp]; omega)]
  unfold lastAt
  rw [hp]
  show Spec.SS Spec.parts _ _ _ (8192 * (256 * (32 * b.val + 31) / 8192)) (h.val % 4) (256 * (32 * b.val + 31) % 8192 / 16 + 16) (k.val % 128) (n.val % 128) = _
  rw [Nat.mod_eq_of_lt h.isLt, Nat.mod_eq_of_lt k.isLt, Nat.mod_eq_of_lt n.isLt,
    show 8192 * (256 * (32 * b.val + 31) / 8192) = 8192 * b.val by omega, show 256 * (32 * b.val + 31) % 8192 / 16 + 16 = 512 by omega]

end Cert.KernelIdeal.Sweep
-- ==== Proof.Loop.lean ====
/- The reference's loop: its values after any number of trips. -/
module

public import proofs.«01_k».proof.Proof.Gen.ReferenceIdeal.Run
public import proofs.«01_k».proof.Proof.Gen.ReferenceIdeal.Step
public import Idealize.ShloMosaic.Lib.Tactic

@[expose] public section

/-!
The plain recurrence's loop, as the step function on the carried arrays applied once for each chunk.
-/

namespace Cert.ReferenceIdeal.Loop

open Idealize.ShloMosaic Idealize.ShloMosaic.TcCoe Idealize.SL.Sem Idealize.ShloMosaic.StableHlo
open Idealize.ShloMosaic.Tactic
open Cert.ReferenceIdeal Cert.ReferenceIdeal.Gen Cert.ReferenceIdeal.Value
open Cert.ReferenceIdeal.Step (State step init)

variable {F : FTy → Type} [FloatOps F]

/-- The carried buffers hold `s`, and the counter stands at `j`. -/
structure Holds (V0 : Valuation τ sig (Elt F)) (s : State F) (j : ℕ) : Prop where
  h0 : V0 (Proc.devRef .tc main_v83_0) = s.main_v83_0
  h1 : V0 (Proc.devRef .tc main_v83_1) = s.main_v83_1
  h2 : V0 (Proc.devRef .tc main_v83_2) = s.main_v83_2
  h3 : V0 (Proc.devRef .tc main_v83_3) = s.main_v83_3
  h4 : V0 (Proc.devRef .tc main_v83_4) = s.main_v83_4
  h5 : V0 (Proc.devRef .tc main_v83_5) = constantI S_ 32 (BitVec.ofNat 32 j)
  h6 : V0 (Proc.devRef .tc main_v83_6) = s.main_v83_6
  h7 : V0 (Proc.devRef .tc main_v83_7) = s.main_v83_7

set_option maxRecDepth 8192 in
theorem trip6 {V0 : Valuation τ sig (Elt F)} {s : State F} {j : ℕ} (h : Holds V0 s j) :
    step_main_v83_6 V0 = (step j s).main_v83_6 := by
  unfold step_main_v83_6
  rw [h.h1, h.h2, h.h3, h.h5, h.h6]
  sl_kernel_rfl

set_option maxRecDepth 8192 in
theorem trip7 {V0 : Valuation τ sig (Elt F)} {s : State F} {j : ℕ} (h : Holds V0 s j) :
    step_main_v83_7 V0 = (step j s).main_v83_7 := by
  unfold step_main_v83_7
  rw [h.h0, h.h4, h.h5, h.h6, h.h7]
  sl_kernel_rfl

theorem trip5 {V0 : Valuation τ sig (Elt F)} {s : State F} {j : ℕ} (h : Holds V0 s j) :
    step_main_v83_5 V0 = constantI S_ 32 (BitVec.ofNat 32 (j + 1)) := by
  unfold step_main_v83_5
  rw [h.h5]
  funext i
  show BitVec.ofNat 32 j + 1#32 = BitVec.ofNat 32 (j + 1)
  rw [BitVec.ofNat_add]

theorem trip {V0 : Valuation τ sig (Elt F)} {s : State F} {j : ℕ} (h : Holds V0 s j) :
    Holds (STEP V0) (step j s) (j + 1) where
  h0 := (STEP_main_v83_0 V0).trans h.h0
  h1 := (STEP_main_v83_1 V0).trans h.h1
  h2 := (STEP_main_v83_2 V0).trans h.h2
  h3 := (STEP_main_v83_3 V0).trans h.h3
  h4 := (STEP_main_v83_4 V0).trans h.h4
  h5 := (STEP_main_v83_5 V0).trans (trip5 h)
  h6 := (STEP_main_v83_6 V0).trans (trip6 h)
  h7 := (STEP_main_v83_7 V0).trans (trip7 h)

/-- The carried arrays after `n` chunks. -/
def states (z : (⟨S16416x5632, .f32⟩ : BufTy).Contents (Elt F)) (lb : (⟨S512, .f32⟩ : BufTy).Contents (Elt F)) : ℕ → State F
  | 0 => init z lb
  | n + 1 => step n (states z lb n)

variable (m : (ℓ : Loc nD τ sig) → Buf (Elt F) ℓ) (c : Dev nD)

set_option maxRecDepth 65536 in
set_option maxHeartbeats 800000 in
theorem entry : Holds (entryContents preI m c)
    (init (m ((c.tc : Thread nD τ).loc main_arg0)) (m ((c.tc : Thread nD τ).loc main_arg1))) 0 := by
  constructor <;> (simp only [entryContents, afterL_cons, afterL_nil]; after_reads_simp) <;> sl_kernel_rfl

theorem after (n : ℕ) : Holds (STEP^[n] (entryContents preI m c))
    (states (m ((c.tc : Thread nD τ).loc main_arg0)) (m ((c.tc : Thread nD τ).loc main_arg1)) n) n := by
  induction n with
  | zero => exact entry m c
  | succ n ih => rw [Function.iterate_succ_apply']; exact trip ih

set_option maxRecDepth 8192 in
theorem out : out_main_v104 (STEP^[512] (entryContents preI m c)) =
    Step.R_main_v104 (states (m ((c.tc : Thread nD τ).loc main_arg0)) (m ((c.tc : Thread nD τ).loc main_arg1)) 512)
      (m ((c.tc : Thread nD τ).loc main_arg0)) (m ((c.tc : Thread nD τ).loc main_arg2)) := by
  have h := after m c 512
  unfold out_main_v104
  rw [h.h7, iter_main_arg0 m c 512, iter_main_arg2 m c 512]
  sl_kernel_rfl

end Cert.ReferenceIdeal.Loop
-- ==== Proof.RefV.lean ====
/- The reference's recurrence, read at an index: the gates, the sums inside a chunk and the loop over the chunks. -/
module

public import proofs.«01_k».proof.Proof.Spec
public import proofs.«01_k».proof.Proof.Arith
public import proofs.«01_k».proof.Proof.Loop
public import Idealize.ShloMosaic.Lib.Pointwise

@[expose] public section

set_option maxRecDepth 65536

noncomputable section

open Idealize.ShloMosaic Idealize.ShloMosaic.TcCoe

namespace Cert.ReferenceIdeal.RefV

open Cert.ReferenceIdeal Cert.ReferenceIdeal.Gen Cert.ReferenceIdeal.Step

variable (z : Vec Ideal S16416x5632 .f32) (l : Vec Ideal S512 .f32) (w : Vec Ideal S128 .f32)

abbrev lb := Spec.at1 (N := 512) (by decide) l

theorem z_eq (o : ℕ) (b : Fin 2) (r : Fin 8192) (d : Fin 512) (i : S16416x5632.Idx) (h0 : (i 0).val = 8192 * b.val + r.val) (h1 : (i 1).val = o + d.val) :
    z i = Spec.at2 z o (8192 * b.val + r.val) d.val := by
  refine congrArg z (funext fun a => Fin.ext ?_)
  have b0 : (i 0).val < 16416 := (i 0).isLt
  have b1 : (i 1).val < 5632 := (i 1).isLt
  match a with
  | ⟨0, _⟩ => show (i 0).val = (8192 * b.val + r.val) % 16416; omega
  | ⟨1, _⟩ => show (i 1).val = (o + d.val) % 5632; omega

theorem v2_apply (b : Fin 2) (r : Fin 8192) (d : Fin 512) : A_main_v2 z l (ix3 b r d) = Spec.at2 z 0 (8192 * b.val + r.val) d.val := by
  pointwise [A_main_v2, A_main_v1, A_main_v0]
  refine z_eq z 0 b r d _ ?_ ?_
  · show b.val * 8192 + r.val = 8192 * b.val + r.val
    omega
  · show d.val = 0 + d.val
    omega

theorem v3_apply (b : Fin 2) (r : Fin 8192) (d : Fin 512) : A_main_v3 z l (ix3 b r d) = Spec.at2 z 512 (8192 * b.val + r.val) d.val := by
  pointwise [A_main_v3, A_main_v1, A_main_v0]
  refine z_eq z 512 b r d _ ?_ rfl
  show b.val * 8192 + r.val = 8192 * b.val + r.val
  omega

theorem v4_apply (b : Fin 2) (r : Fin 8192) (d : Fin 512) : A_main_v4 z l (ix3 b r d) = Spec.at2 z 1024 (8192 * b.val + r.val) d.val := by
  pointwise [A_main_v4, A_main_v1, A_main_v0]
  refine z_eq z 1024 b r d _ ?_ rfl
  show b.val * 8192 + r.val = 8192 * b.val + r.val
  omega

/-- A gate's log as the reference writes it, and as the kernel does. -/
theorem soft_eq (x : EReal) : max (-x) 0 + Ideal.log1p (Ideal.exp (-(max (-x) (- -x))))
    = -(min x 0 - Ideal.log (1 + Ideal.exp (-(max x (-x))))) := by
  have e : max (-x) 0 = -(min x 0) := by
    rcases le_total x 0 with h | h
    · rw [min_eq_left h, max_eq_left (by rwa [EReal.le_neg, neg_zero])]
    · rw [min_eq_right h, max_eq_right (by rwa [EReal.neg_le, neg_zero]), neg_zero]
  have b : min x 0 ≠ ⊤ := fun hx => absurd (hx ▸ min_le_right x 0 : (⊤ : EReal) ≤ 0) (by decide)
  rw [sub_eq_add_neg, EReal.neg_add (Or.inr (by rw [Ne, EReal.neg_eq_top_iff]; exact Arith.log_soft_ne_bot x)) (Or.inl b), sub_eq_add_neg, neg_neg,
    e, neg_neg, max_comm (-x) x]
  rfl

theorem gate_eq (x y : EReal) :
    max (Ideal.log y) (Ideal.log (1 + -y) - (max (-x) 0 + Ideal.log1p (Ideal.exp (-(max (-x) (- -x))))))
    + Ideal.log (1 + Ideal.exp (-(max (Ideal.log y - (Ideal.log (1 + -y) - (max (-x) 0 + Ideal.log1p (Ideal.exp (-(max (-x) (- -x)))))))
      (-(Ideal.log y - (Ideal.log (1 + -y) - (max (-x) 0 + Ideal.log1p (Ideal.exp (-(max (-x) (- -x))))))))))) = Spec.gate x y := by
  have e : ∀ a b : EReal, a - -b = a + b := fun a b => by rw [sub_eq_add_neg, neg_neg]
  rw [soft_eq, e, ← sub_eq_add_neg (1 : EReal) y]
  rfl

theorem gate_apply (b : Fin 2) (r : Fin 8192) (d : Fin 512) :
    A_main_v38 z l (ix3 b r d) = Spec.gate (Spec.at2 z 512 (8192 * b.val + r.val) d.val) (lb l d.val) := by
  rw [← v3_apply z l]
  pointwise [A_main_v38, A_main_v30, A_main_v31, A_main_v32, A_main_v37, A_main_v29, A_main_v28, A_main_v27, A_main_v26, A_main_v25, A_main_v24, A_main_v23, A_main_v22, A_main_v21, A_main_v20, A_main_v19, A_main_v18, A_main_v17, A_main_v16, A_main_v15, A_main_v13, A_main_v12, A_main_v10, A_main_v8, A_main_v7, A_main_v6, A_main_v5, A_main_v33, A_main_v34, A_main_v35, A_main_v36, K_main_v9, K_main_v11, K_main_v14, K_main_cst]
  simp only [ne_eq, not_true_eq_false, if_false]
  have e : lb l d.val = l (ix1 d) := congrArg l (congrArg ix1 (Fin.ext (Nat.mod_eq_of_lt d.isLt)))
  rw [e]
  exact gate_eq _ _

theorem key_apply (b : Fin 2) (r : Fin 8192) (d : Fin 512) :
    A_main_v50 z l (ix3 b r d) = Spec.key (Spec.at2 z 512 (8192 * b.val + r.val) d.val) (lb l d.val) := by
  rw [← v3_apply z l]
  pointwise [A_main_v50, A_main_v49, A_main_v48, A_main_v47, A_main_v45, A_main_v43, A_main_v42, A_main_v41, A_main_v40, K_main_v39, K_main_v44, K_main_v46, K_main_cst_0, K_main_cst_1, K_main_cst_2]
  have e : lb l d.val = l (ix1 d) := congrArg l (congrArg ix1 (Fin.ext (Nat.mod_eq_of_lt d.isLt)))
  rw [e, neg_neg, Spec.key, Arith.div_one_add_exp (1 - l (ix1 d))]

theorem v57_apply (n : Fin 512) (b : Fin 2) (h : Fin 4) (i : Fin 16) (k : Fin 128) :
    A_main_v57 z l (ix5 n b h i k) = Spec.at2 z 0 (8192 * b.val + 16 * n.val + i.val) (128 * h.val + k.val) := by
  pointwise [A_main_v57, A_main_v56, A_main_v51]
  rw [v2_apply]
  congr 1 <;> (dsimp only; omega)

theorem v59_apply (n : Fin 512) (b : Fin 2) (h : Fin 4) (i : Fin 16) (k : Fin 128) :
    A_main_v59 z l (ix5 n b h i k) = Spec.key (Spec.at2 z 512 (8192 * b.val + 16 * n.val + i.val) (128 * h.val + k.val)) (lb l (128 * h.val + k.val)) := by
  pointwise [A_main_v59, A_main_v58, A_main_v52]
  rw [key_apply, show 8192 * b.val + 16 * n.val + i.val = 8192 * b.val + (n.val * 16 + i.val) by omega, Nat.mul_comm 128 h.val]

theorem v61_apply (n : Fin 512) (b : Fin 2) (h : Fin 4) (i : Fin 16) (k : Fin 128) :
    A_main_v61 z l (ix5 n b h i k) = Spec.at2 z 1024 (8192 * b.val + 16 * n.val + i.val) (128 * h.val + k.val) := by
  pointwise [A_main_v61, A_main_v60, A_main_v53]
  rw [v4_apply]
  congr 1 <;> (dsimp only; omega)

theorem v63_apply (n : Fin 512) (b : Fin 2) (h : Fin 4) (i : Fin 16) (k : Fin 128) :
    A_main_v63 z l (ix5 n b h i k) = Spec.gate (Spec.at2 z 512 (8192 * b.val + 16 * n.val + i.val) (128 * h.val + k.val)) (lb l (128 * h.val + k.val)) := by
  pointwise [A_main_v63, A_main_v62, A_main_v54]
  rw [gate_apply, show 8192 * b.val + 16 * n.val + i.val = 8192 * b.val + (n.val * 16 + i.val) by omega, Nat.mul_comm 128 h.val]

/-! ## The sums inside a chunk -/

theorem foldl_sum {α : Type} (g : α → EReal) : ∀ (L : List α) (r : EReal), L.foldl (fun r n => r + g n) r = r + (L.map g).sum
  | [], r => by simp
  | a :: L, r => by rw [List.foldl_cons, foldl_sum g L, List.map_cons, List.sum_cons, add_assoc]

abbrev win : Shape := ⟨5, ![1, 1, 1, 16, 1]⟩
theorem win_numel : win.numel = 16 := by decide
theorem win_at : ∀ n : Fin win.numel, (win.rowMajor.symm n 3).val = n.val := by decide +kernel

theorem shift (y : ℕ → EReal) (i : Fin 16) :
    (∑ n : Fin 16, if 15 ≤ i.val + n.val then y (i.val + n.val - 15) else 0) = ∑ a : Fin 16, if a.val ≤ i.val then y a.val else 0 := by
  rw [Fin.sum_univ_eq_sum_range (fun n => if 15 ≤ i.val + n then y (i.val + n - 15) else 0),
    Fin.sum_univ_eq_sum_range (fun a => if a ≤ i.val then y a else 0)]
  fin_cases i <;> simp [Finset.sum_range_succ]

theorem window_sum (x : FVec Ideal S512x2x4x16x128 .f32) (n : Fin 512) (b : Fin 2) (h : Fin 4) (i : Fin 16) (k : Fin 128)
    (hw : S512x2x4x16x128.ReduceWindows ![1, 1, 1, 16, 1] ![1, 1, 1, 1, 1] ![0, 0, 0, 15, 0] ![0, 0, 0, 0, 0] S512x2x4x16x128) :
    Ideal.hostReduceWindowAdd ![1, 1, 1, 16, 1] ![1, 1, 1, 1, 1] ![0, 0, 0, 15, 0] ![0, 0, 0, 0, 0] hw x 0 (ix5 n b h i k)
      = ∑ a : Fin 16, if a.val ≤ i.val then x (ix5 n b h a k) else 0 := by
  let y : ℕ → EReal := fun a => if ha : a < 16 then x (ix5 n b h (⟨a, ha⟩ : Fin 16) k) else 0
  have hy : ∀ a : Fin 16, y a.val = x (ix5 n b h a k) := fun a => dif_pos a.isLt
  refine (foldl_sum _ _ _).trans ?_
  rw [zero_add, ← Fin.sum_univ_def, Finset.sum_congr rfl (fun a _ => by rw [← hy a] :
    ∀ a ∈ (Finset.univ : Finset (Fin 16)), (if a.val ≤ i.val then x (ix5 n b h a k) else 0) = if a.val ≤ i.val then y a.val else 0), ← shift]
  refine Fintype.sum_equiv (finCongr win_numel) _ _ fun w => ?_
  have e3 := win_at w
  have e0 : (win.rowMajor.symm w 0).val = 0 := Nat.lt_one_iff.mp (win.rowMajor.symm w 0).isLt
  have e1 : (win.rowMajor.symm w 1).val = 0 := Nat.lt_one_iff.mp (win.rowMajor.symm w 1).isLt
  have e2 : (win.rowMajor.symm w 2).val = 0 := Nat.lt_one_iff.mp (win.rowMajor.symm w 2).isLt
  have e4 : (win.rowMajor.symm w 4).val = 0 := Nat.lt_one_iff.mp (win.rowMajor.symm w 4).isLt
  have hlt : w.val < 16 := win_numel ▸ w.isLt
  have hn : n.val < 512 := n.isLt
  have hb : b.val < 2 := b.isLt
  have hh : h.val < 4 := h.isLt
  have hi : i.val < 16 := i.isLt
  have hk : k.val < 128 := k.isLt
  show _ = if 15 ≤ i.val + w.val then y (i.val + w.val - 15) else 0
  by_cases hc : 15 ≤ i.val + w.val
  · rw [if_pos hc, hy ⟨i.val + w.val - 15, by omega⟩]
    refine (dif_pos fun a => ?_).trans (congrArg x (funext fun a => Fin.ext ?_))
    · match a with
      | ⟨0, _⟩ => exact ⟨Nat.zero_le _, (show n.val * 1 + (win.rowMajor.symm w 0).val - 0 < 512 by omega)⟩
      | ⟨1, _⟩ => exact ⟨Nat.zero_le _, (show b.val * 1 + (win.rowMajor.symm w 1).val - 0 < 2 by omega)⟩
      | ⟨2, _⟩ => exact ⟨Nat.zero_le _, (show h.val * 1 + (win.rowMajor.symm w 2).val - 0 < 4 by omega)⟩
      | ⟨3, _⟩ => exact ⟨(show 15 ≤ i.val * 1 + (win.rowMajor.symm w 3).val by omega), (show i.val * 1 + (win.rowMajor.symm w 3).val - 15 < 16 by omega)⟩
      | ⟨4, _⟩ => exact ⟨Nat.zero_le _, (show k.val * 1 + (win.rowMajor.symm w 4).val - 0 < 128 by omega)⟩
    · match a with
      | ⟨0, _⟩ => show n.val * 1 + (win.rowMajor.symm w 0).val - 0 = n.val; omega
      | ⟨1, _⟩ => show b.val * 1 + (win.rowMajor.symm w 1).val - 0 = b.val; omega
      | ⟨2, _⟩ => show h.val * 1 + (win.rowMajor.symm w 2).val - 0 = h.val; omega
      | ⟨3, _⟩ => show i.val * 1 + (win.rowMajor.symm w 3).val - 15 = i.val + w.val - 15; omega
      | ⟨4, _⟩ => show k.val * 1 + (win.rowMajor.symm w 4).val - 0 = k.val; omega
  · rw [if_neg hc]
    refine dif_neg fun hin => hc ?_
    have h3 := (hin 3).1
    have : 15 ≤ i.val * 1 + (win.rowMajor.symm w 3).val := h3
    omega

theorem row_div (b : Fin 2) (n : Fin 512) (i : Fin 16) : 16 * ((8192 * b.val + 16 * n.val + i.val) / 16) = 8192 * b.val + 16 * n.val := by omega
theorem row_mod (b : Fin 2) (n : Fin 512) (i : Fin 16) : (8192 * b.val + 16 * n.val + i.val) % 16 = i.val := by omega

theorem v64_apply (n : Fin 512) (b : Fin 2) (h : Fin 4) (i : Fin 16) (k : Fin 128) :
    A_main_v64 z l (ix5 n b h i k) = Spec.bb Spec.gate (Spec.at2 z 512) (lb l) (8192 * b.val + 16 * n.val + i.val) (128 * h.val + k.val) := by
  have hv : (K_main_call0_call0_v0 (F := Ideal) (Shape.Idx.first h_S_) : EReal) = 0 := Ideal.ofBits_zero_f32
  unfold A_main_v64 Host.reduceWindowAdd Spec.bb
  rw [hv, row_div, row_mod, Ideal.hostReduceWindowAdd_def, window_sum]
  exact Finset.sum_congr rfl fun a _ => by rw [v63_apply]

theorem v67_apply (n : Fin 512) (b : Fin 2) (h : Fin 4) (i : Fin 16) (k : Fin 128) :
    A_main_v67 z l (ix5 n b h i k) = Spec.qi Spec.gate (Spec.at2 z 0) (Spec.at2 z 512) (lb l) (8192 * b.val + 16 * n.val + i.val) (128 * h.val + k.val) := by
  pointwise [A_main_v67, A_main_v66]
  rw [v57_apply, v64_apply]
  rfl

theorem v70_apply (n : Fin 512) (b : Fin 2) (h : Fin 4) (i : Fin 16) (k : Fin 128) :
    A_main_v70 z l (ix5 n b h i k) = Spec.ki Spec.gate (Spec.at2 z 512) (lb l) (8192 * b.val + 16 * n.val + i.val) (128 * h.val + k.val) := by
  pointwise [A_main_v70, A_main_v69, A_main_v68]
  rw [v59_apply, v64_apply]
  rfl

theorem v65_apply (n : Fin 512) (b : Fin 2) (h : Fin 4) (i : Fin 1) (k : Fin 128) :
    A_main_v65 z l (ix5 n b h i k) = Spec.bb Spec.gate (Spec.at2 z 512) (lb l) (8192 * b.val + 16 * n.val + 15) (128 * h.val + k.val) := by
  pointwise [A_main_v65]
  rw [v64_apply]
  rfl

theorem v74_apply (n : Fin 512) (b : Fin 2) (h : Fin 4) (i : Fin 16) (k : Fin 128) :
    A_main_v74 z l (ix5 n b h i k) = Spec.ko Spec.gate (Spec.at2 z 512) (lb l) (8192 * b.val + 16 * n.val + i.val) (128 * h.val + k.val) := by
  pointwise [A_main_v74, A_main_v73, A_main_v72, A_main_v71]
  rw [v59_apply, v64_apply, v65_apply]
  unfold Spec.ko
  rw [row_div]

theorem v81_apply (n : Fin 512) (b : Fin 2) (h : Fin 4) (k : Fin 128) :
    A_main_v81 z l (ix4 n b h k) = Spec.de Spec.gate (Spec.at2 z 512) (lb l) (8192 * b.val + 16 * n.val) (128 * h.val + k.val) := by
  pointwise [A_main_v81, A_main_v80]
  rw [v65_apply]
  unfold Spec.de
  rw [show 16 * ((8192 * b.val + 16 * n.val) / 16) = 8192 * b.val + 16 * n.val by omega]

theorem low_word : ∀ i x : Fin 16, Scalar.select (IntOp.cmpi CmpIPredicate.sge (IntOp.addi (BitVec.ofNat 32 i.val) 0#32) (BitVec.ofNat 32 x.val)) 1#1 0#1
    = if x.val ≤ i.val then 1#1 else 0#1 := by decide +kernel

theorem v79_apply (n : Fin 512) (b : Fin 2) (h : Fin 4) (i : Fin 16) (k : Fin 128) :
    A_main_v79 z l (ix5 n b h i k) = Spec.oi Spec.gate (Spec.at2 z 0) (Spec.at2 z 512) (Spec.at2 z 1024) (lb l) h.val (8192 * b.val + 16 * n.val + i.val) k.val := by
  unfold Spec.oi
  pointwise [A_main_v79, A_main_v78, A_main_v77, K_main_call2_v1, K_main_v76, K_main_call1_v4, K_main_call1_v2, K_main_call1_v0, K_main_call1_v1, K_main_call1_c, K_main_call1_v3, K_main_v75, K_main_c, K_main_call1_v5, K_main_call1_c_0, K_main_call2_v2, K_main_call2_v0, K_main_cst_4, dot_S512x2x4x16x128_S512x2x4x16x128_S512x2x4x16x16_4_4_3_3_012_012, dot_S512x2x4x16x16_S512x2x4x16x128_S512x2x4x16x128_4_3_3_4_012_012]
  rw [row_div, row_mod]
  refine Finset.sum_congr rfl fun a _ => ?_
  rw [low_word, v61_apply]
  by_cases hc : a.val ≤ i.val
  · rw [if_pos hc, if_pos hc]
    refine congrArg (· * _) (Eq.trans (b := ∑ x : Fin 128, A_main_v67 z l (ix5 n b h i x) * A_main_v70 z l (ix5 n b h a x)) rfl (Finset.sum_congr rfl fun c _ => ?_))
    rw [v67_apply, v70_apply]
  · rw [if_neg hc, if_neg hc]
    exact congrArg (· * _) Ideal.ofBits_zero_f32

/-! ## The loop -/

open Cert.ReferenceIdeal.Loop (states)

theorem states_0 : ∀ n, (states z l n).main_v83_0 = A_main_v67 z l
  | 0 => rfl
  | n + 1 => states_0 n
theorem states_1 : ∀ n, (states z l n).main_v83_1 = A_main_v74 z l
  | 0 => rfl
  | n + 1 => states_1 n
theorem states_2 : ∀ n, (states z l n).main_v83_2 = A_main_v61 z l
  | 0 => rfl
  | n + 1 => states_2 n
theorem states_3 : ∀ n, (states z l n).main_v83_3 = A_main_v81 z l
  | 0 => rfl
  | n + 1 => states_3 n
theorem states_4 : ∀ n, (states z l n).main_v83_4 = A_main_v79 z l
  | 0 => rfl
  | n + 1 => states_4 n

/-- Where a trip's slice starts, when the starts are the trip's number and zeros. -/
theorem start5 (n : ℕ) (hn : n < 512) (st : Fin 5 → Int) (h0 : st 0 = n) (h1 : st 1 = 0) (h2 : st 2 = 0) (h3 : st 3 = 0) (h4 : st 4 = 0)
    (ht : S1x2x4x16x128.rank = S512x2x4x16x128.rank) :
    Host.clampedStart S512x2x4x16x128 S1x2x4x16x128 ht st 0 = n ∧ Host.clampedStart S512x2x4x16x128 S1x2x4x16x128 ht st 1 = 0
      ∧ Host.clampedStart S512x2x4x16x128 S1x2x4x16x128 ht st 2 = 0 ∧ Host.clampedStart S512x2x4x16x128 S1x2x4x16x128 ht st 3 = 0
      ∧ Host.clampedStart S512x2x4x16x128 S1x2x4x16x128 ht st 4 = 0 :=
  ⟨Host.clampedStart_of_le ht st 0 n h0 (show n + 1 ≤ 512 by omega), Host.clampedStart_of_le ht st 1 0 h1 (show 0 + 2 ≤ 2 by omega),
    Host.clampedStart_of_le ht st 2 0 h2 (show 0 + 4 ≤ 4 by omega), Host.clampedStart_of_le ht st 3 0 h3 (show 0 + 16 ≤ 16 by omega),
    Host.clampedStart_of_le ht st 4 0 h4 (show 0 + 128 ≤ 128 by omega)⟩

theorem cut5 (n : ℕ) (hn : n < 512) (st : Fin 5 → Int) (h0 : st 0 = n) (h1 : st 1 = 0) (h2 : st 2 = 0) (h3 : st 3 = 0) (h4 : st 4 = 0)
    (x : Vec Ideal S512x2x4x16x128 .f32) (hs : S512x2x4x16x128.Slices (fun _ => 0) S1x2x4x16x128) (b : Fin 2) (h : Fin 4) (i : Fin 16) (k : Fin 128) :
    Host.dynamicSlice S1x2x4x16x128 x st hs (ix5 (0 : Fin 1) b h i k) = x (ix5 (⟨n, hn⟩ : Fin 512) b h i k) := by
  obtain ⟨e0, e1, e2, e3, e4⟩ := start5 n hn st h0 h1 h2 h3 h4 hs.1
  rw [Host.dynamicSlice_apply]
  refine congrArg x (funext fun a => Fin.ext ?_)
  match a with
  | ⟨0, _⟩ => show Host.clampedStart S512x2x4x16x128 S1x2x4x16x128 hs.1 st 0 + 0 = n; rw [e0, Nat.add_zero]
  | ⟨1, _⟩ => show Host.clampedStart S512x2x4x16x128 S1x2x4x16x128 hs.1 st 1 + b.val = b.val; rw [e1, Nat.zero_add]
  | ⟨2, _⟩ => show Host.clampedStart S512x2x4x16x128 S1x2x4x16x128 hs.1 st 2 + h.val = h.val; rw [e2, Nat.zero_add]
  | ⟨3, _⟩ => show Host.clampedStart S512x2x4x16x128 S1x2x4x16x128 hs.1 st 3 + i.val = i.val; rw [e3, Nat.zero_add]
  | ⟨4, _⟩ => show Host.clampedStart S512x2x4x16x128 S1x2x4x16x128 hs.1 st 4 + k.val = k.val; rw [e4, Nat.zero_add]

theorem put5 (n : ℕ) (hn : n < 512) (st : Fin 5 → Int) (h0 : st 0 = n) (h1 : st 1 = 0) (h2 : st 2 = 0) (h3 : st 3 = 0) (h4 : st 4 = 0)
    (x : Vec Ideal S512x2x4x16x128 .f32) (u : Vec Ideal S1x2x4x16x128 .f32) (hs : S512x2x4x16x128.Slices (fun _ => 0) S1x2x4x16x128)
    (j : Fin 512) (b : Fin 2) (h : Fin 4) (i : Fin 16) (k : Fin 128) :
    Host.dynamicUpdateSlice x u st hs (ix5 j b h i k) = if j.val = n then u (ix5 (0 : Fin 1) b h i k) else x (ix5 j b h i k) := by
  obtain ⟨e0, e1, e2, e3, e4⟩ := start5 n hn st h0 h1 h2 h3 h4 hs.1
  have hb := b.isLt
  have hh := h.isLt
  have hi := i.isLt
  have hk := k.isLt
  rw [Host.dynamicUpdateSlice_apply]
  by_cases hj : j.val = n
  · rw [if_pos hj]
    refine (dif_pos fun a => ?_).trans (congrArg u (funext fun a => Fin.ext ?_))
    · match a with
      | ⟨0, _⟩ =>
        show Host.clampedStart S512x2x4x16x128 S1x2x4x16x128 hs.1 st 0 ≤ j.val ∧ j.val < Host.clampedStart S512x2x4x16x128 S1x2x4x16x128 hs.1 st 0 + 1
        omega
      | ⟨1, _⟩ =>
        show Host.clampedStart S512x2x4x16x128 S1x2x4x16x128 hs.1 st 1 ≤ b.val ∧ b.val < Host.clampedStart S512x2x4x16x128 S1x2x4x16x128 hs.1 st 1 + 2
        omega
      | ⟨2, _⟩ =>
        show Host.clampedStart S512x2x4x16x128 S1x2x4x16x128 hs.1 st 2 ≤ h.val ∧ h.val < Host.clampedStart S512x2x4x16x128 S1x2x4x16x128 hs.1 st 2 + 4
        omega
      | ⟨3, _⟩ =>
        show Host.clampedStart S512x2x4x16x128 S1x2x4x16x128 hs.1 st 3 ≤ i.val ∧ i.val < Host.clampedStart S512x2x4x16x128 S1x2x4x16x128 hs.1 st 3 + 16
        omega
      | ⟨4, _⟩ =>
        show Host.clampedStart S512x2x4x16x128 S1x2x4x16x128 hs.1 st 4 ≤ k.val ∧ k.val < Host.clampedStart S512x2x4x16x128 S1x2x4x16x128 hs.1 st 4 + 128
        omega
    · match a with
      | ⟨0, _⟩ => show j.val - Host.clampedStart S512x2x4x16x128 S1x2x4x16x128 hs.1 st 0 = 0; omega
      | ⟨1, _⟩ => show b.val - Host.clampedStart S512x2x4x16x128 S1x2x4x16x128 hs.1 st 1 = b.val; omega
      | ⟨2, _⟩ => show h.val - Host.clampedStart S512x2x4x16x128 S1x2x4x16x128 hs.1 st 2 = h.val; omega
      | ⟨3, _⟩ => show i.val - Host.clampedStart S512x2x4x16x128 S1x2x4x16x128 hs.1 st 3 = i.val; omega
      | ⟨4, _⟩ => show k.val - Host.clampedStart S512x2x4x16x128 S1x2x4x16x128 hs.1 st 4 = k.val; omega
  · rw [if_neg hj]
    refine dif_neg fun hin => hj ?_
    have h' : Host.clampedStart S512x2x4x16x128 S1x2x4x16x128 hs.1 st 0 ≤ j.val ∧ j.val < Host.clampedStart S512x2x4x16x128 S1x2x4x16x128 hs.1 st 0 + 1 := hin 0
    omega

theorem cut4 (n : ℕ) (hn : n < 512) (st : Fin 4 → Int) (h0 : st 0 = n) (h1 : st 1 = 0) (h2 : st 2 = 0) (h3 : st 3 = 0)
    (x : Vec Ideal S512x2x4x128 .f32) (hs : S512x2x4x128.Slices (fun _ => 0) S1x2x4x128) (b : Fin 2) (h : Fin 4) (k : Fin 128) :
    Host.dynamicSlice S1x2x4x128 x st hs (ix4 (0 : Fin 1) b h k) = x (ix4 (⟨n, hn⟩ : Fin 512) b h k) := by
  rw [Host.dynamicSlice_apply]
  refine congrArg x (funext fun a => Fin.ext ?_)
  match a with
  | ⟨0, _⟩ =>
    show Host.clampedStart S512x2x4x128 S1x2x4x128 hs.1 st 0 + 0 = n
    exact Host.clampedStart_of_le hs.1 st 0 n h0 (show n + 1 ≤ 512 by omega)
  | ⟨1, _⟩ =>
    show Host.clampedStart S512x2x4x128 S1x2x4x128 hs.1 st 1 + b.val = b.val
    rw [Host.clampedStart_of_le hs.1 st 1 0 h1 (show 0 + 2 ≤ 2 by omega), Nat.zero_add]
  | ⟨2, _⟩ =>
    show Host.clampedStart S512x2x4x128 S1x2x4x128 hs.1 st 2 + h.val = h.val
    rw [Host.clampedStart_of_le hs.1 st 2 0 h2 (show 0 + 4 ≤ 4 by omega), Nat.zero_add]
  | ⟨3, _⟩ =>
    show Host.clampedStart S512x2x4x128 S1x2x4x128 hs.1 st 3 + k.val = k.val
    rw [Host.clampedStart_of_le hs.1 st 3 0 h3 (show 0 + 128 ≤ 128 by omega), Nat.zero_add]

/-- The trip's number as the program counts it. -/
theorem trip_word (n : ℕ) (hn : n < 512) : (BitVec.ofNat 32 n).toInt = (n : Int) := by
  rw [BitVec.toInt_eq_toNat_of_lt (by rw [BitVec.toNat_ofNat, Nat.mod_eq_of_lt (by omega)]; omega), BitVec.toNat_ofNat, Nat.mod_eq_of_lt (by omega)]

section
variable (n : ℕ) (hn : n < 512) (s : State Ideal)
include hn

theorem b4_apply (b : Fin 2) (h : Fin 4) (i : Fin 16) (k : Fin 128) : b4 n s (ix5 (0 : Fin 1) b h i k) = s.main_v83_0 (ix5 (⟨n, hn⟩ : Fin 512) b h i k) :=
  cut5 n hn _ (trip_word n hn) rfl rfl rfl rfl s.main_v83_0 _ b h i k
theorem b10_apply (b : Fin 2) (h : Fin 4) (i : Fin 16) (k : Fin 128) : b10 n s (ix5 (0 : Fin 1) b h i k) = s.main_v83_1 (ix5 (⟨n, hn⟩ : Fin 512) b h i k) :=
  cut5 n hn _ (trip_word n hn) rfl rfl rfl rfl s.main_v83_1 _ b h i k
theorem b16_apply (b : Fin 2) (h : Fin 4) (i : Fin 16) (k : Fin 128) : b16 n s (ix5 (0 : Fin 1) b h i k) = s.main_v83_2 (ix5 (⟨n, hn⟩ : Fin 512) b h i k) :=
  cut5 n hn _ (trip_word n hn) rfl rfl rfl rfl s.main_v83_2 _ b h i k
theorem b21_apply (b : Fin 2) (h : Fin 4) (k : Fin 128) : b21 n s (ix4 (0 : Fin 1) b h k) = s.main_v83_3 (ix4 (⟨n, hn⟩ : Fin 512) b h k) :=
  cut4 n hn _ (trip_word n hn) rfl rfl rfl s.main_v83_3 _ b h k
theorem b27_apply (b : Fin 2) (h : Fin 4) (i : Fin 16) (k : Fin 128) : b27 n s (ix5 (0 : Fin 1) b h i k) = s.main_v83_4 (ix5 (⟨n, hn⟩ : Fin 512) b h i k) :=
  cut5 n hn _ (trip_word n hn) rfl rfl rfl rfl s.main_v83_4 _ b h i k

theorem b35_apply (b : Fin 2) (h : Fin 4) (k c : Fin 128) : b35 n s (ix4 b h k c)
    = s.main_v83_6 (ix4 b h k c) * s.main_v83_3 (ix4 (⟨n, hn⟩ : Fin 512) b h k)
      + ∑ i : Fin 16, s.main_v83_1 (ix5 (⟨n, hn⟩ : Fin 512) b h i k) * s.main_v83_2 (ix5 (⟨n, hn⟩ : Fin 512) b h i c) := by
  pointwise [b35, b34, b33, b32, b31, b17, b11, b22, dot_S2x4x16x128_S2x4x16x128_S2x4x128x128_2_2_3_3_01_01]
  rw [b21_apply n hn]
  refine congrArg (_ + ·) (Finset.sum_congr rfl fun i _ => ?_)
  rw [b10_apply n hn, b16_apply n hn]

theorem b36_apply (b : Fin 2) (h : Fin 4) (i : Fin 16) (c : Fin 128) : b36 n s (ix5 (0 : Fin 1) b h i c)
    = s.main_v83_4 (ix5 (⟨n, hn⟩ : Fin 512) b h i c)
      + ∑ k : Fin 128, s.main_v83_0 (ix5 (⟨n, hn⟩ : Fin 512) b h i k) * s.main_v83_6 (ix4 b h k c) := by
  pointwise [b36, b30, b29, b28, b5, dot_S2x4x16x128_S2x4x128x128_S2x4x16x128_3_2_2_3_01_01]
  rw [b27_apply n hn]
  refine congrArg (_ + ·) (Finset.sum_congr rfl fun i _ => ?_)
  rw [b4_apply n hn]

theorem b41_apply (j : Fin 512) (b : Fin 2) (h : Fin 4) (i : Fin 16) (c : Fin 128) : b41 n s (ix5 j b h i c)
    = if j.val = n then b36 n s (ix5 (0 : Fin 1) b h i c) else s.main_v83_7 (ix5 j b h i c) :=
  put5 n hn _ (trip_word n hn) rfl rfl rfl rfl s.main_v83_7 (b36 n s) _ j b h i c

end

theorem S_apply : ∀ n ≤ 512, ∀ (b : Fin 2) (h : Fin 4) (k c : Fin 128), (states z l n).main_v83_6 (ix4 b h k c)
    = Spec.SS Spec.gate (Spec.at2 z 512) (Spec.at2 z 1024) (lb l) (8192 * b.val) h.val n k.val c.val
  | 0, _, b, h, k, c => Ideal.ofBits_zero_f32
  | n + 1, hn, b, h, k, c => by
    show (step n (states z l n)).main_v83_6 (ix4 b h k c) = _
    rw [step_main_v83_6, b35_apply n (by omega), S_apply n (by omega), states_1, states_2, states_3, v81_apply]
    show _ = Spec.SS Spec.gate _ _ _ _ _ n _ _ * _ + _
    refine congrArg (_ + ·) (Finset.sum_congr rfl fun i _ => ?_)
    rw [v74_apply, v61_apply]

theorem O_apply (j : Fin 512) (b : Fin 2) (h : Fin 4) (i : Fin 16) (c : Fin 128) : ∀ n ≤ 512, j.val < n → (states z l n).main_v83_7 (ix5 j b h i c)
    = Spec.oo Spec.gate (Spec.at2 z 0) (Spec.at2 z 512) (Spec.at2 z 1024) (lb l) h.val (8192 * b.val + 16 * j.val + i.val) c.val
  | 0, _, h0 => absurd h0 (Nat.not_lt_zero _)
  | n + 1, hn, hj => by
    show (step n (states z l n)).main_v83_7 (ix5 j b h i c) = _
    rw [step_main_v83_7, b41_apply n (by omega)]
    split
    · rename_i e
      obtain rfl := e.symm
      rw [b36_apply j.val (by omega), states_4, states_0, v79_apply]
      unfold Spec.oo
      refine congrArg (_ + ·) (Finset.sum_congr rfl fun k _ => ?_)
      rw [v67_apply, S_apply z l _ (by omega), show 8192 * ((8192 * b.val + 16 * j.val + i.val) / 8192) = 8192 * b.val by omega,
        show (8192 * b.val + 16 * j.val + i.val) % 8192 / 16 = j.val by omega]
    · exact O_apply j b h i c n (by omega) (by omega)

end Cert.ReferenceIdeal.RefV
-- ==== Proof.RefOut.lean ====
/- The reference's recurrence, read at an index: the norm and the output gate. -/
module

public import proofs.«01_k».proof.Proof.RefV

@[expose] public section

set_option maxRecDepth 65536

noncomputable section

open Idealize.ShloMosaic Idealize.ShloMosaic.TcCoe

namespace Cert.ReferenceIdeal.RefV

open Cert.ReferenceIdeal Cert.ReferenceIdeal.Gen Cert.ReferenceIdeal.Step

/-- The chunks' results as rows of a sequence. -/
def rows (s : State Ideal) : Vec Ideal S2x8192x4x128 .f32 :=
  shapeCast _ (transpose S2x512x16x4x128 [1, 0, 3, 2, 4] (s.main_v83_7) transposes_S512x2x4x16x128_S2x512x16x4x128_1_0_3_2_4) shapeCasts_S2x512x16x4x128_S2x8192x4x128

/-- The output gate's columns by head. -/
def gates (z : Vec Ideal S16416x5632 .f32) : Vec Ideal S2x8192x4x128 .f32 :=
  shapeCast _ (shapeCast _ (extractStridedSlice S16384x512 ![0, 1536] z slices_S16416x5632_S16384x512_0_1536) shapeCasts_S16384x512_S2x8192x512) shapeCasts_S2x8192x512_S2x8192x4x128

/-- The norm's scale of each row and head. -/
def scale (o : FVec Ideal S2x8192x4x128 .f32) : FVec Ideal S2x8192x4x1 .f32 :=
  Host.rsqrt (addf (Host.divf (broadcastInDim S2x8192x4x1 ![0, 1, 2] bcast_S2x8192x4_S2x8192x4x1_0_1_2 (Host.reduceAdd (mulf o o) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x358637BD#32)))

/-- The gated norm. -/
def normed (o g : FVec Ideal S2x8192x4x128 .f32) (w : FVec Ideal S128 .f32) : FVec Ideal S2x8192x4x128 .f32 :=
  mulf (mulf (mulf o (broadcastInDim S2x8192x4x128 ![0, 1, 2, 3] bcast_S2x8192x4x1_S2x8192x4x128_0_1_2_3 (scale o))) (broadcastInDim S2x8192x4x128 ![0, 1, 2, 3] bcast_S1x1x1x128_S2x8192x4x128_0_1_2_3 (broadcastInDim S1x1x1x128 ![3] bcast_S128_S1x1x1x128_3 w))) (mulf g (Host.divf (broadcastInDim S2x8192x4x128 ![] bcast_S_S2x8192x4x128 (constant S_ .f32 0x3F800000#32)) (addf (broadcastInDim S2x8192x4x128 ![] bcast_S_S2x8192x4x128 (constant S_ .f32 0x3F800000#32)) (Host.exp (Host.negf g)))))

theorem v104_eq (s : State Ideal) (z : Vec Ideal S16416x5632 .f32) (w : Vec Ideal S128 .f32) :
    R_main_v104 s z w = shapeCast _ (normed (rows s) (gates z) w) shapeCasts_S2x8192x4x128_S16384x512 := rfl

theorem scale_apply (o : Vec Ideal S2x8192x4x128 .f32) (b : Fin 2) (r : Fin 8192) (h : Fin 4) :
    scale o (ix4 b r h (0 : Fin 1)) = Ideal.rsqrt (Ideal.div (∑ k : Fin 128, o (ix4 b r h k) * o (ix4 b r h k)) (Ideal.ofBits .f32 0x43000000#32) + Ideal.ofBits .f32 0x358637BD#32) := by
  pointwise [scale]

theorem rows_apply (s : State Ideal) (b : Fin 2) (r : Fin 8192) (h : Fin 4) (k : Fin 128) :
    rows s (ix4 b r h k) = s.main_v83_7 (ix5 (⟨r.val / 16, by omega⟩ : Fin 512) b h (⟨r.val % 16, by omega⟩ : Fin 16) k) := by
  pointwise [rows]

theorem gates_apply (z : Vec Ideal S16416x5632 .f32) (b : Fin 2) (r : Fin 8192) (h : Fin 4) (k : Fin 128) :
    gates z (ix4 b r h k) = Spec.at2 z 1536 (8192 * b.val + r.val) (128 * h.val + k.val) := by
  pointwise [gates]
  refine congrArg z (funext fun a => Fin.ext ?_)
  match a with
  | ⟨0, _⟩ => show b.val * 8192 + r.val = (8192 * b.val + r.val) % 16416; omega
  | ⟨1, _⟩ => show 1536 + (h.val * 128 + k.val) = (1536 + (128 * h.val + k.val)) % 5632; omega

theorem normed_apply (o g : Vec Ideal S2x8192x4x128 .f32) (w : Vec Ideal S128 .f32) (b : Fin 2) (r : Fin 8192) (h : Fin 4) (k : Fin 128) :
    normed o g w (ix4 b r h k) = o (ix4 b r h k) * scale o (ix4 b r h (0 : Fin 1)) * w (ix1 k) * Ideal.div (g (ix4 b r h k)) (1 + Ideal.exp (-g (ix4 b r h k))) := by
  pointwise [normed]
  exact congrArg (o (ix4 b r h k) * scale o (ix4 b r h (0 : Fin 1)) * w (ix1 k) * ·) (Arith.div_one_add_exp _ _).symm

theorem out_apply (z : Vec Ideal S16416x5632 .f32) (l : Vec Ideal S512 .f32) (w : Vec Ideal S128 .f32) (r : Fin 16384) (d : Fin 512) :
    R_main_v104 (Loop.states z l 512) z w (ix2 r d)
    = Spec.res Spec.gate (Spec.at2 z 0) (Spec.at2 z 512) (Spec.at2 z 1024) (Spec.at2 z 1536) (lb l) (Spec.at1 (N := 128) (by decide) w) (d.val / 128) r.val (d.val % 128) := by
  rw [v104_eq]
  generalize hn : normed (rows (Loop.states z l 512)) (gates z) w = nn
  pointwise []
  have hr : 8192 * (r.val / 8192) + r.val % 8192 = r.val := by omega
  have ho : ∀ k : Fin 128, rows (Loop.states z l 512) (ix4 (⟨r.val / 8192, by omega⟩ : Fin 2) (⟨r.val % 8192, by omega⟩ : Fin 8192) (⟨d.val / 128, by omega⟩ : Fin 4) k)
      = Spec.oo Spec.gate (Spec.at2 z 0) (Spec.at2 z 512) (Spec.at2 z 1024) (lb l) (d.val / 128) r.val k.val := fun k => by
    rw [rows_apply, O_apply z l _ _ _ _ _ 512 le_rfl (by dsimp only; omega)]
    exact congrArg (fun a => Spec.oo Spec.gate (Spec.at2 z 0) (Spec.at2 z 512) (Spec.at2 z 1024) (lb l) (d.val / 128) a k.val) (by dsimp only; omega)
  rw [← hn, normed_apply, scale_apply, gates_apply, ho]
  simp only [ho, hr, Nat.div_add_mod]
  unfold Spec.res; unfold Spec.fin
  have hw : w (ix1 (⟨d.val % 128, by omega⟩ : Fin 128)) = Spec.at1 (N := 128) (by decide) w (d.val % 128) :=
    congrArg w (funext fun a => Fin.ext (by match a with | ⟨0, _⟩ => show d.val % 128 = d.val % 128 % 128; omega))
  rw [hw, Nat.div_add_mod]

end Cert.ReferenceIdeal.RefV

end
-- ==== Proof.Bounds.lean ====
/- The gates' logs whole and in parts give the same results: where a gate's bound is not a real number, the logs are plus or
   minus infinity, and then nothing passes through that column of keys in either. -/
module

public import proofs.«01_k».proof.Proof.Spec

@[expose] public section

noncomputable section

open Idealize.ShloMosaic

namespace Spec

theorem gate_cases (x l : EReal) (h : l = ⊤ ∨ l = ⊥) : gate x l = ⊤ ∨ gate x l = ⊥ := by
  rcases h with rfl | rfl
  · left
    have e : (1 : EReal) - ⊤ = ⊥ := by rw [sub_eq_add_neg, EReal.neg_top, EReal.add_bot]
    unfold gate
    rw [show Ideal.log ⊤ = ⊤ from rfl, top_sup_eq]
    exact EReal.top_add_of_ne_bot (Arith.log_soft_ne_bot _)
  · unfold gate
    have e : Ideal.log (1 - ⊥) = ⊤ := by
      rw [sub_eq_add_neg, EReal.neg_bot, EReal.add_top_of_ne_bot (by exact EReal.coe_ne_bot 1)]; rfl
    rw [show Ideal.log ⊥ = ⊥ from rfl, bot_sup_eq, e]
    by_cases hs : min x 0 - Ideal.log (1 + Ideal.exp (-(max x (-x)))) = ⊥
    · right
      rw [hs, EReal.add_bot, EReal.bot_add]
    · left
      rw [EReal.top_add_of_ne_bot hs]
      exact EReal.top_add_of_ne_bot (Arith.log_soft_ne_bot _)

theorem parts_cases (x l : EReal) (h : l = ⊤ ∨ l = ⊥) : parts x l = ⊤ ∨ parts x l = ⊥ := by
  right
  unfold parts
  rcases gate_cases x l h with e | e
  · rw [e]; exact Arith.split_top
  · rw [e]; exact Arith.split_eq bot_ne_top

theorem parts_eq (x : EReal) {l : EReal} (h : ¬(l = ⊤ ∨ l = ⊥)) : parts x l = gate x l :=
  Arith.split_eq (gate_ne_top x (fun e => h (.inl e)) (fun e => h (.inr e)))

theorem sum_bot {n : ℕ} (x : Fin n → EReal) (i : Fin n) (h : x i = ⊥) : ∑ k, x k = ⊥ := by
  rw [← Finset.add_sum_erase _ _ (Finset.mem_univ i), h, EReal.bot_add]

theorem sum_top {n : ℕ} (x : Fin n → EReal) (i : Fin n) (h : x i = ⊤) (hx : ∀ k, x k ≠ ⊥) : ∑ k, x k = ⊤ := by
  rw [← Finset.add_sum_erase _ _ (Finset.mem_univ i), h]
  exact EReal.top_add_of_ne_bot (Finset.sum_induction x (· ≠ ⊥) (fun a b ha hb => EReal.add_ne_bot_iff.2 ⟨ha, hb⟩) EReal.zero_ne_bot fun k _ => hx k)

section
variable (γ : EReal → EReal → EReal) (q f v g : ℕ → ℕ → EReal) (lb w : ℕ → EReal)

/-- Summed up to a row, logs that are all infinite give minus infinity, or plus infinity there and at the chunk's rows before. -/
theorem bb_cases (r d : ℕ) (hd : ∀ x, γ x (lb d) = ⊤ ∨ γ x (lb d) = ⊥) :
    bb γ f lb r d = ⊥ ∨ ∀ i ≤ r % 16, bb γ f lb (16 * (r / 16) + i) d = ⊤ := by
  by_cases h : ∃ i : Fin 16, i.val ≤ r % 16 ∧ γ (f (16 * (r / 16) + i.val) d) (lb d) = ⊥
  · left
    obtain ⟨i, hi, e⟩ := h
    exact sum_bot _ i (by rw [if_pos hi, e])
  · right
    intro i hi
    have hm : (16 * (r / 16) + i) % 16 = i := by omega
    have hq : (16 * (r / 16) + i) / 16 = r / 16 := by omega
    have ht : ∀ k : Fin 16, k.val ≤ i → γ (f (16 * (r / 16) + k.val) d) (lb d) = ⊤ := fun k hk =>
      (hd _).resolve_right fun e => h ⟨k, by omega, e⟩
    unfold bb
    rw [hm, hq]
    refine sum_top _ (0 : Fin 16) (by rw [if_pos (show (0 : Fin 16).val ≤ i from Nat.zero_le _)]; exact ht 0 (Nat.zero_le _)) fun k => ?_
    by_cases hk : k.val ≤ i
    · rw [if_pos hk, ht k hk]; exact top_ne_bot
    · rw [if_neg hk]; exact EReal.zero_ne_bot

theorem pair_zero (r d i : ℕ) (hi : i ≤ r % 16) (hd : ∀ x, γ x (lb d) = ⊤ ∨ γ x (lb d) = ⊥) :
    qi γ q f lb r d * ki γ f lb (16 * (r / 16) + i) d = 0 := by
  rcases bb_cases γ f lb r d hd with e | e
  · unfold qi
    rw [e, show Ideal.exp ⊥ = 0 from rfl, mul_zero, zero_mul]
  · unfold ki
    rw [e i hi, EReal.neg_top, show Ideal.exp ⊥ = 0 from rfl, mul_zero, mul_zero]

theorem ko_zero (r d : ℕ) (hd : ∀ x, γ x (lb d) = ⊤ ∨ γ x (lb d) = ⊥) : ko γ f lb r d = 0 := by
  unfold ko
  rcases bb_cases γ f lb (16 * (r / 16) + 15) d hd with e | e
  · rw [e, sub_eq_add_neg, EReal.bot_add, show Ideal.exp ⊥ = 0 from rfl, mul_zero]
  · have e' := e (r % 16) (by omega)
    rw [show 16 * ((16 * (r / 16) + 15) / 16) + r % 16 = r by omega] at e'
    rw [e', sub_eq_add_neg, EReal.neg_top, EReal.add_bot, show Ideal.exp ⊥ = 0 from rfl, mul_zero]

theorem SS_zero (b h k c : ℕ) (hd : ∀ x, γ x (lb (128 * h + k)) = ⊤ ∨ γ x (lb (128 * h + k)) = ⊥) : ∀ n, SS γ f v lb b h n k c = 0
  | 0 => rfl
  | n + 1 => by
    rw [SS, SS_zero b h k c hd n, zero_mul, zero_add]
    exact Finset.sum_eq_zero fun i _ => by rw [ko_zero γ f lb _ _ hd, zero_mul]

end

variable (q f v g : ℕ → ℕ → EReal) (lb w : ℕ → EReal)

theorem bb_eq (r d : ℕ) (h : ¬(lb d = ⊤ ∨ lb d = ⊥)) : bb parts f lb r d = bb gate f lb r d := by
  unfold bb
  exact Finset.sum_congr rfl fun i _ => by rw [parts_eq _ h]

theorem pair_eq (r d i : ℕ) (hi : i ≤ r % 16) :
    qi parts q f lb r d * ki parts f lb (16 * (r / 16) + i) d = qi gate q f lb r d * ki gate f lb (16 * (r / 16) + i) d := by
  by_cases h : lb d = ⊤ ∨ lb d = ⊥
  · rw [pair_zero parts q f lb r d i hi fun x => parts_cases x _ h, pair_zero gate q f lb r d i hi fun x => gate_cases x _ h]
  · unfold qi ki
    rw [bb_eq f lb _ d h, bb_eq f lb _ d h]

theorem SS_eq (b h k c : ℕ) : ∀ n, SS parts f v lb b h n k c = SS gate f v lb b h n k c := by
  by_cases hl : lb (128 * h + k) = ⊤ ∨ lb (128 * h + k) = ⊥
  · intro n
    rw [SS_zero parts f v lb b h k c (fun x => parts_cases x _ hl), SS_zero gate f v lb b h k c (fun x => gate_cases x _ hl)]
  · intro n
    induction n with
    | zero => rfl
    | succ n ih =>
      rw [SS, SS, ih]
      unfold de ko
      rw [bb_eq f lb _ _ hl]
      exact congrArg (_ + ·) (Finset.sum_congr rfl fun i _ => by rw [bb_eq f lb _ _ hl, bb_eq f lb _ _ hl])

theorem read_eq (r b h k c n : ℕ) :
    qi parts q f lb r (128 * h + k) * SS parts f v lb b h n k c = qi gate q f lb r (128 * h + k) * SS gate f v lb b h n k c := by
  by_cases hl : lb (128 * h + k) = ⊤ ∨ lb (128 * h + k) = ⊥
  · rw [SS_zero parts f v lb b h k c (fun x => parts_cases x _ hl), SS_zero gate f v lb b h k c (fun x => gate_cases x _ hl), mul_zero, mul_zero]
  · rw [SS_eq]
    unfold qi
    rw [bb_eq f lb _ _ hl]

theorem oo_eq (h r c : ℕ) : oo parts q f v lb h r c = oo gate q f v lb h r c := by
  unfold oo oi
  refine congr (congrArg _ (Finset.sum_congr rfl fun i _ => congrArg (· * _) ?_)) (Finset.sum_congr rfl fun k _ => read_eq q f v lb _ _ _ _ _ _)
  split
  · rename_i hi
    exact Finset.sum_congr rfl fun k _ => pair_eq q f lb _ _ _ hi
  · rfl

/-- The two give the same result. -/
theorem res_eq (h r c : ℕ) : res parts q f v g lb w h r c = res gate q f v g lb w h r c := by
  unfold res
  rw [show oo parts q f v lb h r = oo gate q f v lb h r from funext fun c => oo_eq q f v lb h r c]

end Spec

end
-- ==== Proof.Hgrn.lean ====
/- The recurrence's kernel and its reference give the same arrays. -/
module

public import proofs.«01_k».proof.Proof.Sweep
public import proofs.«01_k».proof.Proof.RefOut
public import proofs.«01_k».proof.Proof.Bounds

@[expose] public section

noncomputable section

open Idealize.ShloMosaic Idealize.ShloMosaic.TcCoe Idealize.SL.Sem

namespace Cert.Hgrn

open Cert.KernelIdeal.Sweep

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The mixed values of every row and column. -/
theorem out_eq (c : Dev Cert.KernelIdeal.nD) :
    Cert.ReferenceIdeal.Step.R_main_v104 (Cert.ReferenceIdeal.Loop.states (Z m c) (Lb m c) 512) (Z m c) (Hn m c) = Cert.KernelIdeal.Value.G7 m c := by
  funext j
  obtain ⟨r, d, rfl⟩ : ∃ (r : Fin 16384) (d : Fin 512), j = ix2 r d := ⟨j 0, j 1, by funext a; match a with | ⟨0, _⟩ => rfl | ⟨1, _⟩ => rfl⟩
  exact (Cert.ReferenceIdeal.RefV.out_apply _ _ _ r d).trans ((G7_apply m c r d).trans (Spec.res_eq _ _ _ _ _ _ _ _ _)).symm

/-- The states after the last chunk. -/
theorem state_eq (c : Dev Cert.KernelIdeal.nD) :
    (Cert.ReferenceIdeal.Loop.states (Z m c) (Lb m c) 512).main_v83_6 = Cert.KernelIdeal.Value.G8 m c := by
  funext j
  obtain ⟨b, h, k, n, rfl⟩ : ∃ (b : Fin 2) (h : Fin 4) (k n : Fin 128), j = ix4 b h k n :=
    ⟨j 0, j 1, j 2, j 3, by funext a; match a with | ⟨0, _⟩ => rfl | ⟨1, _⟩ => rfl | ⟨2, _⟩ => rfl | ⟨3, _⟩ => rfl⟩
  exact (Cert.ReferenceIdeal.RefV.S_apply _ _ 512 le_rfl b h k n).trans ((G8_apply m c b h k n).trans (Spec.SS_eq _ _ _ _ _ _ _ _)).symm

end Cert.Hgrn

end
-- ==== Proof.Table.lean ====
/- The experts' block table (`Kernel5`): with each entry below the number of experts, every block of weights it names
   lies inside its array. -/
module

public import proofs.«01_k».proof.Pre_experts_in_range
public import proofs.«01_k».proof.Proof.Gen.Kernel5Ideal.Frame
public import Idealize.ShloMosaic.Lib.ReduceAll
public import Idealize.ShloMosaic.Lib.WordCmp
public import Idealize.ShloMosaic.Lib.Tactic

@[expose] public section

noncomputable section

open Idealize.ShloMosaic Idealize.ShloMosaic.TcCoe Idealize.SL.Sem

namespace Cert.Pre_experts_in_range

/-- The precondition's shapes fit. -/
instance facts : Facts := ⟨by decide, by decide, by decide⟩

/-- The precondition says that each block's expert is one of the eight. -/
theorem lt {F : FTy → Type} [FloatOps F] {be bu : IVec S73 32} {x : FVec F S37376x1024 .f32} {wg wu : FVec F S8x1024x2816 .f32} {wd : FVec F S8x2816x1024 .f32}
    (h : fn (F := F) be bu x wg wu wd = fun _ => 1#1) (i : S73.Idx) : (be i).toNat < 8 := by
  have e := congrFun h (Shape.Idx.first (by decide))
  unfold fn at e
  have k := (Host.reduce_andi_all _ _ _ _ _ e i)
  have k' : IntOp.andi (IntOp.cmpi .sge (be i) 0#32) (IntOp.cmpi .slt (be i) (BitVec.ofNat 32 8)) = 1#1 := k
  rw [WordCmp.andi_sge_zero_slt_ofNat (by decide)] at k'
  by_contra hn
  rw [decide_eq_false hn] at k'
  exact absurd k' (by decide)

end Cert.Pre_experts_in_range

namespace Cert.Kernel5Ideal.Table

open Cert.Kernel5Ideal Cert.Kernel5Ideal.Gen

variable {F : FTy → Type} [FloatOps F] (m : (ℓ : Loc nD τ sig) → Buf (Elt F) ℓ)

/-- The blocks of weights lie inside their arrays. -/
theorem ok (h : ∀ x : S73.Idx, (tbl m 0 x).toNat < 8) : Ok m := by
  have i1 (i : grid0.Coords) : (BitVec.ofNat 32 (i 1).val).toNat < 2 := by
    have : (i 1).val < 2 := (i 1).isLt
    rw [BitVec.toNat_ofNat, Nat.mod_eq_of_lt] <;> omega
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · match a with
    | ⟨0, _⟩ => exact (Nat.mul_one _).trans_le (h _)
    | ⟨1, _⟩ => exact (by decide : (0 + 1) * 1024 ≤ 1024)
    | ⟨2, _⟩ => have := i1 i; show ((BitVec.ofNat 32 (i 1).val).toNat + 1) * 1408 ≤ 2816; omega
  · match a with
    | ⟨0, _⟩ => exact (Nat.mul_one _).trans_le (h _)
    | ⟨1, _⟩ => exact (by decide : (0 + 1) * 1024 ≤ 1024)
    | ⟨2, _⟩ => have := i1 i; show ((BitVec.ofNat 32 (i 1).val).toNat + 1) * 1408 ≤ 2816; omega
  · match a with
    | ⟨0, _⟩ => exact (Nat.mul_one _).trans_le (h _)
    | ⟨1, _⟩ => have := i1 i; show ((BitVec.ofNat 32 (i 1).val).toNat + 1) * 1408 ≤ 2816; omega
    | ⟨2, _⟩ => exact (by decide : (0 + 1) * 1024 ≤ 1024)

/-- The first table is the launch's first argument. -/
theorem tbl0 : (tbl m 0 : S73.Idx → BitVec 32) = m (((0 : Dev nD) : Thread nD τ).loc main_arg0) := V_main_arg0 m 0

/-- The second table is the launch's second argument. -/
theorem tbl1 : (tbl m 1 : S73.Idx → BitVec 32) = m (((0 : Dev nD) : Thread nD τ).loc main_arg1) := V_main_arg1 m 0

end Cert.Kernel5Ideal.Table

end
-- ==== Proof.Experts.lean ====
/- The experts' step (`Kernel5`): a block of rows goes through its own expert's weights in two halves of the hidden width,
   which add up to the reference's one contraction; a block without tokens is left at zero. -/
module

public import proofs.«01_k».proof.Proof.Table
public import proofs.«01_k».proof.Proof.Gen.Reference5Ideal.Read
public import proofs.«01_k».proof.Proof.Arith
public import Idealize.ShloMosaic.Lib.Pipeline.Value

@[expose] public section

noncomputable section

open Idealize.ShloMosaic Idealize.ShloMosaic.TcCoe Idealize.SL.Sem

namespace Cert.Kernel5Ideal.Experts

open Cert.Kernel5Ideal Cert.Kernel5Ideal.Gen

theorem hz : (![0, 0] : Fin 2 → Nat) = fun _ => 0 := funext fun a => by fin_cases a <;> rfl
theorem hz3 : (![0, 0, 0] : Fin 3 → Nat) = fun _ => 0 := funext fun a => by fin_cases a <;> rfl

section AnyF
variable {F : FTy → Type} [FloatOps F]

/-- The first point of a block with tokens leaves the first half of the contraction in the scratch. -/
theorem sout_A (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : cond0_0 i) (hc2 : ¬cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (hc1 : cond0_1 i (tbM0_1.view.readAt (Elt F) (Rect.unit (s := S73) (k0_off1 i) S1.size (k0_off1_inb i)).toLoadRect xt1 (Shape.Idx.first (numel1_S1.symm ▸ Nat.one_pos)))) :
    sout0_A_0 c i arg4 harg4 arg5 harg5 arg6 harg6 arg7 harg7 arg8 harg8 arg9 harg9 hc0 hc2 x0 x1 x2 x3 xt0 xt1 hc1 = k0_pay2 x0 x1 x2 k0_pay1 x3 := by
  unfold sout0_A_0
  rw [View.read_writes_eq_canon _ _ _ (scover0_A_0 c i arg4 harg4 arg5 harg5 arg6 harg6 arg7 harg7 arg8 harg8 arg9 harg9 hc0 hc2 x0 x1 x2 x3 xt0 xt1 hc1)]
  unfold kernelRun0_A
  dsimp only
  sl_unfold_words
  rw [View.canon_cons_unit_zero (S := S512x1024) hz, View.readCov_unit_zero (S := S512x1024) _ hz]
  simp only [View.readAt_eq_ld, harg4.read_unread, harg5.read_unread, harg6.read_unread, harg7.read_unread, harg8.read_unread, harg9.read_unread, View.ld_unit_zero (S := S512x1024) hz, View.ld_unit_zero (S := S1x1024x1408) hz3, View.ld_unit_zero (S := S1x1408x1024) hz3]

/-- The first point of a block without tokens leaves zero. -/
theorem sout_B (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : cond0_0 i) (hc2 : ¬cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (hc1 : ¬cond0_1 i (tbM0_1.view.readAt (Elt F) (Rect.unit (s := S73) (k0_off1 i) S1.size (k0_off1_inb i)).toLoadRect xt1 (Shape.Idx.first (numel1_S1.symm ▸ Nat.one_pos)))) :
    sout0_B_0 c i arg4 harg4 arg5 harg5 arg6 harg6 arg7 harg7 arg8 harg8 arg9 harg9 hc0 hc2 x0 x1 x2 x3 xt0 xt1 hc1 = k0_pay1 := by
  unfold sout0_B_0
  rw [View.read_writes_eq_canon _ _ _ (scover0_B_0 c i arg4 harg4 arg5 harg5 arg6 harg6 arg7 harg7 arg8 harg8 arg9 harg9 hc0 hc2 x0 x1 x2 x3 xt0 xt1 hc1)]
  unfold kernelRun0_B
  dsimp only
  sl_unfold_words
  rw [View.canon_unit_zero (S := S512x1024) hz]

/-- The second point of a block with tokens adds the second half and writes the sum. -/
theorem out_C (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc2 : cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (xs0 : Vec F S512x1024 .f32) (hc1 : cond0_1 i (tbM0_1.view.readAt (Elt F) (Rect.unit (s := S73) (k0_off1 i) S1.size (k0_off1_inb i)).toLoadRect xt1 (Shape.Idx.first (numel1_S1.symm ▸ Nat.one_pos)))) :
    out0_C_4 c i arg4 harg4 arg5 harg5 arg6 harg6 arg7 harg7 arg8 harg8 arg9 harg9 hc0 hc2 x0 x1 x2 x3 xt0 xt1 xs0 hc1 = k0_pay2 x0 x1 x2 xs0 x3 := by
  unfold out0_C_4
  rw [View.read_writes_eq_canon _ _ _ (cover0_C_4 c i arg4 harg4 arg5 harg5 arg6 harg6 arg7 harg7 arg8 harg8 arg9 harg9 hc0 hc2 x0 x1 x2 x3 xt0 xt1 xs0 hc1)]
  unfold kernelRun0_C
  dsimp only
  sl_unfold_words
  rw [View.canon_unit_zero (S := S512x1024) hz, View.readCov_unit_zero (S := S512x1024) _ hz]
  simp only [View.readAt_eq_ld, harg4.read_unread, harg5.read_unread, harg6.read_unread, harg7.read_unread, harg8.read_unread, harg9.read_unread, View.ld_unit_zero (S := S512x1024) hz, View.ld_unit_zero (S := S1x1024x1408) hz3, View.ld_unit_zero (S := S1x1408x1024) hz3]

/-- The second point of a block without tokens writes what the first one left. -/
theorem out_D (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc2 : cond0_2 i)
    (x0 : Vec F S512x1024 .f32) (x1 : Vec F S1x1024x1408 .bf16) (x2 : Vec F S1x1024x1408 .bf16) (x3 : Vec F S1x1408x1024 .bf16) (xt0 : TbBuf0 (F := F) c tbM0_0) (xt1 : TbBuf0 (F := F) c tbM0_1) (xs0 : Vec F S512x1024 .f32) (hc1 : ¬cond0_1 i (tbM0_1.view.readAt (Elt F) (Rect.unit (s := S73) (k0_off1 i) S1.size (k0_off1_inb i)).toLoadRect xt1 (Shape.Idx.first (numel1_S1.symm ▸ Nat.one_pos)))) :
    out0_D_4 c i arg4 harg4 arg5 harg5 arg6 harg6 arg7 harg7 arg8 harg8 arg9 harg9 hc0 hc2 x0 x1 x2 x3 xt0 xt1 xs0 hc1 = xs0 := by
  unfold out0_D_4
  rw [View.read_writes_eq_canon _ _ _ (cover0_D_4 c i arg4 harg4 arg5 harg5 arg6 harg6 arg7 harg7 arg8 harg8 arg9 harg9 hc0 hc2 x0 x1 x2 x3 xt0 xt1 xs0 hc1)]
  unfold kernelRun0_D
  dsimp only
  sl_unfold_words
  rw [View.canon_unit_zero (S := S512x1024) hz]
  simp only [View.readAt_eq_ld, harg4.read_unread, harg5.read_unread, harg6.read_unread, harg7.read_unread, harg8.read_unread, harg9.read_unread, View.ld_unit_zero (S := S512x1024) hz, View.ld_unit_zero (S := S1x1024x1408) hz3, View.ld_unit_zero (S := S1x1408x1024) hz3]

end AnyF

/-- A point's place in the grid: the block, and the half of the hidden width. -/
theorem idxs : ∀ t : Fin grid0.N, (cc0_transform_0 (grid0.coords t) 0 = t.val / 2 ∧ cc0_transform_0 (grid0.coords t) 1 = 0)
    ∧ (cc0_transform_4 (grid0.coords t) 0 = t.val / 2 ∧ cc0_transform_4 (grid0.coords t) 1 = 0)
    ∧ k0_off1 (grid0.coords t) 0 = t.val / 2 ∧ (BitVec.ofNat 32 (grid0.coords t 1).val).toNat = t.val % 2 := by decide +kernel

variable (m : (ℓ : Loc nD τ sig) → Buf (Elt Ideal) ℓ) (hO : Ok m)

abbrev X (c : Dev nD) : Vec Ideal S37376x1024 .f32 := m ((c : Thread nD τ).loc main_arg2)
abbrev Wg (c : Dev nD) : Vec Ideal S8x1024x2816 .f32 := m ((c : Thread nD τ).loc main_arg3)
abbrev Wu (c : Dev nD) : Vec Ideal S8x1024x2816 .f32 := m ((c : Thread nD τ).loc main_arg4)
abbrev Wd (c : Dev nD) : Vec Ideal S8x2816x1024 .f32 := m ((c : Thread nD τ).loc main_arg5)
/-- The expert of a block, and the word that says whether it holds tokens. -/
abbrev Be (i : Fin 73) : BitVec 32 := (tbl m 0 : S73.Idx → BitVec 32) (ix1 i)
abbrev Bu (i : Fin 73) : BitVec 32 := (tbl m 1 : S73.Idx → BitVec 32) (ix1 i)

theorem Nis : (cfgM m hO).N = 146 := N_0

/-- The word that the body reads at a point. -/
abbrev word (t : Fin (cfgM m hO).N) : BitVec 32 :=
  tbM0_1.view.readAt (Elt Ideal) (Rect.unit (s := S73) (k0_off1 (grid0.coords t)) S1.size (k0_off1_inb (grid0.coords t))).toLoadRect (tbl m 1) (Shape.Idx.first (numel1_S1.symm ▸ Nat.one_pos))

theorem word_eq (t : Fin (cfgM m hO).N) (i : Fin 73) (hi : i.val = t.val / 2) : word m hO t = Bu m i := by
  refine congrArg (tbl m 1 : S73.Idx → BitVec 32) (funext fun d => Fin.ext ?_)
  match d with
  | ⟨0, _⟩ => show k0_off1 (grid0.coords t) 0 + 1 * 0 = i.val; rw [(idxs t).2.2.1]; omega

/-- The body works on a block where that word is positive. -/
theorem cond_iff (i : grid0.Coords) (v : BitVec 32) : cond0_1 i v ↔ IntOp.cmpi .sgt v 0#32 = 1#1 := by
  show Scalar.cmpi .ne (Scalar.extui (IntOp.cmpi .sgt v 0#32)) 0#32 = 1#1 ↔ _
  generalize IntOp.cmpi .sgt v 0#32 = u
  revert u
  decide

theorem be_eq (t : Fin (cfgM m hO).N) (i : Fin 73) (hi : i.val = t.val / 2) :
    cc0_transform_1 k0_off1_inb numel1_S1 (tbl m) (grid0.coords t) 0 = (Be m i).toNat := by
  refine congrArg BitVec.toNat (congrArg (tbl m 0 : S73.Idx → BitVec 32) (funext fun d => Fin.ext ?_))
  match d with
  | ⟨0, _⟩ => show k0_off1 (grid0.coords t) 0 + 1 * 0 = i.val; rw [(idxs t).2.2.1]; omega

theorem iblk0 (c : Dev nD) (t : Fin (cfgM m hO).N) (a : Fin 512) (b : Fin 1024) (r : Fin 37376) (hr : r.val = 512 * (t.val / 2) + a.val) :
    iblk m hO c 0 t (ix2 a b) = X m c (ix2 r b) := by
  obtain ⟨e0, e1⟩ := (idxs t).1
  show V m c main_arg2 ((((cfgM m hO).win 0).blk t).view.emb (ix2 a b)) = _
  rw [V_main_arg2]
  refine congrArg (X m c) (funext fun d => Fin.ext ?_)
  match d with
  | ⟨0, _⟩ => show cc0_transform_0 (grid0.coords t) 0 * 512 + 1 * a.val = r.val; omega
  | ⟨1, _⟩ => show cc0_transform_0 (grid0.coords t) 1 * 1024 + 1 * b.val = b.val; omega

theorem iblk1 (c : Dev nD) (t : Fin (cfgM m hO).N) (i : Fin 73) (hi : i.val = t.val / 2) (e : Fin 8) (he : (Be m i).toNat = e.val) (k : Fin 1024) (b : Fin 1408) (q : Fin 2816) (hq : q.val = 1408 * (t.val % 2) + b.val) :
    iblk m hO c 1 t (ix3 (0 : Fin 1) k b) = Wg m c (ix3 e k q) := by
  have e0 := be_eq m hO t i hi
  have e2 := (idxs t).2.2.2
  show V m c main_v0 ((((cfgM m hO).win 1).blk t).view.emb (ix3 (0 : Fin 1) k b)) = _
  have e' : (((cfgM m hO).win 1).blk t).view.emb (ix3 (0 : Fin 1) k b) = (ix3 e k q : S8x1024x2816.Idx) := funext fun d => Fin.ext (by
    match d with
    | ⟨0, _⟩ => show cc0_transform_1 k0_off1_inb numel1_S1 (tbl m) (grid0.coords t) 0 * 1 + 1 * 0 = e.val; omega
    | ⟨1, _⟩ => show 0 * 1024 + 1 * k.val = k.val; omega
    | ⟨2, _⟩ => show (BitVec.ofNat 32 (grid0.coords t 1).val).toNat * 1408 + 1 * b.val = q.val; omega)
  rw [e', show V m c main_v0 = (truncf (F := Ideal) .bf16 (Wg m c) bitsLt_bf16_f32 : FVec Ideal S8x1024x2816 .bf16) from by dsimp only [V, hostOps0]; after_results]
  pointwise

theorem iblk2 (c : Dev nD) (t : Fin (cfgM m hO).N) (i : Fin 73) (hi : i.val = t.val / 2) (e : Fin 8) (he : (Be m i).toNat = e.val) (k : Fin 1024) (b : Fin 1408) (q : Fin 2816) (hq : q.val = 1408 * (t.val % 2) + b.val) :
    iblk m hO c 2 t (ix3 (0 : Fin 1) k b) = Wu m c (ix3 e k q) := by
  have e0 := be_eq m hO t i hi
  have e2 := (idxs t).2.2.2
  show V m c main_v1 ((((cfgM m hO).win 2).blk t).view.emb (ix3 (0 : Fin 1) k b)) = _
  have e' : (((cfgM m hO).win 2).blk t).view.emb (ix3 (0 : Fin 1) k b) = (ix3 e k q : S8x1024x2816.Idx) := funext fun d => Fin.ext (by
    match d with
    | ⟨0, _⟩ => show cc0_transform_1 k0_off1_inb numel1_S1 (tbl m) (grid0.coords t) 0 * 1 + 1 * 0 = e.val; omega
    | ⟨1, _⟩ => show 0 * 1024 + 1 * k.val = k.val; omega
    | ⟨2, _⟩ => show (BitVec.ofNat 32 (grid0.coords t 1).val).toNat * 1408 + 1 * b.val = q.val; omega)
  rw [e', show V m c main_v1 = (truncf (F := Ideal) .bf16 (Wu m c) bitsLt_bf16_f32 : FVec Ideal S8x1024x2816 .bf16) from by dsimp only [V, hostOps0]; after_results]
  pointwise

theorem iblk3 (c : Dev nD) (t : Fin (cfgM m hO).N) (i : Fin 73) (hi : i.val = t.val / 2) (e : Fin 8) (he : (Be m i).toNat = e.val) (k : Fin 1408) (b : Fin 1024) (q : Fin 2816) (hq : q.val = 1408 * (t.val % 2) + k.val) :
    iblk m hO c 3 t (ix3 (0 : Fin 1) k b) = Wd m c (ix3 e q b) := by
  have e0 := be_eq m hO t i hi
  have e2 := (idxs t).2.2.2
  show V m c main_v2 ((((cfgM m hO).win 3).blk t).view.emb (ix3 (0 : Fin 1) k b)) = _
  have e' : (((cfgM m hO).win 3).blk t).view.emb (ix3 (0 : Fin 1) k b) = (ix3 e q b : S8x2816x1024.Idx) := funext fun d => Fin.ext (by
    match d with
    | ⟨0, _⟩ => show cc0_transform_1 k0_off1_inb numel1_S1 (tbl m) (grid0.coords t) 0 * 1 + 1 * 0 = e.val; omega
    | ⟨1, _⟩ => show (BitVec.ofNat 32 (grid0.coords t 1).val).toNat * 1408 + 1 * k.val = q.val; omega
    | ⟨2, _⟩ => show 0 * 1024 + 1 * b.val = b.val; omega)
  rw [e', show V m c main_v2 = (truncf (F := Ideal) .bf16 (Wd m c) bitsLt_bf16_f32 : FVec Ideal S8x2816x1024 .bf16) from by dsimp only [V, hostOps0]; after_results]
  pointwise

/-- One hidden unit's value at a row, with one expert's weights: the gate through its own sigmoid, times the other branch. -/
def hidden (x : Vec Ideal S37376x1024 .f32) (wg wu : Vec Ideal S8x1024x2816 .f32) (e : Fin 8) (r : Fin 37376) (q : Fin 2816) : EReal :=
  (∑ k : Fin 1024, x (ix2 r k) * wg (ix3 e k q)) * Ideal.div 1 (1 + Ideal.exp (-∑ k : Fin 1024, x (ix2 r k) * wg (ix3 e k q))) * ∑ k : Fin 1024, x (ix2 r k) * wu (ix3 e k q)

theorem pay1_apply (a : Fin 512) (b : Fin 1024) : k0_pay1 (F := Ideal) (ix2 a b) = 0 := by
  pointwise [k0_pay1]

theorem pay2_apply (x : Vec Ideal S512x1024 .f32) (wg wu : Vec Ideal S1x1024x1408 .bf16) (acc : Vec Ideal S512x1024 .f32) (wd : Vec Ideal S1x1408x1024 .bf16) (a : Fin 512) (b : Fin 1024) :
    k0_pay2 x wg wu acc wd (ix2 a b) = acc (ix2 a b) + ∑ q : Fin 1408, (∑ k : Fin 1024, x (ix2 a k) * wg (ix3 (0 : Fin 1) k q)) * Ideal.div 1 (1 + Ideal.exp (-∑ k : Fin 1024, x (ix2 a k) * wg (ix3 (0 : Fin 1) k q))) * (∑ k : Fin 1024, x (ix2 a k) * wu (ix3 (0 : Fin 1) k q)) * wd (ix3 (0 : Fin 1) q b) := by
  pointwise [k0_pay2, dot_S512x1024_S1024x1408_S512x1408_1_0_0_1_n_n, dot_S512x1408_S1408x1024_S512x1024_1_0_0_1_n_n]
  simp only [Arith.div_one_add_exp (∑ k : Fin 1024, _), zero_sub]

/-- What one point of a block with tokens adds. -/
theorem half (c : Dev nD) (t : Fin (cfgM m hO).N) (i : Fin 73) (hi : i.val = t.val / 2) (e : Fin 8) (he : (Be m i).toNat = e.val) (acc : Vec Ideal S512x1024 .f32) (a : Fin 512) (b : Fin 1024) (r : Fin 37376) (hr : r.val = 512 * (t.val / 2) + a.val) :
    k0_pay2 (iblk m hO c 0 t) (iblk m hO c 1 t) (iblk m hO c 2 t) acc (iblk m hO c 3 t) (ix2 a b)
      = acc (ix2 a b) + ∑ q : Fin 1408, hidden (X m c) (Wg m c) (Wu m c) e r ⟨1408 * (t.val % 2) + q.val, by omega⟩ * Wd m c (ix3 e (⟨1408 * (t.val % 2) + q.val, by omega⟩ : Fin 2816) b) := by
  refine (pay2_apply _ _ _ _ _ a b).trans ?_
  refine congrArg (fun z : EReal => acc (ix2 a b) + z) (Finset.sum_congr rfl fun q _ => ?_)
  unfold hidden
  rw [iblk3 m hO c t i hi e he q b ⟨1408 * (t.val % 2) + q.val, by omega⟩ rfl]
  simp only [iblk0 m hO c t a _ r hr, iblk1 m hO c t i hi e he _ q ⟨1408 * (t.val % 2) + q.val, by omega⟩ rfl, iblk2 m hO c t i hi e he _ q ⟨1408 * (t.val % 2) + q.val, by omega⟩ rfl]

/-- What a point leaves, in the body's own terms: the scratch after a block's first point, the result after its second. -/
theorem scr_A (c : Dev nD) (t : Fin (cfgM m hO).N) (h0 : t.val % 2 = 0) (h1 : cond0_1 (grid0.coords t) (word m hO t)) (h2 : ¬t.val % 2 = 1) :
    (outsAt0 m hO c t.val t.isLt).2 = k0_pay2 (iblk m hO c 0 t) (iblk m hO c 1 t) (iblk m hO c 2 t) (k0_pay1 (F := Ideal)) (iblk m hO c 3 t) := by
  rw [outsAt0_A m hO c t h0 h1 h2]
  dsimp only
  exact sout_A _ _ _ _ _ _ _ _ _ _ _ _ _ _ _ _ _ _ _ _ _ _ _

theorem scr_B (c : Dev nD) (t : Fin (cfgM m hO).N) (h0 : t.val % 2 = 0) (h1 : ¬cond0_1 (grid0.coords t) (word m hO t)) (h2 : ¬t.val % 2 = 1) :
    (outsAt0 m hO c t.val t.isLt).2 = k0_pay1 (F := Ideal) := by
  rw [outsAt0_B m hO c t h0 h1 h2]
  dsimp only
  exact sout_B _ _ _ _ _ _ _ _ _ _ _ _ _ _ _ _ _ _ _ _ _ _ _

theorem res_C (c : Dev nD) (t : Fin (cfgM m hO).N) (h0 : ¬t.val % 2 = 0) (h1 : cond0_1 (grid0.coords t) (word m hO t)) (h2 : t.val % 2 = 1) :
    (outsAt0 m hO c t.val t.isLt).1 = k0_pay2 (iblk m hO c 0 t) (iblk m hO c 1 t) (iblk m hO c 2 t) (outsAt0 m hO c (t.val - 1) (Nat.lt_of_le_of_lt (Nat.sub_le _ _) t.isLt)).2 (iblk m hO c 3 t) := by
  rw [outsAt0_C m hO c t h0 h1 h2]
  dsimp only
  exact out_C _ _ _ _ _ _ _ _ _ _ _ _ _ _ _ _ _ _ _ _ _ _ _ _

theorem res_D (c : Dev nD) (t : Fin (cfgM m hO).N) (h0 : ¬t.val % 2 = 0) (h1 : ¬cond0_1 (grid0.coords t) (word m hO t)) (h2 : t.val % 2 = 1) :
    (outsAt0 m hO c t.val t.isLt).1 = (outsAt0 m hO c (t.val - 1) (Nat.lt_of_le_of_lt (Nat.sub_le _ _) t.isLt)).2 := by
  rw [outsAt0_D m hO c t h0 h1 h2]
  dsimp only
  exact out_D _ _ _ _ _ _ _ _ _ _ _ _ _ _ _ _ _ _ _ _ _ _ _ _

/-- The first point of a block: what it leaves in the scratch. -/
theorem first (c : Dev nD) (n : ℕ) (h : n < (cfgM m hO).N) (h0 : n % 2 = 0) (i : Fin 73) (hi : i.val = n / 2) (e : Fin 8) (he : (Be m i).toNat = e.val) (a : Fin 512) (b : Fin 1024) (r : Fin 37376) (hr : r.val = 512 * (n / 2) + a.val) :
    (outsAt0 m hO c n h).2 (ix2 a b) = if IntOp.cmpi .sgt (Bu m i) 0#32 = 1#1 then ∑ q : Fin 1408, hidden (X m c) (Wg m c) (Wu m c) e r ⟨q.val, by omega⟩ * Wd m c (ix3 e (⟨q.val, by omega⟩ : Fin 2816) b) else 0 := by
  have hw := word_eq m hO ⟨n, h⟩ i hi
  split
  case isTrue hu =>
    rw [scr_A m hO c ⟨n, h⟩ h0 ((cond_iff _ _).mpr (by rw [← hw] at hu; exact hu)) (by show ¬n % 2 = 1; omega)]
    refine (half m hO c ⟨n, h⟩ i hi e he _ a b r hr).trans ?_
    rw [pay1_apply, zero_add]
    refine Finset.sum_congr rfl fun q _ => ?_
    have hq : (⟨1408 * (n % 2) + q.val, by omega⟩ : Fin 2816) = ⟨q.val, by omega⟩ := Fin.ext (by show 1408 * (n % 2) + q.val = q.val; omega)
    rw [hq]
  case isFalse hu =>
    rw [scr_B m hO c ⟨n, h⟩ h0 (fun hc => hu (by rw [← hw]; exact (cond_iff _ _).mp hc)) (by show ¬n % 2 = 1; omega)]
    exact pay1_apply a b

/-- The second point of a block: what it leaves in its block of the result. -/
theorem left (c : Dev nD) (n : ℕ) (h : n < (cfgM m hO).N) (h1 : n % 2 = 1) (i : Fin 73) (hi : i.val = n / 2) (e : Fin 8) (he : (Be m i).toNat = e.val) (a : Fin 512) (b : Fin 1024) (r : Fin 37376) (hr : r.val = 512 * (n / 2) + a.val) :
    (outsAt0 m hO c n h).1 (ix2 a b) = if IntOp.cmpi .sgt (Bu m i) 0#32 = 1#1 then ∑ q : Fin 2816, hidden (X m c) (Wg m c) (Wu m c) e r q * Wd m c (ix3 e q b) else 0 := by
  have hw := word_eq m hO ⟨n, h⟩ i hi
  have hf := first m hO c (n - 1) (Nat.lt_of_le_of_lt (Nat.sub_le _ _) h) (by omega) i (by omega) e he a b r (by omega)
  by_cases hu : IntOp.cmpi .sgt (Bu m i) 0#32 = 1#1
  · rw [if_pos hu] at hf ⊢
    rw [res_C m hO c ⟨n, h⟩ (by show ¬n % 2 = 0; omega) ((cond_iff _ _).mpr (by rw [← hw] at hu; exact hu)) h1]
    refine (half m hO c ⟨n, h⟩ i hi e he _ a b r hr).trans ?_
    refine (congrArg (fun z : EReal => z + _) hf).trans ?_
    rw [Arith.sum_2816]
    refine congrArg (fun z : EReal => _ + z) (Finset.sum_congr rfl fun q _ => ?_)
    have hq : (⟨1408 * (n % 2) + q.val, by omega⟩ : Fin 2816) = ⟨1408 + q.val, by omega⟩ := Fin.ext (by show 1408 * (n % 2) + q.val = 1408 + q.val; omega)
    rw [hq]
  · rw [if_neg hu] at hf ⊢
    rw [res_D m hO c ⟨n, h⟩ (by show ¬n % 2 = 0; omega) (fun hc => hu (by rw [← hw]; exact (cond_iff _ _).mp hc)) h1]
    exact hf

/-- Of the eight choices made one after the other, the one of the block's own expert stays. -/
theorem chosen (u : BitVec 1) (e : Fin 8) (f : Fin 8 → EReal) :
    Scalar.select (IntOp.andi u (IntOp.cmpi .eq (BitVec.ofNat 32 e.val) 7#32)) (f 7) (Scalar.select (IntOp.andi u (IntOp.cmpi .eq (BitVec.ofNat 32 e.val) 6#32)) (f 6)
      (Scalar.select (IntOp.andi u (IntOp.cmpi .eq (BitVec.ofNat 32 e.val) 5#32)) (f 5) (Scalar.select (IntOp.andi u (IntOp.cmpi .eq (BitVec.ofNat 32 e.val) 4#32)) (f 4)
      (Scalar.select (IntOp.andi u (IntOp.cmpi .eq (BitVec.ofNat 32 e.val) 3#32)) (f 3) (Scalar.select (IntOp.andi u (IntOp.cmpi .eq (BitVec.ofNat 32 e.val) 2#32)) (f 2)
      (Scalar.select (IntOp.andi u (IntOp.cmpi .eq (BitVec.ofNat 32 e.val) 1#32)) (f 1) (Scalar.select (IntOp.andi u (IntOp.cmpi .eq (BitVec.ofNat 32 e.val) 0#32)) (f 0) 0)))))))
      = if u = 1#1 then f e else 0 := by
  rcases (by revert u; decide : u = 0#1 ∨ u = 1#1) with rfl | rfl <;> fin_cases e <;> rfl

open Cert.Reference5Ideal.Read in
/-- The reference's value at one place. -/
theorem ref_apply (be bu : IVec S73 32) (x : Vec Ideal S37376x1024 .f32) (wg wu : Vec Ideal S8x1024x2816 .f32) (wd : Vec Ideal S8x2816x1024 .f32) (r : Fin 37376) (q : Fin 1024)
    (i : Fin 73) (hi : i.val = r.val / 512) (e : Fin 8) (he : (be (ix1 i)).toNat = e.val) :
    val_main_v134 (F := Ideal) be bu x wg wu wd (ix2 r q) = if IntOp.cmpi .sgt (bu (ix1 i)) 0#32 = 1#1 then ∑ k : Fin 2816, hidden x wg wu e r k * wd (ix3 e k q) else 0 := by
  have hbe : be (ix1 i) = BitVec.ofNat 32 e.val := BitVec.eq_of_toNat_eq (by rw [he, BitVec.toNat_ofNat, Nat.mod_eq_of_lt] <;> omega)
  rw [← chosen (IntOp.cmpi .sgt (bu (ix1 i)) 0#32) e fun e => ∑ k : Fin 2816, hidden x wg wu e r k * wd (ix3 e k q), ← hbe]
  have hr : r.val / 512 < 73 := by omega
  obtain rfl : i = ⟨r.val / 512, hr⟩ := Fin.ext hi
  unfold hidden
  pointwise [val_main_v134, val_main_call15_v0, val_main_v133, val_main_v132, val_main_v131, val_main_v130, val_main_c_7, val_main_v129, val_main_v128, val_main_v127, val_main_v126, val_main_v125, val_main_v124, val_main_v123, val_main_v122, val_main_call14_v5, val_main_call14_v4, val_main_call14_cst_0, val_main_call14_v3, val_main_call14_v2, val_main_call14_cst, val_main_call14_v1, val_main_call14_v0, val_main_v121, val_main_v120, val_main_v119, val_main_v118, val_main_call13_v0, val_main_v117, val_main_v116, val_main_v115, val_main_v114, val_main_c_6, val_main_v113, val_main_v112, val_main_v111, val_main_v110, val_main_v109, val_main_v108, val_main_v107, val_main_v106, val_main_call12_v5, val_main_call12_v4, val_main_call12_cst_0, val_main_call12_v3, val_main_call12_v2, val_main_call12_cst, val_main_call12_v1, val_main_call12_v0, val_main_v105, val_main_v104, val_main_v103, val_main_v102, val_main_call11_v0, val_main_v101, val_main_v100, val_main_v99, val_main_v98, val_main_c_5, val_main_v97, val_main_v96, val_main_v95, val_main_v94, val_main_v93, val_main_v92, val_main_v91, val_main_v90, val_main_call10_v5, val_main_call10_v4, val_main_call10_cst_0, val_main_call10_v3, val_main_call10_v2, val_main_call10_cst, val_main_call10_v1, val_main_call10_v0, val_main_v89, val_main_v88, val_main_v87, val_main_v86, val_main_call9_v0, val_main_v85, val_main_v84, val_main_v83, val_main_v82, val_main_c_4, val_main_v81, val_main_v80, val_main_v79, val_main_v78, val_main_v77, val_main_v76, val_main_v75, val_main_v74, val_main_call8_v5, val_main_call8_v4, val_main_call8_cst_0, val_main_call8_v3, val_main_call8_v2, val_main_call8_cst, val_main_call8_v1, val_main_call8_v0, val_main_v73, val_main_v72, val_main_v71, val_main_v70, val_main_call7_v0, val_main_v69, val_main_v68, val_main_v67, val_main_v66, val_main_c_3, val_main_v65, val_main_v64, val_main_v63, val_main_v62, val_main_v61, val_main_v60, val_main_v59, val_main_v58, val_main_call6_v5, val_main_call6_v4, val_main_call6_cst_0, val_main_call6_v3, val_main_call6_v2, val_main_call6_cst, val_main_call6_v1, val_main_call6_v0, val_main_v57, val_main_v56, val_main_v55, val_main_v54, val_main_call5_v0, val_main_v53, val_main_v52, val_main_v51, val_main_v50, val_main_c_2, val_main_v49, val_main_v48, val_main_v47, val_main_v46, val_main_v45, val_main_v44, val_main_v43, val_main_v42, val_main_call4_v5, val_main_call4_v4, val_main_call4_cst_0, val_main_call4_v3, val_main_call4_v2, val_main_call4_cst, val_main_call4_v1, val_main_call4_v0, val_main_v41, val_main_v40, val_main_v39, val_main_v38, val_main_call3_v0, val_main_v37, val_main_v36, val_main_v35, val_main_v34, val_main_c_1, val_main_v33, val_main_v32, val_main_v31, val_main_v30, val_main_v29, val_main_v28, val_main_v27, val_main_v26, val_main_call2_v5, val_main_call2_v4, val_main_call2_cst_0, val_main_call2_v3, val_main_call2_v2, val_main_call2_cst, val_main_call2_v1, val_main_call2_v0, val_main_v25, val_main_v24, val_main_v23, val_main_v22, val_main_call1_v0, val_main_v21, val_main_v20, val_main_v19, val_main_v18, val_main_c_0, val_main_v17, val_main_v16, val_main_v15, val_main_v14, val_main_v13, val_main_v12, val_main_v11, val_main_v10, val_main_call0_v5, val_main_call0_v4, val_main_call0_cst_0, val_main_call0_v3, val_main_call0_v2, val_main_call0_cst, val_main_call0_v1, val_main_call0_v0, val_main_v9, val_main_v8, val_main_v7, val_main_v6, val_main_cst, val_main_v5, val_main_v4, val_main_c, val_main_v3, val_main_v2, val_main_v1, val_main_v0, Cert.Reference5Ideal.dot_S37376x1024_S1024x2816_S37376x2816_1_0_0_1_n_n, Cert.Reference5Ideal.dot_S37376x2816_S2816x1024_S37376x1024_1_0_0_1_n_n]

/-- The result array after the run is the reference's. -/
theorem final (c : Dev nD) (h : ∀ x : S73.Idx, (tbl m 0 x).toNat < 8) :
    (dats m hO 0 c).arrAt 4 (cfgM m hO).N = Cert.Reference5Ideal.Read.val_main_v134 (F := Ideal) (tbl m 0 : S73.Idx → BitVec 32) (tbl m 1 : S73.Idx → BitVec 32) (X m c) (Wg m c) (Wu m c) (Wd m c) := by
  have hN : (cfgM m hO).N = 146 := N_0
  refine (dats m hO 0 c).arrAt_eq_of_cover 4 _ (fun t hf => ?_) (fun (j : S37376x1024.Idx) => ?_)
  · have h1 : t.val % 2 = 1 := (flush0_4 (adm m hO) t).mp hf
    obtain ⟨e0, e1⟩ := (idxs t).2.1
    have ht : t.val < 146 := hN ▸ t.isLt
    refine funext fun (y : S512x1024.Idx) => ?_
    have ha : (y 0).val < 512 := (y 0).isLt
    have hb : (y 1).val < 1024 := (y 1).isLt
    have hl := left m hO c t.val t.isLt h1 ⟨t.val / 2, by omega⟩ rfl ⟨_, h _⟩ rfl ⟨_, ha⟩ ⟨_, hb⟩ ⟨512 * (t.val / 2) + (y 0).val, by omega⟩ rfl
    have he : (((cfgM m hO).win 4).blk t).view.emb y = (ix2 (⟨512 * (t.val / 2) + (y 0).val, by omega⟩ : Fin 37376) (⟨_, hb⟩ : Fin 1024) : S37376x1024.Idx) := funext fun d => Fin.ext (by
      match d with
      | ⟨0, _⟩ => show cc0_transform_4 (grid0.coords t) 0 * 512 + 1 * (y 0).val = 512 * (t.val / 2) + (y 0).val; omega
      | ⟨1, _⟩ => show cc0_transform_4 (grid0.coords t) 1 * 1024 + 1 * (y 1).val = (y 1).val; omega)
    show (dats m hO 0 c).after 4 t (((cfgM m hO).win 4).xinj (grid0.coords t) y) = Cert.Reference5Ideal.Read.val_main_v134 (F := Ideal) (tbl m 0 : S73.Idx → BitVec 32) (tbl m 1 : S73.Idx → BitVec 32) (X m c) (Wg m c) (Wu m c) (Wd m c) ((((cfgM m hO).win 4).blk t).view.emb y)
    refine Eq.trans (b := (outsAt0 m hO c t.val t.isLt).1 (ix2 ⟨_, ha⟩ ⟨_, hb⟩)) ?_ (hl.trans (Eq.trans (ref_apply (tbl m 0) (tbl m 1) (X m c) (Wg m c) (Wu m c) (Wd m c) ⟨512 * (t.val / 2) + (y 0).val, by omega⟩ ⟨_, hb⟩ ⟨t.val / 2, by omega⟩ (by show t.val / 2 = (512 * (t.val / 2) + (y 0).val) / 512; omega) ⟨_, h _⟩ rfl).symm (congrArg (Cert.Reference5Ideal.Read.val_main_v134 (F := Ideal) (tbl m 0 : S73.Idx → BitVec 32) (tbl m 1 : S73.Idx → BitVec 32) (X m c) (Wg m c) (Wu m c) (Wd m c)) he.symm)))
    refine (congrFun (after0_4 m hO c t) _).trans (congrArg (outsAt0 m hO c t.val t.isLt).1 (funext fun d => ?_))
    match d with
    | ⟨0, _⟩ => rfl
    | ⟨1, _⟩ => rfl
  · have hj0 : (j 0).val < 37376 := (j 0).isLt
    have hj1 : (j 1).val < 1024 := (j 1).isLt
    have ht : 2 * ((j 0).val / 512) + 1 < (cfgM m hO).N := by rw [hN]; omega
    obtain ⟨e0, e1⟩ := (idxs ⟨2 * ((j 0).val / 512) + 1, ht⟩).2.1
    refine ⟨⟨2 * ((j 0).val / 512) + 1, ht⟩, (flush0_4 (adm m hO) _).mpr (by show (2 * ((j 0).val / 512) + 1) % 2 = 1; omega), ?_⟩
    show j ∈ ((View.whole main_v3).slice (((cfgM m hO).win 4).rect ⟨2 * ((j 0).val / 512) + 1, ht⟩)).set
    dsimp only at e0 e1
    refine (congrArg (fun S : Finset S37376x1024.Idx => j ∈ S) (View.set_slice_whole main_v3 (((cfgM m hO).win 4).rect ⟨2 * ((j 0).val / 512) + 1, ht⟩))).mpr (Rect.mem_set_unit.mpr fun a => ?_)
    match a with
    | ⟨0, _⟩ =>
      show cc0_transform_4 (grid0.coords ⟨2 * ((j 0).val / 512) + 1, ht⟩) 0 * 512 ≤ (j 0).val ∧ (j 0).val < cc0_transform_4 (grid0.coords ⟨2 * ((j 0).val / 512) + 1, ht⟩) 0 * 512 + 512
      omega
    | ⟨1, _⟩ =>
      show cc0_transform_4 (grid0.coords ⟨2 * ((j 0).val / 512) + 1, ht⟩) 1 * 1024 ≤ (j 1).val ∧ (j 1).val < cc0_transform_4 (grid0.coords ⟨2 * ((j 0).val / 512) + 1, ht⟩) 1 * 1024 + 1024
      omega

/-- The run, read: the result array, and the arguments unchanged. -/
theorem run (ρ : Dev nD → PrngReg) : θ_run defs (onTc (τ := τ) (main (F := Ideal))) ⟨m, fun _ => 0, ρ⟩ fun r => ∀ c : Dev nD,
    r.2.mem ((c : Thread nD τ).loc main_v3) = (dats m hO 0 c).arrAt 4 (cfgM m hO).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun r h c => ⟨(h.1 c).1 4, h.2 c⟩) (θ_run_and (run_main m ρ hO) (unchanged m ρ hO))

end Cert.Kernel5Ideal.Experts

end
-- ==== Proof.Norms.lean ====
/- The queries and keys of the sample (`Kernel6`): each head's row over the root of its mean square, the sum over a head
   taken in the kernel as a product with the matrix that says which columns share a head. -/
module

public import proofs.«01_k».proof.Pre_finite
public import proofs.«01_k».proof.Proof.Gen.Kernel6Ideal.Value
public import proofs.«01_k».proof.Proof.Gen.Reference6Ideal.Run
public import proofs.«01_k».proof.Proof.Gen.Reference6Ideal.Read
public import proofs.«01_k».proof.Proof.Arith
public import Idealize.ShloMosaic.Lib.ReduceAll
public import Idealize.ShloMosaic.Lib.Pointwise
public import Idealize.ShloMosaic.Lib.Tactic

@[expose] public section

noncomputable section

open Idealize.ShloMosaic Idealize.ShloMosaic.TcCoe Idealize.SL.Sem

namespace Cert.Pre_finite

/-- The precondition's shapes fit. -/
instance facts : Facts := ⟨by decide, by decide, by decide, by decide⟩

/-- A number whose size is below infinity has a finite square. -/
theorem sq_ne_top {x : EReal} (h : BitVec.ofBool (decide (FloatOps.absf (F := Ideal) (φ := FTy.f32) x < Ideal.ofBits FTy.f32 0x7F800000#32)) = 1#1) : x * x ≠ ⊤ := by
  have e : Ideal.ofBits FTy.f32 0x7F800000#32 = ⊤ := by simp [Ideal.ofBits, Ideal.ieee]
  rw [e] at h
  have h' : max x (-x) < ⊤ := by
    by_contra hn
    have k : decide (FloatOps.absf (F := Ideal) (φ := FTy.f32) x < (⊤ : EReal)) = false := decide_eq_false hn
    rw [k] at h
    exact absurd h (by decide)
  induction x using EReal.rec with
  | bot => exact absurd h' (by simp)
  | top => exact absurd h' (by simp)
  | coe r => rw [← EReal.coe_mul]; exact EReal.coe_ne_top _

/-- The precondition says that no query or key of the sample is infinite. -/
theorem ne_top {z : FVec Ideal S16416x5632 .f32} {g h : FVec Ideal S64 .f32}
    (hp : fn (F := Ideal) z g h = fun _ => 1#1) (r : Fin 16416) (hr : 16384 ≤ r.val) (q : Fin 5632) (h0 : 2048 ≤ q.val) (h1 : q.val < 3072) : z (ix2 r q) * z (ix2 r q) ≠ (⊤ : EReal) := by
  have e := congrFun hp (Shape.Idx.first (by decide))
  unfold fn at e
  have k := (Host.reduce_andi_all _ _ _ _ _ e (ix2 (⟨r.val - 16384, by omega⟩ : Fin 32) (⟨q.val - 2048, by omega⟩ : Fin 1024)))
  revert k
  pointwise
  intro k
  have e0 : (⟨16384 + (r.val - 16384), by omega⟩ : Fin 16416) = r := Fin.ext (by show 16384 + (r.val - 16384) = r.val; omega)
  have e1 : (⟨2048 + (q.val - 2048), by omega⟩ : Fin 5632) = q := Fin.ext (by show 2048 + (q.val - 2048) = q.val; omega)
  rw [e0, e1] at k
  exact sq_ne_top k

end Cert.Pre_finite

namespace Cert.Kernel6Ideal.Norms

open Cert.Kernel6Ideal Cert.Kernel6Ideal.Gen Cert.Kernel6Ideal.Value

theorem hz : (![0, 0] : Fin 2 → Nat) = fun _ => 0 := funext fun a => by fin_cases a <;> rfl

section AnyF
variable {F : FTy → Type} [FloatOps F]
variable (x0 : Vec F S32x512 .f32) (x1 : Vec F S32x512 .f32) (x2 : Vec F S32x512 .f32) (x3 : Vec F S1x512 .f32) (x4 : Vec F S1x512 .f32) (x5 : Vec F S512x512 .bf16)

/-- The three results of the body. -/
theorem out_6 : out0_6 x0 x1 x2 x3 x4 x5 = k0_pay3 x5 x0 x3 := by
  unfold out0_6
  rw [View.canon_unit_zero (S := S32x512) hz, View.ld_unit_zero (S := S32x512) hz, View.ld_unit_zero (S := S1x512) hz, View.ld_unit_zero (S := S512x512) hz]

theorem out_7 : out0_7 x0 x1 x2 x3 x4 x5 = k0_pay1 (k0_pay2 x5) x1 (k0_pay4 x4) (k0_pay8 x1) (k0_pay9 x1) (k0_pay10 x5 x1) (constant S32x512 .f32 0x00000000#32) := by
  unfold out0_7
  rw [View.canon_unit_zero (S := S32x512) hz, View.ld_unit_zero (S := S32x512) hz, View.ld_unit_zero (S := S1x512) hz, View.ld_unit_zero (S := S512x512) hz]

theorem out_8 : out0_8 x0 x1 x2 x3 x4 x5 = x2 := by
  unfold out0_8
  rw [View.canon_unit_zero (S := S32x512) hz, View.ld_unit_zero (S := S32x512) hz]

end AnyF

/-- One entry of a row over the root of the mean square of its head, as the kernel takes it: the sum over a head in three
    parts, each a product with the matrix of the heads. -/
theorem pay3_apply (M : Vec Ideal S512x512 .bf16) (x : Vec Ideal S32x512 .f32) (g : Vec Ideal S1x512 .f32) (a : Fin 32) (b : Fin 512) :
    k0_pay3 M x g (ix2 a b) = x (ix2 a b) * Ideal.rsqrt ((∑ k : Fin 512, x (ix2 a k) * x (ix2 a k) * M (ix2 k b) + ∑ k : Fin 512, (x (ix2 a k) * x (ix2 a k) - x (ix2 a k) * x (ix2 a k)) * M (ix2 k b)
      + ∑ k : Fin 512, (x (ix2 a k) * x (ix2 a k) - x (ix2 a k) * x (ix2 a k) - (x (ix2 a k) * x (ix2 a k) - x (ix2 a k) * x (ix2 a k))) * M (ix2 k b)) * Ideal.ofBits FTy.f32 0x3C800000#32 + Ideal.ofBits FTy.f32 0x358637BD#32) * g (ix2 (0 : Fin 1) b) := by
  pointwise [k0_pay3, k0_pay2, dot_S32x512_S512x512_S32x512_1_0_0_1_n_n]

/-- The keys' payload is the queries', written in more pieces. -/
theorem pay1_eq (M : Vec Ideal S512x512 .bf16) (x : Vec Ideal S32x512 .f32) (g : Vec Ideal S1x512 .f32) :
    k0_pay1 (k0_pay2 M) x (k0_pay4 g) (k0_pay8 x) (k0_pay9 x) (k0_pay10 M x) (constant S32x512 .f32 0x00000000#32) = k0_pay3 M x g := rfl

theorem idxs : ∀ t : Fin cfg0.N, (win0_0.index t (0 : Fin 2) = 512 ∧ win0_0.index t (1 : Fin 2) = 4) ∧ (win0_1.index t (0 : Fin 2) = 512 ∧ win0_1.index t (1 : Fin 2) = 5)
    ∧ (win0_2.index t (0 : Fin 2) = 512 ∧ win0_2.index t (1 : Fin 2) = 6) ∧ (win0_6.index t (0 : Fin 2) = 0 ∧ win0_6.index t (1 : Fin 2) = 0) :=
  (by decide +kernel : ∀ t : Fin grid0.N, _)

variable (m : (ℓ : Loc nD τ sig) → Buf (Elt Ideal) ℓ)

abbrev Z (c : Dev nD) : Vec Ideal S16416x5632 .f32 := m ((c : Thread nD τ).loc main_arg0)
abbrev Gq (c : Dev nD) : Vec Ideal S64 .f32 := m ((c : Thread nD τ).loc main_arg1)
abbrev Gk (c : Dev nD) : Vec Ideal S64 .f32 := m ((c : Thread nD τ).loc main_arg2)

theorem iblk0 (c : Dev nD) (t : Fin cfg0.N) (a : Fin 32) (b : Fin 512) : iblk m c 0 t (ix2 a b) = Z m c (ix2 (⟨16384 + a.val, by omega⟩ : Fin 16416) (⟨2048 + b.val, by omega⟩ : Fin 5632)) := by
  obtain ⟨e0, e1⟩ := (idxs t).1
  show V m c main_arg0 (((cfg0.win 0).blk t).view.emb (ix2 a b)) = _
  rw [V_main_arg0]
  refine congrArg (Z m c) (funext fun d => Fin.ext ?_)
  match d with
  | ⟨0, _⟩ => show win0_0.index t (0 : Fin 2) * 32 + 1 * a.val = 16384 + a.val; omega
  | ⟨1, _⟩ => show win0_0.index t (1 : Fin 2) * 512 + 1 * b.val = 2048 + b.val; omega

theorem iblk1 (c : Dev nD) (t : Fin cfg0.N) (a : Fin 32) (b : Fin 512) : iblk m c 1 t (ix2 a b) = Z m c (ix2 (⟨16384 + a.val, by omega⟩ : Fin 16416) (⟨2560 + b.val, by omega⟩ : Fin 5632)) := by
  obtain ⟨e0, e1⟩ := (idxs t).2.1
  show V m c main_arg0 (((cfg0.win 1).blk t).view.emb (ix2 a b)) = _
  rw [V_main_arg0]
  refine congrArg (Z m c) (funext fun d => Fin.ext ?_)
  match d with
  | ⟨0, _⟩ => show win0_1.index t (0 : Fin 2) * 32 + 1 * a.val = 16384 + a.val; omega
  | ⟨1, _⟩ => show win0_1.index t (1 : Fin 2) * 512 + 1 * b.val = 2560 + b.val; omega

theorem iblk2 (c : Dev nD) (t : Fin cfg0.N) (a : Fin 32) (b : Fin 512) : iblk m c 2 t (ix2 a b) = Z m c (ix2 (⟨16384 + a.val, by omega⟩ : Fin 16416) (⟨3072 + b.val, by omega⟩ : Fin 5632)) := by
  obtain ⟨e0, e1⟩ := (idxs t).2.2.1
  show V m c main_arg0 (((cfg0.win 2).blk t).view.emb (ix2 a b)) = _
  rw [V_main_arg0]
  refine congrArg (Z m c) (funext fun d => Fin.ext ?_)
  match d with
  | ⟨0, _⟩ => show win0_2.index t (0 : Fin 2) * 32 + 1 * a.val = 16384 + a.val; omega
  | ⟨1, _⟩ => show win0_2.index t (1 : Fin 2) * 512 + 1 * b.val = 3072 + b.val; omega

theorem iblk3 (c : Dev nD) (t : Fin cfg0.N) (b : Fin 512) : iblk m c 3 t (ix2 (0 : Fin 1) b) = Gq m c (ix1 (⟨b.val % 64, by omega⟩ : Fin 64)) := by
  have i : win0_3.index t (0 : Fin 2) = 0 ∧ win0_3.index t (1 : Fin 2) = 0 := ⟨rfl, rfl⟩
  show V m c main_v12 (((cfg0.win 3).blk t).view.emb (ix2 (0 : Fin 1) b)) = _
  have e : ((cfg0.win 3).blk t).view.emb (ix2 (0 : Fin 1) b) = (ix2 (0 : Fin 1) b : S1x512.Idx) := funext fun d => Fin.ext (by
    match d with
    | ⟨0, _⟩ => show win0_3.index t (0 : Fin 2) * 1 + 1 * 0 = 0; omega
    | ⟨1, _⟩ => show win0_3.index t (1 : Fin 2) * 512 + 1 * b.val = b.val; omega)
  rw [e, show V m c main_v12 = (shapeCast S1x512 (shapeCast S512 (broadcastInDim S8x64 ![0, 1] bcast_S1x64_S8x64_0_1 (shapeCast S1x64 (Gq m c) shapeCasts_S64_S1x64)) shapeCasts_S8x64_S512) shapeCasts_S512_S1x512 : FVec Ideal S1x512 .f32) from by dsimp only [V, hostOps0]; after_results; rfl]
  pointwise

theorem iblk4 (c : Dev nD) (t : Fin cfg0.N) (b : Fin 512) : iblk m c 4 t (ix2 (0 : Fin 1) b) = Gk m c (ix1 (⟨b.val % 64, by omega⟩ : Fin 64)) := by
  have i : win0_4.index t (0 : Fin 2) = 0 ∧ win0_4.index t (1 : Fin 2) = 0 := ⟨rfl, rfl⟩
  show V m c main_v16 (((cfg0.win 4).blk t).view.emb (ix2 (0 : Fin 1) b)) = _
  have e : ((cfg0.win 4).blk t).view.emb (ix2 (0 : Fin 1) b) = (ix2 (0 : Fin 1) b : S1x512.Idx) := funext fun d => Fin.ext (by
    match d with
    | ⟨0, _⟩ => show win0_4.index t (0 : Fin 2) * 1 + 1 * 0 = 0; omega
    | ⟨1, _⟩ => show win0_4.index t (1 : Fin 2) * 512 + 1 * b.val = b.val; omega)
  rw [e, show V m c main_v16 = (shapeCast S1x512 (shapeCast S512 (broadcastInDim S8x64 ![0, 1] bcast_S1x64_S8x64_0_1 (shapeCast S1x64 (Gk m c) shapeCasts_S64_S1x64)) shapeCasts_S8x64_S512) shapeCasts_S512_S1x512 : FVec Ideal S1x512 .f32) from by dsimp only [V, hostOps0]; after_results; rfl]
  pointwise

/-- The matrix of the heads: one where two columns lie in one head. -/
theorem iblk5 (c : Dev nD) (t : Fin cfg0.N) (a b : Fin 512) : iblk m c 5 t (ix2 a b) = if a.val / 64 = b.val / 64 then (1 : EReal) else 0 := by
  have i : win0_5.index t (0 : Fin 2) = 0 ∧ win0_5.index t (1 : Fin 2) = 0 := ⟨rfl, rfl⟩
  show V m c main_v8 (((cfg0.win 5).blk t).view.emb (ix2 a b)) = _
  have e : ((cfg0.win 5).blk t).view.emb (ix2 a b) = (ix2 a b : S512x512.Idx) := funext fun d => Fin.ext (by
    match d with
    | ⟨0, _⟩ => show win0_5.index t (0 : Fin 2) * 512 + 1 * a.val = a.val; omega
    | ⟨1, _⟩ => show win0_5.index t (1 : Fin 2) * 512 + 1 * b.val = b.val; omega)
  have hv : (V m c main_v8 : Vec Ideal S512x512 .bf16) (ix2 a b) = FloatOps.uitofp (F := Ideal) FTy.bf16 (IntOp.cmpi .eq (BitVec.ofNat 32 (a.val / 64)) (BitVec.ofNat 32 (b.val / 64))) := by
    rw [show V m c main_v8 = (uitofp (F := Ideal) .bf16 (cmpi .eq (broadcastInDim S512x512 ![0, 1] bcast_S512x1_S512x512_0_1 (broadcastInDim S512x1 ![0] bcast_S512_S512x1_0 (shapeCast S512 (broadcastInDim S8x64 ![0] bcast_S8_S8x64_0 (iotaInDim S8 32 0)) shapeCasts_S8x64_S512))) (broadcastInDim S512x512 ![0, 1] bcast_S1x512_S512x512_0_1 (broadcastInDim S1x512 ![1] bcast_S512_S1x512_1 (shapeCast S512 (broadcastInDim S8x64 ![0] bcast_S8_S8x64_0 (iotaInDim S8 32 0)) shapeCasts_S8x64_S512)))) : FVec Ideal S512x512 .bf16) from by dsimp only [V, hostOps0]; after_results; rfl]
    pointwise
  refine (congrArg (V m c main_v8) e).trans (hv.trans ?_)
  have hk : IntOp.cmpi .eq (BitVec.ofNat 32 (a.val / 64)) (BitVec.ofNat 32 (b.val / 64)) = BitVec.ofBool (decide (a.val / 64 = b.val / 64)) := by
    have h (p q : Fin 8) : IntOp.cmpi .eq (BitVec.ofNat 32 p.val) (BitVec.ofNat 32 q.val) = BitVec.ofBool (decide (p.val = q.val)) := by revert p q; decide
    exact h ⟨a.val / 64, by omega⟩ ⟨b.val / 64, by omega⟩
  rw [hk]
  by_cases hc : a.val / 64 = b.val / 64
  · rw [decide_eq_true hc, if_pos hc]; show (((1 : ℕ) : ℝ) : EReal) = 1; norm_num
  · rw [decide_eq_false hc, if_neg hc]; show (((0 : ℕ) : ℝ) : EReal) = 0; norm_num

/-- A sum over 512 columns of which only one head's count is the sum over that head. -/
theorem sum_head (f : Fin 512 → EReal) (p : ℕ) (hp : p < 8) :
    (∑ s : Fin 512, if s.val / 64 = p then f s else 0) = ∑ i : Fin 64, f ⟨p * 64 + i.val, by omega⟩ := by
  rw [← Finset.sum_filter]
  symm
  refine Finset.sum_bij (fun (i : Fin 64) _ => (⟨p * 64 + i.val, by omega⟩ : Fin 512)) ?_ ?_ ?_ ?_
  · intro i _
    simp only [Finset.mem_filter, Finset.mem_univ, true_and]
    omega
  · intro i _ j _ e
    have := congrArg Fin.val e
    exact Fin.ext (by simpa using this)
  · intro s hs
    simp only [Finset.mem_filter, Finset.mem_univ, true_and] at hs
    exact ⟨⟨s.val % 64, by omega⟩, Finset.mem_univ _, Fin.ext (by show p * 64 + s.val % 64 = s.val; omega)⟩
  · intro i _; rfl

/-- Over 64 is times a sixty-fourth. -/
theorem div_64 (s : EReal) : Ideal.div s (Ideal.ofBits FTy.f32 0x42800000#32) = s * Ideal.ofBits FTy.f32 0x3C800000#32 := by
  have e0 : Ideal.ofBits FTy.f32 0x42800000#32 = ((64 : ℝ) : EReal) := by simp [Ideal.ofBits, Ideal.ieee]; rw [← EReal.coe_mul]; norm_num
  have e1 : Ideal.ofBits FTy.f32 0x3C800000#32 = (((64 : ℝ)⁻¹ : ℝ) : EReal) := by simp [Ideal.ofBits, Ideal.ieee]; rw [← EReal.coe_mul]; norm_num
  rw [e0, e1, EReal.coe_inv]
  exact if_neg (by norm_num)

/-- The three parts of a number below `⊤`, each under the mask, sum to the number under the mask. -/
theorem parts (c : Prop) [Decidable c] {y : EReal} (h : y ≠ ⊤) :
    y * (if c then (1 : EReal) else 0) + (y - y) * (if c then (1 : EReal) else 0) + (y - y - (y - y)) * (if c then (1 : EReal) else 0) = if c then y else 0 := by
  rw [mul_comm y, mul_comm (y - y), mul_comm (y - y - (y - y)), Arith.split_mask, Arith.split_eq h]

/-- Kernel's and reference's normalised entry, where the head's squares are finite. -/
theorem normed (M : Vec Ideal S512x512 .bf16) (x : Vec Ideal S32x512 .f32) (g : Vec Ideal S1x512 .f32) (a : Fin 32) (b : Fin 512)
    (hM : ∀ k, M (ix2 k b) = if k.val / 64 = b.val / 64 then (1 : EReal) else 0) (hx : ∀ k, x (ix2 a k) * x (ix2 a k) ≠ (⊤ : EReal)) :
    k0_pay3 M x g (ix2 a b) = x (ix2 a b) * Ideal.rsqrt (Ideal.div (∑ k : Fin 64, x (ix2 a (⟨b.val / 64 * 64 + k.val, by omega⟩ : Fin 512)) * x (ix2 a (⟨b.val / 64 * 64 + k.val, by omega⟩ : Fin 512))) (Ideal.ofBits FTy.f32 0x42800000#32) + Ideal.ofBits FTy.f32 0x358637BD#32) * g (ix2 (0 : Fin 1) b) := by
  rw [pay3_apply, div_64, ← Finset.sum_add_distrib, ← Finset.sum_add_distrib, ← sum_head (fun k => x (ix2 a k) * x (ix2 a k)) (b.val / 64) (by omega)]
  congr 5
  refine Finset.sum_congr rfl fun k _ => ?_
  rw [hM k]
  exact parts _ (hx k)

open Cert.Reference6Ideal.Read in
theorem ref_q (z : Vec Ideal S16416x5632 .f32) (g : Vec Ideal S64 .f32) (a : Fin 32) (b : Fin 512) :
    val_main_v16 (F := Ideal) z g (ix2 a b) = z (ix2 (⟨16384 + a.val, by omega⟩ : Fin 16416) (⟨2048 + b.val, by omega⟩ : Fin 5632)) * Ideal.rsqrt (Ideal.div (∑ k : Fin 64, z (ix2 (⟨16384 + a.val, by omega⟩ : Fin 16416) (⟨2048 + (b.val / 64 * 64 + k.val), by omega⟩ : Fin 5632)) * z (ix2 (⟨16384 + a.val, by omega⟩ : Fin 16416) (⟨2048 + (b.val / 64 * 64 + k.val), by omega⟩ : Fin 5632))) (Ideal.ofBits FTy.f32 0x42800000#32) + Ideal.ofBits FTy.f32 0x358637BD#32) * g (ix1 (⟨b.val % 64, by omega⟩ : Fin 64)) := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

open Cert.Reference6Ideal.Read in
theorem ref_k (z : Vec Ideal S16416x5632 .f32) (g : Vec Ideal S64 .f32) (a : Fin 32) (b : Fin 512) :
    val_main_v32 (F := Ideal) z g (ix2 a b) = z (ix2 (⟨16384 + a.val, by omega⟩ : Fin 16416) (⟨2560 + b.val, by omega⟩ : Fin 5632)) * Ideal.rsqrt (Ideal.div (∑ k : Fin 64, z (ix2 (⟨16384 + a.val, by omega⟩ : Fin 16416) (⟨2560 + (b.val / 64 * 64 + k.val), by omega⟩ : Fin 5632)) * z (ix2 (⟨16384 + a.val, by omega⟩ : Fin 16416) (⟨2560 + (b.val / 64 * 64 + k.val), by omega⟩ : Fin 5632))) (Ideal.ofBits FTy.f32 0x42800000#32) + Ideal.ofBits FTy.f32 0x358637BD#32) * g (ix1 (⟨b.val % 64, by omega⟩ : Fin 64)) := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v0, val_main_cst_2, val_main_cst_3, val_main_cst_4]

open Cert.Reference6Ideal.Read in
theorem ref_v (z : Vec Ideal S16416x5632 .f32) (a : Fin 32) (b : Fin 512) :
    val_main_v33 (F := Ideal) z (ix2 a b) = z (ix2 (⟨16384 + a.val, by omega⟩ : Fin 16416) (⟨3072 + b.val, by omega⟩ : Fin 5632)) := by
  pointwise [val_main_v33, val_main_v0]

theorem final_6 (c : Dev nD) (hp : Cert.Pre_finite.fn (F := Ideal) (Z m c) (Gq m c) (Gk m c) = fun _ => 1#1) : (dats m 0 c).arrAt 6 cfg0.N = Cert.Reference6Ideal.Read.val_main_v16 (F := Ideal) (Z m c) (Gq m c) := by
  refine (dats m 0 c).arrAt_eq_of_cover 6 _ (fun t hf => ?_) (fun (j : S32x512.Idx) => ?_)
  · obtain ⟨e0, e1⟩ := (idxs t).2.2.2
    refine funext fun (y : S32x512.Idx) => ?_
    obtain ⟨a, b, rfl⟩ : ∃ (a : Fin 32) (b : Fin 512), y = ix2 a b := ⟨y 0, y 1, by funext d; match d with | ⟨0, _⟩ => rfl | ⟨1, _⟩ => rfl⟩
    have he : ((cfg0.win 6).blk t).view.emb (ix2 a b) = (ix2 a b : S32x512.Idx) := funext fun d => Fin.ext (by
      match d with
      | ⟨0, _⟩ => show win0_6.index t (0 : Fin 2) * 32 + 1 * a.val = a.val; omega
      | ⟨1, _⟩ => show win0_6.index t (1 : Fin 2) * 512 + 1 * b.val = b.val; omega)
    refine (congrFun ((after0_6 m c t).trans (out_6 _ _ _ _ _ _)) (ix2 a b)).trans (Eq.trans ?_ (congrArg (Cert.Reference6Ideal.Read.val_main_v16 (F := Ideal) (Z m c) (Gq m c)) he.symm))
    refine (normed _ _ _ a b (fun k => iblk5 m c t k b) (fun k => ?_)).trans ?_
    · rw [iblk0 m c t a k]; exact Cert.Pre_finite.ne_top hp _ (by dsimp only; omega) _ (by dsimp only; omega) (by dsimp only; omega)
    · rw [ref_q (Z m c), iblk3 m c t b]
      simp only [iblk0 m c t a]
  · obtain ⟨e0, e1⟩ := (idxs t0_0).2.2.2
    have hj0 : (j 0).val < 32 := (j 0).isLt
    have hj1 : (j 1).val < 512 := (j 1).isLt
    refine ⟨t0_0, by decide +kernel, ?_⟩
    show j ∈ ((View.whole main_v17_0).slice ((cfg0.win 6).rect t0_0)).set
    rw [View.set_slice_whole, Rect.mem_set_unit]
    intro a
    match a with
    | ⟨0, _⟩ => show win0_6.index t0_0 (0 : Fin 2) * 32 ≤ (j 0).val ∧ (j 0).val < win0_6.index t0_0 (0 : Fin 2) * 32 + 32; omega
    | ⟨1, _⟩ => show win0_6.index t0_0 (1 : Fin 2) * 512 ≤ (j 1).val ∧ (j 1).val < win0_6.index t0_0 (1 : Fin 2) * 512 + 512; omega

theorem final_7 (c : Dev nD) (hp : Cert.Pre_finite.fn (F := Ideal) (Z m c) (Gq m c) (Gk m c) = fun _ => 1#1) : (dats m 0 c).arrAt 7 cfg0.N = Cert.Reference6Ideal.Read.val_main_v32 (F := Ideal) (Z m c) (Gk m c) := by
  refine (dats m 0 c).arrAt_eq_of_cover 7 _ (fun t hf => ?_) (fun (j : S32x512.Idx) => ?_)
  · obtain ⟨e0, e1⟩ := (idxs t).2.2.2
    refine funext fun (y : S32x512.Idx) => ?_
    obtain ⟨a, b, rfl⟩ : ∃ (a : Fin 32) (b : Fin 512), y = ix2 a b := ⟨y 0, y 1, by funext d; match d with | ⟨0, _⟩ => rfl | ⟨1, _⟩ => rfl⟩
    have he : ((cfg0.win 7).blk t).view.emb (ix2 a b) = (ix2 a b : S32x512.Idx) := funext fun d => Fin.ext (by
      match d with
      | ⟨0, _⟩ => show win0_6.index t (0 : Fin 2) * 32 + 1 * a.val = a.val; omega
      | ⟨1, _⟩ => show win0_6.index t (1 : Fin 2) * 512 + 1 * b.val = b.val; omega)
    refine (congrFun ((after0_7 m c t).trans (out_7 _ _ _ _ _ _)) (ix2 a b)).trans (Eq.trans ?_ (congrArg (Cert.Reference6Ideal.Read.val_main_v32 (F := Ideal) (Z m c) (Gk m c)) he.symm))
    rw [pay1_eq]
    refine (normed _ _ _ a b (fun k => iblk5 m c t k b) (fun k => ?_)).trans ?_
    · rw [iblk1 m c t a k]; exact Cert.Pre_finite.ne_top hp _ (by dsimp only; omega) _ (by dsimp only; omega) (by dsimp only; omega)
    · rw [ref_k (Z m c), iblk4 m c t b]
      simp only [iblk1 m c t a]
  · obtain ⟨e0, e1⟩ := (idxs t0_0).2.2.2
    have hj0 : (j 0).val < 32 := (j 0).isLt
    have hj1 : (j 1).val < 512 := (j 1).isLt
    refine ⟨t0_0, by decide +kernel, ?_⟩
    show j ∈ ((View.whole main_v17_1).slice ((cfg0.win 7).rect t0_0)).set
    rw [View.set_slice_whole, Rect.mem_set_unit]
    intro a
    match a with
    | ⟨0, _⟩ => show win0_6.index t0_0 (0 : Fin 2) * 32 ≤ (j 0).val ∧ (j 0).val < win0_6.index t0_0 (0 : Fin 2) * 32 + 32; omega
    | ⟨1, _⟩ => show win0_6.index t0_0 (1 : Fin 2) * 512 ≤ (j 1).val ∧ (j 1).val < win0_6.index t0_0 (1 : Fin 2) * 512 + 512; omega

theorem final_8 (c : Dev nD) : (dats m 0 c).arrAt 8 cfg0.N = Cert.Reference6Ideal.Read.val_main_v33 (F := Ideal) (Z m c) := by
  refine (dats m 0 c).arrAt_eq_of_cover 8 _ (fun t hf => ?_) (fun (j : S32x512.Idx) => ?_)
  · obtain ⟨e0, e1⟩ := (idxs t).2.2.2
    refine funext fun (y : S32x512.Idx) => ?_
    obtain ⟨a, b, rfl⟩ : ∃ (a : Fin 32) (b : Fin 512), y = ix2 a b := ⟨y 0, y 1, by funext d; match d with | ⟨0, _⟩ => rfl | ⟨1, _⟩ => rfl⟩
    have he : ((cfg0.win 8).blk t).view.emb (ix2 a b) = (ix2 a b : S32x512.Idx) := funext fun d => Fin.ext (by
      match d with
      | ⟨0, _⟩ => show win0_6.index t (0 : Fin 2) * 32 + 1 * a.val = a.val; omega
      | ⟨1, _⟩ => show win0_6.index t (1 : Fin 2) * 512 + 1 * b.val = b.val; omega)
    refine (congrFun ((after0_8 m c t).trans (out_8 _ _ _ _ _ _)) (ix2 a b)).trans (Eq.trans ?_ (congrArg (Cert.Reference6Ideal.Read.val_main_v33 (F := Ideal) (Z m c)) he.symm))
    exact (iblk2 m c t a b).trans (ref_v (Z m c) a b).symm
  · obtain ⟨e0, e1⟩ := (idxs t0_0).2.2.2
    have hj0 : (j 0).val < 32 := (j 0).isLt
    have hj1 : (j 1).val < 512 := (j 1).isLt
    refine ⟨t0_0, by decide +kernel, ?_⟩
    show j ∈ ((View.whole main_v17_2).slice ((cfg0.win 8).rect t0_0)).set
    rw [View.set_slice_whole, Rect.mem_set_unit]
    intro a
    match a with
    | ⟨0, _⟩ => show win0_6.index t0_0 (0 : Fin 2) * 32 ≤ (j 0).val ∧ (j 0).val < win0_6.index t0_0 (0 : Fin 2) * 32 + 32; omega
    | ⟨1, _⟩ => show win0_6.index t0_0 (1 : Fin 2) * 512 ≤ (j 1).val ∧ (j 1).val < win0_6.index t0_0 (1 : Fin 2) * 512 + 512; omega

end Cert.Kernel6Ideal.Norms

end
-- ==== Proof.lean ====
/- The claims: for the recurrence, the projection, the dense channel mixer, the merge of the branches,
   the experts and the query and key norms of the sample, the frames and the equality with the plain reference. -/
module

public import proofs.«01_k».proof.Defs
public import proofs.«01_k».proof.Proof.Gen.Kernel
public import proofs.«01_k».proof.Proof.Gen.Kernel2
public import proofs.«01_k».proof.Proof.Gen.Kernel3
public import proofs.«01_k».proof.Proof.Gen.Kernel4
public import proofs.«01_k».proof.Proof.Gen.Kernel5
public import proofs.«01_k».proof.Proof.Gen.Kernel6
public import proofs.«01_k».proof.Proof.Gen.KernelIdeal.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference6Ideal.Run
public import proofs.«01_k».proof.Proof.Gen.Reference4Ideal.Run
public import proofs.«01_k».proof.Proof.Proj
public import proofs.«01_k».proof.Proof.Ffn
public import proofs.«01_k».proof.Proof.Merge
public import proofs.«01_k».proof.Proof.Hgrn
public import proofs.«01_k».proof.Proof.Experts
public import proofs.«01_k».proof.Proof.Norms
public import proofs.«01_k».proof.Proof.Gen.Reference5Ideal.Run
public import Idealize.ShloMosaic.Adequacy
public import Idealize.ShloMosaic.Init

@[expose] public section

noncomputable section

namespace Cert.Proof

open Idealize.ShloMosaic Idealize.SL.Sem

/-- A program and its idealization have the same text, so the frame over any float values serves both. -/
theorem table1 : Cert.Kernel.defs₀ (F := Bits) = Cert.KernelIdeal.defs₀ (F := Bits) := by
  unfold Cert.Kernel.defs₀ Cert.KernelIdeal.defs₀
  refine congrArg _ (funext fun l => funext fun x => ?_)
  match l, x with
  | ⟨0, _⟩, (t, s) => rfl
  | ⟨_ + 1, h⟩, _ => exact absurd h (Nat.not_lt.2 (Nat.le_add_left _ _))

set_option maxHeartbeats 4000000 in
theorem frame_kernel : Cert.quiescent_Kernel := fun m ρ _ => by
  rw [show Cert.Kernel.defs (F := Bits) = Cert.KernelIdeal.defs (F := Bits) from congrArg (Pipeline.defs Cert.Kernel.pcfgs) table1, show Cert.Kernel.main (F := Bits) = Cert.KernelIdeal.main (F := Bits) from rfl]
  exact Cert.KernelIdeal.Gen.frame (F := Bits) m ρ

theorem frame_kernelIdeal : Cert.quiescent_KernelIdeal := fun m ρ _ => Cert.KernelIdeal.Gen.frame m ρ

theorem frame_referenceIdeal : Cert.quiescent_ReferenceIdeal := fun m ρ _ =>
  (θ_run Cert.ReferenceIdeal.defs _ _).mono (fun r h => ⟨fun c => ⟨(h c).2.2.1, (h c).2.2.2.1, (h c).2.2.2.2⟩,
    sem_eq_zero_of_no_sems (by decide) r.2⟩) (Cert.ReferenceIdeal.Value.run (F := Ideal) m ρ)

theorem algebraic1 : Cert.algebraic_KernelIdeal_ReferenceIdeal := fun m g m' g' _ hagree =>
  ⟨fun c => Cert.KernelIdeal.Value.G7 m c, fun c => Cert.KernelIdeal.Value.G8 m c, Cert.KernelIdeal.Value.run m g,
    (θ_run Cert.ReferenceIdeal.defs _ _).mono (fun r h c => ⟨((h c).1.trans (Cert.ReferenceIdeal.Loop.out m' c)).trans (by
        obtain ⟨e0, e1, e2⟩ := hagree c
        rw [e0, e1, e2]
        exact Cert.Hgrn.out_eq m c),
      ((h c).2.1.trans (Cert.ReferenceIdeal.Loop.after m' c 512).h6).trans (by
        obtain ⟨e0, e1, e2⟩ := hagree c
        rw [e0, e1]
        exact Cert.Hgrn.state_eq m c),
      (h c).2.2⟩)
      (Cert.ReferenceIdeal.Value.run (F := Ideal) m' g')⟩

theorem table2 : Cert.Kernel2.defs₀ (F := Bits) = Cert.Kernel2Ideal.defs₀ (F := Bits) := by
  unfold Cert.Kernel2.defs₀ Cert.Kernel2Ideal.defs₀
  refine congrArg _ (funext fun l => funext fun x => ?_)
  match l, x with
  | ⟨0, _⟩, (t, s) => rfl
  | ⟨_ + 1, h⟩, _ => exact absurd h (Nat.not_lt.2 (Nat.le_add_left _ _))

theorem frame_kernel2 : Cert.quiescent_Kernel2 := fun m ρ _ => by
  rw [show Cert.Kernel2.defs (F := Bits) = Cert.Kernel2Ideal.defs (F := Bits) from congrArg (Pipeline.defs Cert.Kernel2.pcfgs) table2]
  exact Cert.Kernel2Ideal.Gen.frame (F := Bits) m ρ

theorem frame_kernel2Ideal : Cert.quiescent_Kernel2Ideal := fun m ρ _ => Cert.Kernel2Ideal.Gen.frame m ρ

theorem frame_reference2Ideal : Cert.quiescent_Reference2Ideal := fun m ρ _ =>
  (θ_run Cert.Reference2Ideal.defs _ _).mono (fun r h => ⟨fun c => ⟨(h c).2.1, (h c).2.2.1, (h c).2.2.2⟩,
    sem_eq_zero_of_no_sems (by decide) r.2⟩) (Cert.Reference2Ideal.Value.run (F := Ideal) m ρ)

theorem algebraic2 : Cert.algebraic_Kernel2Ideal_Reference2Ideal := fun m g m' g' _ hagree =>
  ⟨fun c => Cert.Kernel2Ideal.Value.G3 m c, Cert.Kernel2Ideal.Value.run m g,
    (θ_run Cert.Reference2Ideal.defs _ _).mono (fun r h c => ⟨((h c).1.trans (Cert.Reference2Ideal.Read.val_main_v13_eq (F := Ideal) _ _ _)).trans (by
        obtain ⟨e0, e1, e2⟩ := hagree c
        rw [e0, e1, e2]
        exact (Cert.Kernel2Ideal.Proj.final m c).symm), (h c).2⟩)
      (Cert.Reference2Ideal.Value.run (F := Ideal) m' g')⟩

theorem table3 : Cert.Kernel3.defs₀ (F := Bits) = Cert.Kernel3Ideal.defs₀ (F := Bits) := by
  unfold Cert.Kernel3.defs₀ Cert.Kernel3Ideal.defs₀
  refine congrArg _ (funext fun l => funext fun x => ?_)
  match l, x with
  | ⟨0, _⟩, (t, s) => rfl
  | ⟨_ + 1, h⟩, _ => exact absurd h (Nat.not_lt.2 (Nat.le_add_left _ _))

theorem frame_kernel3 : Cert.quiescent_Kernel3 := fun m ρ _ => by
  rw [show Cert.Kernel3.defs (F := Bits) = Cert.Kernel3Ideal.defs (F := Bits) from congrArg (Pipeline.defs Cert.Kernel3.pcfgs) table3]
  exact Cert.Kernel3Ideal.Gen.frame (F := Bits) m ρ

theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono (fun r h => ⟨fun c => ⟨(h c).2.1, (h c).2.2.1, (h c).2.2.2.1, (h c).2.2.2.2.1, (h c).2.2.2.2.2⟩,
    sem_eq_zero_of_no_sems (by decide) r.2⟩) (Cert.Reference3Ideal.Value.run (F := Ideal) m ρ)

theorem algebraic3 : Cert.algebraic_Kernel3Ideal_Reference3Ideal := fun m g m' g' _ hagree =>
  ⟨fun c => Cert.Kernel3Ideal.Value.G5 m c, Cert.Kernel3Ideal.Value.run m g,
    (θ_run Cert.Reference3Ideal.defs _ _).mono (fun r h c => ⟨((h c).1.trans (Cert.Reference3Ideal.Read.val_main_v18_eq (F := Ideal) _ _ _ _ _)).trans (by
        obtain ⟨e0, e1, e2, e3, e4⟩ := hagree c
        rw [e0, e1, e2, e3, e4]
        exact (Cert.Kernel3Ideal.Ffn.final m c).symm), (h c).2⟩)
      (Cert.Reference3Ideal.Value.run (F := Ideal) m' g')⟩

theorem table4 : Cert.Kernel4.defs₀ (F := Bits) = Cert.Kernel4Ideal.defs₀ (F := Bits) := by
  unfold Cert.Kernel4.defs₀ Cert.Kernel4Ideal.defs₀
  refine congrArg _ (funext fun l => funext fun x => ?_)
  match l, x with
  | ⟨0, _⟩, (t, s) => rfl
  | ⟨_ + 1, h⟩, _ => exact absurd h (Nat.not_lt.2 (Nat.le_add_left _ _))

theorem frame_kernel4 : Cert.quiescent_Kernel4 := fun m ρ _ => by
  rw [show Cert.Kernel4.defs (F := Bits) = Cert.Kernel4Ideal.defs (F := Bits) from congrArg (Pipeline.defs Cert.Kernel4.pcfgs) table4]
  exact Cert.Kernel4Ideal.Gen.frame (F := Bits) m ρ

theorem frame_kernel4Ideal : Cert.quiescent_Kernel4Ideal := fun m ρ _ => Cert.Kernel4Ideal.Gen.frame m ρ

theorem frame_reference4Ideal : Cert.quiescent_Reference4Ideal := fun m ρ _ =>
  (θ_run Cert.Reference4Ideal.defs _ _).mono (fun r h => ⟨fun c => ⟨(h c).2.1, (h c).2.2.1, (h c).2.2.2.1, (h c).2.2.2.2.1, (h c).2.2.2.2.2.1, (h c).2.2.2.2.2.2.1, (h c).2.2.2.2.2.2.2⟩,
    sem_eq_zero_of_no_sems (by decide) r.2⟩) (Cert.Reference4Ideal.Value.run (F := Ideal) m ρ)

theorem algebraic4 : Cert.algebraic_Kernel4Ideal_Reference4Ideal := fun m g m' g' _ hagree =>
  ⟨fun c => (Cert.Kernel4Ideal.Gen.dats m 0 c).arrAt 10 Cert.Kernel4Ideal.cfg0.N, Cert.Kernel4Ideal.Value.run_blocks m g,
    (θ_run Cert.Reference4Ideal.defs _ _).mono (fun r h c => ⟨((h c).1.trans (Cert.Reference4Ideal.Read.val_main_v25_eq (F := Ideal) _ _ _ _ _ _ _)).trans (by
        obtain ⟨e0, e1, e2, e3, e4, e5, e6⟩ := hagree c
        rw [e0, e1, e2, e3, e4, e5, e6]
        exact (Cert.Kernel4Ideal.Merge.final m c).symm), (h c).2⟩)
      (Cert.Reference4Ideal.Value.run (F := Ideal) m' g')⟩

theorem table5 : Cert.Kernel5.defs₀ (F := Bits) = Cert.Kernel5Ideal.defs₀ (F := Bits) := by
  unfold Cert.Kernel5.defs₀ Cert.Kernel5Ideal.defs₀
  refine congrArg _ (funext fun l => funext fun x => ?_)
  match l, x with
  | ⟨0, _⟩, (t, s) => rfl
  | ⟨_ + 1, h⟩, _ => exact absurd h (Nat.not_lt.2 (Nat.le_add_left _ _))

theorem ok5 (m : (ℓ : Loc Cert.Kernel5.nD Cert.Kernel5.τ Cert.Kernel5.sig) → Buf (Elt Bits) ℓ) (h : Cert.Pre_Kernel5 m) : Cert.Kernel5Ideal.Gen.Ok (F := Bits) m :=
  Cert.Kernel5Ideal.Table.ok m fun x => by rw [Cert.Kernel5Ideal.Table.tbl0]; exact Cert.Pre_experts_in_range.lt (h 0) x

theorem ok5Ideal (m : (ℓ : Loc Cert.Kernel5Ideal.nD Cert.Kernel5Ideal.τ Cert.Kernel5Ideal.sig) → Buf (Elt Ideal) ℓ) (h : Cert.Pre_Kernel5Ideal m) : Cert.Kernel5Ideal.Gen.Ok (F := Ideal) m :=
  Cert.Kernel5Ideal.Table.ok m fun x => by rw [Cert.Kernel5Ideal.Table.tbl0]; exact Cert.Pre_experts_in_range.lt (h 0) x

theorem pcfg5 : @Cert.Kernel5.pcfg0 Bits _ _ = @Cert.Kernel5Ideal.pcfg0 Bits _ _ := by rfl

theorem main5 : Cert.Kernel5.main (F := Bits) = Cert.Kernel5Ideal.main (F := Bits) := by rfl

theorem defs5 : Cert.Kernel5.defs (F := Bits) = Cert.Kernel5Ideal.defs (F := Bits) :=
  congrArg (Pipeline.defs Cert.Kernel5.pcfgs) table5

theorem frame_kernel5 : Cert.quiescent_Kernel5 := fun m ρ h => by
  have hf := Cert.Kernel5Ideal.Gen.frame (F := Bits) m ρ (ok5 m h)
  rw [← defs5, ← main5] at hf
  exact hf

theorem frame_kernel5Ideal : Cert.quiescent_Kernel5Ideal := fun m ρ h => Cert.Kernel5Ideal.Gen.frame m ρ (ok5Ideal m h)

theorem frame_reference5Ideal : Cert.quiescent_Reference5Ideal := fun m ρ _ =>
  (θ_run Cert.Reference5Ideal.defs _ _).mono (fun r h => ⟨fun c => ⟨(h c).2.1, (h c).2.2.1, (h c).2.2.2.1, (h c).2.2.2.2.1, (h c).2.2.2.2.2.1, (h c).2.2.2.2.2.2⟩,
    sem_eq_zero_of_no_sems (by decide) r.2⟩) (Cert.Reference5Ideal.Value.run (F := Ideal) m ρ)

theorem frame_reference5Ideal_pre : Cert.quiescent_Reference5Ideal_pre_experts_in_range := fun m ρ _ =>
  (θ_run Cert.Reference5Ideal.defs _ _).mono (fun r h => ⟨fun c => ⟨(h c).2.1, (h c).2.2.1, (h c).2.2.2.1, (h c).2.2.2.2.1, (h c).2.2.2.2.2.1, (h c).2.2.2.2.2.2⟩,
    sem_eq_zero_of_no_sems (by decide) r.2⟩) (Cert.Reference5Ideal.Value.run (F := Ideal) m ρ)

theorem algebraic5 : Cert.algebraic_Kernel5Ideal_Reference5Ideal := fun m g m' g' h hagree =>
  ⟨fun c => (Cert.Kernel5Ideal.Gen.dats m (ok5Ideal m h) 0 c).arrAt 4 (Cert.Kernel5Ideal.Gen.cfgM m (ok5Ideal m h)).N, Cert.Kernel5Ideal.Experts.run m (ok5Ideal m h) g,
    (θ_run Cert.Reference5Ideal.defs _ _).mono (fun r hr c => ⟨((hr c).1.trans (Cert.Reference5Ideal.Read.val_main_v134_eq (F := Ideal) _)).trans (by
        obtain ⟨e0, e1, e2, e3, e4, e5⟩ := hagree c
        rw [Subsingleton.elim c 0] at *
        refine Eq.trans ?_ (Cert.Kernel5Ideal.Experts.final m (ok5Ideal m h) 0 fun x => by rw [Cert.Kernel5Ideal.Table.tbl0]; exact Cert.Pre_experts_in_range.lt (h 0) x).symm
        show Cert.Reference5Ideal.Read.val_main_v134 (F := Ideal) (m' (((0 : Dev Cert.Reference5Ideal.nD).tc : Thread Cert.Reference5Ideal.nD Cert.Reference5Ideal.τ).loc Cert.Reference5Ideal.main_arg0)) (m' (((0 : Dev Cert.Reference5Ideal.nD).tc : Thread Cert.Reference5Ideal.nD Cert.Reference5Ideal.τ).loc Cert.Reference5Ideal.main_arg1)) (m' (((0 : Dev Cert.Reference5Ideal.nD).tc : Thread Cert.Reference5Ideal.nD Cert.Reference5Ideal.τ).loc Cert.Reference5Ideal.main_arg2)) (m' (((0 : Dev Cert.Reference5Ideal.nD).tc : Thread Cert.Reference5Ideal.nD Cert.Reference5Ideal.τ).loc Cert.Reference5Ideal.main_arg3)) (m' (((0 : Dev Cert.Reference5Ideal.nD).tc : Thread Cert.Reference5Ideal.nD Cert.Reference5Ideal.τ).loc Cert.Reference5Ideal.main_arg4)) (m' (((0 : Dev Cert.Reference5Ideal.nD).tc : Thread Cert.Reference5Ideal.nD Cert.Reference5Ideal.τ).loc Cert.Reference5Ideal.main_arg5)) = _
        rw [e0, e1, e2, e3, e4, e5]
        exact congrArg₂ (fun be bu => Cert.Reference5Ideal.Read.val_main_v134 (F := Ideal) be bu (Cert.Kernel5Ideal.Experts.X m 0) (Cert.Kernel5Ideal.Experts.Wg m 0) (Cert.Kernel5Ideal.Experts.Wu m 0) (Cert.Kernel5Ideal.Experts.Wd m 0)) (Cert.Kernel5Ideal.Table.tbl0 m).symm (Cert.Kernel5Ideal.Table.tbl1 m).symm), (hr c).2⟩)
      (Cert.Reference5Ideal.Value.run (F := Ideal) m' g')⟩

theorem table6 : Cert.Kernel6.defs₀ (F := Bits) = Cert.Kernel6Ideal.defs₀ (F := Bits) := by
  unfold Cert.Kernel6.defs₀ Cert.Kernel6Ideal.defs₀
  refine congrArg _ (funext fun l => funext fun x => ?_)
  match l, x with
  | ⟨0, _⟩, (t, s) => rfl
  | ⟨_ + 1, h⟩, _ => exact absurd h (Nat.not_lt.2 (Nat.le_add_left _ _))

theorem frame_kernel6 : Cert.quiescent_Kernel6 := fun m ρ _ => by
  rw [show Cert.Kernel6.defs (F := Bits) = Cert.Kernel6Ideal.defs (F := Bits) from congrArg (Pipeline.defs Cert.Kernel6.pcfgs) table6]
  exact Cert.Kernel6Ideal.Gen.frame (F := Bits) m ρ

theorem frame_kernel6Ideal : Cert.quiescent_Kernel6Ideal := fun m ρ _ => Cert.Kernel6Ideal.Gen.frame m ρ

theorem frame_kernel6Ideal_pre : Cert.quiescent_Kernel6Ideal_pre_finite := fun m ρ _ => Cert.Kernel6Ideal.Gen.frame m ρ

theorem frame_reference6Ideal : Cert.quiescent_Reference6Ideal := fun m ρ _ =>
  (θ_run Cert.Reference6Ideal.defs _ _).mono (fun r h => ⟨fun c => (h c).2.2.2,
    sem_eq_zero_of_no_sems (by decide) r.2⟩) (Cert.Reference6Ideal.Value.run (F := Ideal) m ρ)

theorem frame_reference6Ideal_pre : Cert.quiescent_Reference6Ideal_pre_finite := fun m ρ _ => frame_reference6Ideal m ρ trivial

theorem algebraic6 : Cert.algebraic_Kernel6Ideal_Reference6Ideal_pre_finite := fun m g m' g' h hagree =>
  ⟨fun c => (Cert.Kernel6Ideal.Gen.dats m 0 c).arrAt 6 Cert.Kernel6Ideal.cfg0.N, fun c => (Cert.Kernel6Ideal.Gen.dats m 0 c).arrAt 7 Cert.Kernel6Ideal.cfg0.N, fun c => (Cert.Kernel6Ideal.Gen.dats m 0 c).arrAt 8 Cert.Kernel6Ideal.cfg0.N,
    Cert.Kernel6Ideal.Value.run_blocks m g,
    (θ_run Cert.Reference6Ideal.defs _ _).mono (fun r hr c => by
        obtain ⟨e0, e1, e2⟩ := hagree c
        refine ⟨((hr c).1.trans (Cert.Reference6Ideal.Read.val_main_v16_eq (F := Ideal) _ _)).trans ?_,
          ((hr c).2.1.trans (Cert.Reference6Ideal.Read.val_main_v32_eq (F := Ideal) _ _)).trans ?_,
          ((hr c).2.2.1.trans (Cert.Reference6Ideal.Read.val_main_v33_eq (F := Ideal) _)).trans ?_, (hr c).2.2.2⟩
        · rw [e0, e1]; exact (Cert.Kernel6Ideal.Norms.final_6 m c (h c)).symm
        · rw [e0, e2]; exact (Cert.Kernel6Ideal.Norms.final_7 m c (h c)).symm
        · rw [e0]; exact (Cert.Kernel6Ideal.Norms.final_8 m c).symm)
      (Cert.Reference6Ideal.Value.run (F := Ideal) m' g')⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_experts_in_range.facts, Cert.Pre_finite.facts,
  frame_kernel, frame_kernelIdeal, frame_referenceIdeal,
  frame_kernel2, frame_kernel2Ideal, frame_reference2Ideal,
  frame_kernel3, frame_kernel3Ideal, frame_reference3Ideal,
  frame_kernel4, frame_kernel4Ideal, frame_reference4Ideal,
  frame_kernel5, frame_kernel5Ideal, frame_reference5Ideal, frame_reference5Ideal_pre,
  frame_kernel6, frame_kernel6Ideal, frame_kernel6Ideal_pre, frame_reference6Ideal, frame_reference6Ideal_pre,
  trivial, algebraic1, trivial, algebraic2, trivial, algebraic3, trivial, algebraic4, trivial, algebraic5, trivial, algebraic6⟩

end Cert.Proof

end
